-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S4096x2048 : Shape := ⟨2, ![4096, 2048]⟩
abbrev S3x4096x512 : Shape := ⟨3, ![3, 4096, 512]⟩
abbrev S3x512x2048 : Shape := ⟨3, ![3, 512, 2048]⟩
abbrev S3x2 : Shape := ⟨2, ![3, 2]⟩
abbrev S_ : Shape := ⟨0, ![]⟩
abbrev S1x4096x256 : Shape := ⟨3, ![1, 4096, 256]⟩
abbrev S1x256x2048 : Shape := ⟨3, ![1, 256, 2048]⟩
abbrev S1x1 : Shape := ⟨2, ![1, 1]⟩
abbrev S1x2048x256 : Shape := ⟨3, ![1, 2048, 256]⟩
abbrev S2048x256 : Shape := ⟨2, ![2048, 256]⟩
abbrev S1x128x2048 : Shape := ⟨3, ![1, 128, 2048]⟩
abbrev S128x2048 : Shape := ⟨2, ![128, 2048]⟩
abbrev S1x4096x512 : Shape := ⟨3, ![1, 4096, 512]⟩
abbrev S4096x512 : Shape := ⟨2, ![4096, 512]⟩
abbrev S1x512x2048 : Shape := ⟨3, ![1, 512, 2048]⟩
abbrev S512x2048 : Shape := ⟨2, ![512, 2048]⟩

abbrev nBuf : Space → Nat
  | .hbm => 5
  | .vmem => 5
  | .smem => 2
  | _ => 0

abbrev bufTy : (tb : Table) → Fin (tcTables nBuf tb) → BufTy
  | .hbm, ⟨0, _⟩ => ⟨S4096x256, .fp8e4m3⟩
  | .hbm, ⟨1, _⟩ => ⟨S256x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x256, .fp8e4m3⟩
  | .local _ .vmem, ⟨1, _⟩ => ⟨S256x2048, .fp8e5m2⟩
  | .local _ .vmem, ⟨2, _⟩ => ⟨S4096x2048, .f32⟩
  | .local _ .vmem, ⟨3, _⟩ => ⟨S3x4096x512, .fp8e4m3⟩
  | .local _ .vmem, ⟨4, _⟩ => ⟨S3x512x2048, .fp8e5m2⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 1 53 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_41 : BitVec 32 := 14#32
  let v57 : BitVec 1 := Scalar.cmpi .eq v2 c14_i32_41
  let c13_i32_42 : BitVec 32 := 13#32
  let c13_i32_37 : BitVec 32 := 13#32
  let v53 : BitVec 1 := Scalar.cmpi .eq v2 c13_i32_37
  let c9_i32_38 : BitVec 32 := 9#32
  let c12_i32_33 : BitVec 32 := 12#32
  let v49 : BitVec 1 := Scalar.cmpi .eq v2 c12_i32_33
  let c15_i32_34 : BitVec 32 := 15#32
  let c11_i32_29 : BitVec 32 := 11#32
  let v45 : BitVec 1 := Scalar.cmpi .eq v2 c11_i32_29
  let c7_i32_30 : BitVec 32 := 7#32
  let c10_i32_27 : BitVec 32 := 10#32
  let v41 : BitVec 1 := Scalar.cmpi .eq v2 c10_i32_27
  let c14_i32 : BitVec 32 := 14#32
  let c9_i32_23 : BitVec 32 := 9#32
  let v37 : BitVec 1 := Scalar.cmpi .eq v2 c9_i32_23
  let c5_i32_24 : BitVec 32 := 5#32
  let c8_i32_21 : BitVec 32 := 8#32
  let v33 : BitVec 1 := Scalar.cmpi .eq v2 c8_i32_21
  let c12_i32 : BitVec 32 := 12#32
  let c7_i32_17 : BitVec 32 := 7#32
  let v29 : BitVec 1 := Scalar.cmpi .eq v2 c7_i32_17
  let c3_i32_18 : BitVec 32 := 3#32
  let c6_i32_15 : BitVec 32 := 6#32
  let v25 : BitVec 1 := Scalar.cmpi .eq v2 c6_i32_15
  let c10_i32 : BitVec 32 := 10#32
  let c5_i32_11 : BitVec 32 := 5#32
  let v21 : BitVec 1 := Scalar.cmpi .eq v2 c5_i32_11
  let c1_i32_12 : BitVec 32 := 1#32
  let c4_i32_9 : BitVec 32 := 4#32
  let v17 : BitVec 1 := Scalar.cmpi .eq v2 c4_i32_9
  let c8_i32 : BitVec 32 := 8#32
  let c3_i32_5 : BitVec 32 := 3#32
  let v13 : BitVec 1 := Scalar.cmpi .eq v2 c3_i32_5
  let c2_i32_6 : BitVec 32 := 2#32
  let c2_i32_3 : BitVec 32 := 2#32
  let v9 : BitVec 1 := Scalar.cmpi .eq v2 c2_i32_3
  let c6_i32 : BitVec 32 := 6#32
  let c1_i32_2 : BitVec 32 := 1#32
  let v5 : BitVec 1 := Scalar.cmpi .eq v2 c1_i32_2
  let c0_i32 : BitVec 32 := 0#32
  let c4_i32 : BitVec 32 := 4#32
  let v6 : BitVec 32 := Scalar.select v5 c0_i32 c4_i32
  let v10 : BitVec 32 := Scalar.select v9 c6_i32 v6
  let v14 : BitVec 32 := Scalar.select v13 c2_i32_6 v10
  let v18 : BitVec 32 := Scalar.select v17 c8_i32 v14
  let v22 : BitVec 32 := Scalar.select v21 c1_i32_12 v18
  let v26 : BitVec 32 := Scalar.select v25 c10_i32 v22
  let v30 : BitVec 32 := Scalar.select v29 c3_i32_18 v26
  let v34 : BitVec 32 := Scalar.select v33 c12_i32 v30
  let v38 : BitVec 32 := Scalar.select v37 c5_i32_24 v34
  let v42 : BitVec 32 := Scalar.select v41 c14_i32 v38
  let v46 : BitVec 32 := Scalar.select v45 c7_i32_30 v42
  let v50 : BitVec 32 := Scalar.select v49 c15_i32_34 v46
  let v54 : BitVec 32 := Scalar.select v53 c9_i32_38 v50
  let v58 : BitVec 32 := Scalar.select v57 c13_i32_42 v54
  let v62 : BitVec 32 := Scalar.select v61 c11_i32_46 v58
  let c1_i32_48 : BitVec 32 := 1#32
  let v64 : BitVec 32 := Scalar.muli v62 c1_i32_48
  let v65 : BitVec 32 := Scalar.addi c0_i32_49 v64
  v65.toNat
def k0_dev2 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_43 : BitVec 32 := 15#32
  let v59 : BitVec 1 := Scalar.cmpi .eq v2 c15_i32_43
  let c12_i32_44 : BitVec 32 := 12#32
  let c14_i32_39 : BitVec 32 := 14#32
  let v55 : BitVec 1 := Scalar.cmpi .eq v2 c14_i32_39
  let c10_i32_40 : BitVec 32 := 10#32
  let c13_i32_35 : BitVec 32 := 13#32
  let v51 : BitVec 1 := Scalar.cmpi .eq v2 c13_i32_35
  let c14_i32_36 : BitVec 32 := 14#32
  let c12_i32_31 : BitVec 32 := 12#32
  let v47 : BitVec 1 := Scalar.cmpi .eq v2 c12_i32_31
  let c8_i32_32 : BitVec 32 := 8#32
  let c11_i32_28 : BitVec 32 := 11#32
  let v43 : BitVec 1 := Scalar.cmpi .eq v2 c11_i32_28
  let c15_i32 : BitVec 32 := 15#32
  let c10_i32_25 : BitVec 32 := 10#32
  let v39 : BitVec 1 := Scalar.cmpi .eq v2 c10_i32_25
  let c6_i32_26 : BitVec 32 := 6#32
  let c9_i32_22 : BitVec 32 := 9#32
  let v35 : BitVec 1 := Scalar.cmpi .eq v2 c9_i32_22
  let c13_i32 : BitVec 32 := 13#32
  let c8_i32_19 : BitVec 32 := 8#32
  let v31 : BitVec 1 := Scalar.cmpi .eq v2 c8_i32_19
  let c4_i32_20 : BitVec 32 := 4#32
  let c7_i32_16 : BitVec 32 := 7#32
  let v27 : BitVec 1 := Scalar.cmpi .eq v2 c7_i32_16
  let c11_i32 : BitVec 32 := 11#32
  let c6_i32_13 : BitVec 32 := 6#32
  let v23 : BitVec 1 := Scalar.cmpi .eq v2 c6_i32_13
  let c2_i32_14 : BitVec 32 := 2#32
  let c5_i32_10 : BitVec 32 := 5#32
  let v19 : BitVec 1 := Scalar.cmpi .eq v2 c5_i32_10
  let c9_i32 : BitVec 32 := 9#32
  let c4_i32_7 : BitVec 32 := 4#32
  let v15 : BitVec 1 := Scalar.cmpi .eq v2 c4_i32_7
  let c0_i32_8 : BitVec 32 := 0#32
  let c3_i32_4 : BitVec 32 := 3#32
  let v11 : BitVec 1 := Scalar.cmpi .eq v2 c3_i32_4
  let c7_i32 : BitVec 32 := 7#32
  let c2_i32 : BitVec 32 := 2#32
  let v7 : BitVec 1 := Scalar.cmpi .eq v2 c2_i32
  let c3_i32 : BitVec 32 := 3#32
  let c1_i32_0 : BitVec 32 := 1#32
  let v3 : BitVec 1 := Scalar.cmpi .eq v2 c1_i32_0
  let c5_i32 : BitVec 32 := 5#32
  let c1_i32_1 : BitVec 32 := 1#32
  let v4 : BitVec 32 := Scalar.select v3 c5_i32 c1_i32_1
  let v8 : BitVec 32 := Scalar.select v7 c3_i32 v4
  let v12 : BitVec 32 := Scalar.select v11 c7_i32 v8
  let v16 : BitVec 32 := Scalar.select v15 c0_i32_8 v12
  let v20 : BitVec 32 := Scalar.select v19 c9_i32 v16
  let v24 : BitVec 32 := Scalar.select v23 c2_i32_14 v20
  let v28 : BitVec 32 := Scalar.select v27 c11_i32 v24
  let v32 : BitVec 32 := Scalar.select v31 c4_i32_20 v28
  let v36 : BitVec 32 := Scalar.select v35 c13_i32 v32
  let v40 : BitVec 32 := Scalar.select v39 c6_i32_26 v36
  let v44 : BitVec 32 := Scalar.select v43 c15_i32 v40
  let v48 : BitVec 32 := Scalar.select v47 c8_i32_32 v44
  let v52 : BitVec 32 := Scalar.select v51 c14_i32_36 v48
  let v56 : BitVec 32 := Scalar.select v55 c10_i32_40 v52
  let v60 : BitVec 32 := Scalar.select v59 c12_i32_44 v56
  let c1_i32_51 : BitVec 32 := 1#32
  let v66 : BitVec 32 := Scalar.muli v60 c1_i32_51
  let v67 : BitVec 32 := Scalar.addi c0_i32_52 v66
  v67.toNat
def k0_dev3 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_43 : BitVec 32 := 15#32
  let v59 : BitVec 1 := Scalar.cmpi .eq v2 c15_i32_43
  let c12_i32_44 : BitVec 32 := 12#32
  let c14_i32_39 : BitVec 32 := 14#32
  let v55 : BitVec 1 := Scalar.cmpi .eq v2 c14_i32_39
  let c10_i32_40 : BitVec 32 := 10#32
  let c13_i32_35 : BitVec 32 := 13#32
  let v51 : BitVec 1 := Scalar.cmpi .eq v2 c13_i32_35
  let c14_i32_36 : BitVec 32 := 14#32
  let c12_i32_31 : BitVec 32 := 12#32
  let v47 : BitVec 1 := Scalar.cmpi .eq v2 c12_i32_31
  let c8_i32_32 : BitVec 32 := 8#32
  let c11_i32_28 : BitVec 32 := 11#32
  let v43 : BitVec 1 := Scalar.cmpi .eq v2 c11_i32_28
  let c15_i32 : BitVec 32 := 15#32
  let c10_i32_25 : BitVec 32 := 10#32
  let v39 : BitVec 1 := Scalar.cmpi .eq v2 c10_i32_25
  let c6_i32_26 : BitVec 32 := 6#32
  let c9_i32_22 : BitVec 32 := 9#32
  let v35 : BitVec 1 := Scalar.cmpi .eq v2 c9_i32_22
  let c13_i32 : BitVec 32 := 13#32
  let c8_i32_19 : BitVec 32 := 8#32
  let v31 : BitVec 1 := Scalar.cmpi .eq v2 c8_i32_19
  let c4_i32_20 : BitVec 32 := 4#32
  let c7_i32_16 : BitVec 32 := 7#32
  let v27 : BitVec 1 := Scalar.cmpi .eq v2 c7_i32_16
  let c11_i32 : BitVec 32 := 11#32
  let c6_i32_13 : BitVec 32 := 6#32
  let v23 : BitVec 1 := Scalar.cmpi .eq v2 c6_i32_13
  let c2_i32_14 : BitVec 32 := 2#32
  let c5_i32_10 : BitVec 32 := 5#32
  let v19 : BitVec 1 := Scalar.cmpi .eq v2 c5_i32_10
  let c9_i32 : BitVec 32 := 9#32
  let c4_i32_7 : BitVec 32 := 4#32
  let v15 : BitVec 1 := Scalar.cmpi .eq v2 c4_i32_7
  let c0_i32_8 : BitVec 32 := 0#32
  let c3_i32_4 : BitVec 32 := 3#32
  let v11 : BitVec 1 := Scalar.cmpi .eq v2 c3_i32_4
  let c7_i32 : BitVec 32 := 7#32
  let c2_i32 : BitVec 32 := 2#32
  let v7 : BitVec 1 := Scalar.cmpi .eq v2 c2_i32
  let c3_i32 : BitVec 32 := 3#32
  let c1_i32_0 : BitVec 32 := 1#32
  let v3 : BitVec 1 := Scalar.cmpi .eq v2 c1_i32_0
  let c5_i32 : BitVec 32 := 5#32
  let c1_i32_1 : BitVec 32 := 1#32
  let v4 : BitVec 32 := Scalar.select v3 c5_i32 c1_i32_1
  let v8 : BitVec 32 := Scalar.select v7 c3_i32 v4
  let v12 : BitVec 32 := Scalar.select v11 c7_i32 v8
  let v16 : BitVec 32 := Scalar.select v15 c0_i32_8 v12
  let v20 : BitVec 32 := Scalar.select v19 c9_i32 v16
  let v24 : BitVec 32 := Scalar.select v23 c2_i32_14 v20
  let v28 : BitVec 32 := Scalar.select v27 c11_i32 v24
  let v32 : BitVec 32 := Scalar.select v31 c4_i32_20 v28
  let v36 : BitVec 32 := Scalar.select v35 c13_i32 v32
  let v40 : BitVec 32 := Scalar.select v39 c6_i32_26 v36
  let v44 : BitVec 32 := Scalar.select v43 c15_i32 v40
  let v48 : BitVec 32 := Scalar.select v47 c8_i32_32 v44
  let v52 : BitVec 32 := Scalar.select v51 c14_i32_36 v48
  let v56 : BitVec 32 := Scalar.select v55 c10_i32_40 v52
  let v60 : BitVec 32 := Scalar.select v59 c12_i32_44 v56
  let c1_i32_68 : BitVec 32 := 1#32
  let v78 : BitVec 32 := Scalar.muli v60 c1_i32_68
  let v79 : BitVec 32 := Scalar.addi c0_i32_69 v78
  v79.toNat
def k0_dev4 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_43 : BitVec 32 := 15#32
  let v59 : BitVec 1 := Scalar.cmpi .eq v2 c15_i32_43
  let c12_i32_44 : BitVec 32 := 12#32
  let c14_i32_39 : BitVec 32 := 14#32
  let v55 : BitVec 1 := Scalar.cmpi .eq v2 c14_i32_39
  let c10_i32_40 : BitVec 32 := 10#32
  let c13_i32_35 : BitVec 32 := 13#32
  let v51 : BitVec 1 := Scalar.cmpi .eq v2 c13_i32_35
  let c14_i32_36 : BitVec 32 := 14#32
  let c12_i32_31 : BitVec 32 := 12#32
  let v47 : BitVec 1 := Scalar.cmpi .eq v2 c12_i32_31
  let c8_i32_32 : BitVec 32 := 8#32
  let c11_i32_28 : BitVec 32 := 11#32
  let v43 : BitVec 1 := Scalar.cmpi .eq v2 c11_i32_28
  let c15_i32 : BitVec 32 := 15#32
  let c10_i32_25 : BitVec 32 := 10#32
  let v39 : BitVec 1 := Scalar.cmpi .eq v2 c10_i32_25
  let c6_i32_26 : BitVec 32 := 6#32
  let c9_i32_22 : BitVec 32 := 9#32
  let v35 : BitVec 1 := Scalar.cmpi .eq v2 c9_i32_22
  let c13_i32 : BitVec 32 := 13#32
  let c8_i32_19 : BitVec 32 := 8#32
  let v31 : BitVec 1 := Scalar.cmpi .eq v2 c8_i32_19
  let c4_i32_20 : BitVec 32 := 4#32
  let c7_i32_16 : BitVec 32 := 7#32
  let v27 : BitVec 1 := Scalar.cmpi .eq v2 c7_i32_16
  let c11_i32 : BitVec 32 := 11#32
  let c6_i32_13 : BitVec 32 := 6#32
  let v23 : BitVec 1 := Scalar.cmpi .eq v2 c6_i32_13
  let c2_i32_14 : BitVec 32 := 2#32
  let c5_i32_10 : BitVec 32 := 5#32
  let v19 : BitVec 1 := Scalar.cmpi .eq v2 c5_i32_10
  let c9_i32 : BitVec 32 := 9#32
  let c4_i32_7 : BitVec 32 := 4#32
  let v15 : BitVec 1 := Scalar.cmpi .eq v2 c4_i32_7
  let c0_i32_8 : BitVec 32 := 0#32
  let c3_i32_4 : BitVec 32 := 3#32
  let v11 : BitVec 1 := Scalar.cmpi .eq v2 c3_i32_4
  let c7_i32 : BitVec 32 := 7#32
  let c2_i32 : BitVec 32 := 2#32
  let v7 : BitVec 1 := Scalar.cmpi .eq v2 c2_i32
  let c3_i32 : BitVec 32 := 3#32
  let c1_i32_0 : BitVec 32 := 1#32
  let v3 : BitVec 1 := Scalar.cmpi .eq v2 c1_i32_0
  let c5_i32 : BitVec 32 := 5#32
  let c1_i32_1 : BitVec 32 := 1#32
  let v4 : BitVec 32 := Scalar.select v3 c5_i32 c1_i32_1
  let v8 : BitVec 32 := Scalar.select v7 c3_i32 v4
  let v12 : BitVec 32 := Scalar.select v11 c7_i32 v8
  let v16 : BitVec 32 := Scalar.select v15 c0_i32_8 v12
  let v20 : BitVec 32 := Scalar.select v19 c9_i32 v16
  let v24 : BitVec 32 := Scalar.select v23 c2_i32_14 v20
  let v28 : BitVec 32 := Scalar.select v27 c11_i32 v24
  let v32 : BitVec 32 := Scalar.select v31 c4_i32_20 v28
  let v36 : BitVec 32 := Scalar.select v35 c13_i32 v32
  let v40 : BitVec 32 := Scalar.select v39 c6_i32_26 v36
  let v44 : BitVec 32 := Scalar.select v43 c15_i32 v40
  let v48 : BitVec 32 := Scalar.select v47 c8_i32_32 v44
  let v52 : BitVec 32 := Scalar.select v51 c14_i32_36 v48
  let v56 : BitVec 32 := Scalar.select v55 c10_i32_40 v52
  let v60 : BitVec 32 := Scalar.select v59 c12_i32_44 v56
  let c1_i32_80 : BitVec 32 := 1#32
  let v88 : BitVec 32 := Scalar.muli v60 c1_i32_80
  let v89 : BitVec 32 := Scalar.addi c0_i32_81 v88
  v89.toNat
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_43 : BitVec 32 := 15#32
  let v59 : BitVec 1 := Scalar.cmpi .eq v2 c15_i32_43
  let c12_i32_44 : BitVec 32 := 12#32
  let c14_i32_39 : BitVec 32 := 14#32
  let v55 : BitVec 1 := Scalar.cmpi .eq v2 c14_i32_39
  let c10_i32_40 : BitVec 32 := 10#32
  let c13_i32_35 : BitVec 32 := 13#32
  let v51 : BitVec 1 := Scalar.cmpi .eq v2 c13_i32_35
  let c14_i32_36 : BitVec 32 := 14#32
  let c12_i32_31 : BitVec 32 := 12#32
  let v47 : BitVec 1 := Scalar.cmpi .eq v2 c12_i32_31
  let c8_i32_32 : BitVec 32 := 8#32
  let c11_i32_28 : BitVec 32 := 11#32
  let v43 : BitVec 1 := Scalar.cmpi .eq v2 c11_i32_28
  let c15_i32 : BitVec 32 := 15#32
  let c10_i32_25 : BitVec 32 := 10#32
  let v39 : BitVec 1 := Scalar.cmpi .eq v2 c10_i32_25
  let c6_i32_26 : BitVec 32 := 6#32
  let c9_i32_22 : BitVec 32 := 9#32
  let v35 : BitVec 1 := Scalar.cmpi .eq v2 c9_i32_22
  let c13_i32 : BitVec 32 := 13#32
  let c8_i32_19 : BitVec 32 := 8#32
  let v31 : BitVec 1 := Scalar.cmpi .eq v2 c8_i32_19
  let c4_i32_20 : BitVec 32 := 4#32
  let c7_i32_16 : BitVec 32 := 7#32
  let v27 : BitVec 1 := Scalar.cmpi .eq v2 c7_i32_16
  let c11_i32 : BitVec 32 := 11#32
  let c6_i32_13 : BitVec 32 := 6#32
  let v23 : BitVec 1 := Scalar.cmpi .eq v2 c6_i32_13
  let c2_i32_14 : BitVec 32 := 2#32
  let c5_i32_10 : BitVec 32 := 5#32
  let v19 : BitVec 1 := Scalar.cmpi .eq v2 c5_i32_10
  let c9_i32 : BitVec 32 := 9#32
  let c4_i32_7 : BitVec 32 := 4#32
  let v15 : BitVec 1 := Scalar.cmpi .eq v2 c4_i32_7
  let c0_i32_8 : BitVec 32 := 0#32
  let c3_i32_4 : BitVec 32 := 3#32
  let v11 : BitVec 1 := Scalar.cmpi .eq v2 c3_i32_4
  let c7_i32 : BitVec 32 := 7#32
  let c2_i32 : BitVec 32 := 2#32
  let v7 : BitVec 1 := Scalar.cmpi .eq v2 c2_i32
  let c3_i32 : BitVec 32 := 3#32
  let c1_i32_0 : BitVec 32 := 1#32
  let v3 : BitVec 1 := Scalar.cmpi .eq v2 c1_i32_0
  let c5_i32 : BitVec 32 := 5#32
  let c1_i32_1 : BitVec 32 := 1#32
  let v4 : BitVec 32 := Scalar.select v3 c5_i32 c1_i32_1
  let v8 : BitVec 32 := Scalar.select v7 c3_i32 v4
  let v12 : BitVec 32 := Scalar.select v11 c7_i32 v8
  let v16 : BitVec 32 := Scalar.select v15 c0_i32_8 v12
  let v20 : BitVec 32 := Scalar.select v19 c9_i32 v16
  let v24 : BitVec 32 := Scalar.select v23 c2_i32_14 v20
  let v28 : BitVec 32 := Scalar.select v27 c11_i32 v24
  let v32 : BitVec 32 := Scalar.select v31 c4_i32_20 v28
  let v36 : BitVec 32 := Scalar.select v35 c13_i32 v32
  let v40 : BitVec 32 := Scalar.select v39 c6_i32_26 v36
  let v44 : BitVec 32 := Scalar.select v43 c15_i32 v40
  let v48 : BitVec 32 := Scalar.select v47 c8_i32_32 v44
  let v52 : BitVec 32 := Scalar.select v51 c14_i32_36 v48
  let v56 : BitVec 32 := Scalar.select v55 c10_i32_40 v52
  let v60 : BitVec 32 := Scalar.select v59 c12_i32_44 v56
  let c1_i32_91 : BitVec 32 := 1#32
  let v98 : BitVec 32 := Scalar.muli v60 c1_i32_91
  let v99 : BitVec 32 := Scalar.addi c0_i32_92 v98
  v99.toNat
def k0_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_43 : BitVec 32 := 15#32
  let v59 : BitVec 1 := Scalar.cmpi .eq v2 c15_i32_43
  let c12_i32_44 : BitVec 32 := 12#32
  let c14_i32_39 : BitVec 32 := 14#32
  let v55 : BitVec 1 := Scalar.cmpi .eq v2 c14_i32_39
  let c10_i32_40 : BitVec 32 := 10#32
  let c13_i32_35 : BitVec 32 := 13#32
  let v51 : BitVec 1 := Scalar.cmpi .eq v2 c13_i32_35
  let c14_i32_36 : BitVec 32 := 14#32
  let c12_i32_31 : BitVec 32 := 12#32
  let v47 : BitVec 1 := Scalar.cmpi .eq v2 c12_i32_31
  let c8_i32_32 : BitVec 32 := 8#32
  let c11_i32_28 : BitVec 32 := 11#32
  let v43 : BitVec 1 := Scalar.cmpi .eq v2 c11_i32_28
  let c15_i32 : BitVec 32 := 15#32
  let c10_i32_25 : BitVec 32 := 10#32
  let v39 : BitVec 1 := Scalar.cmpi .eq v2 c10_i32_25
  let c6_i32_26 : BitVec 32 := 6#32
  let c9_i32_22 : BitVec 32 := 9#32
  let v35 : BitVec 1 := Scalar.cmpi .eq v2 c9_i32_22
  let c13_i32 : BitVec 32 := 13#32
  let c8_i32_19 : BitVec 32 := 8#32
  let v31 : BitVec 1 := Scalar.cmpi .eq v2 c8_i32_19
  let c4_i32_20 : BitVec 32 := 4#32
  let c7_i32_16 : BitVec 32 := 7#32
  let v27 : BitVec 1 := Scalar.cmpi .eq v2 c7_i32_16
  let c11_i32 : BitVec 32 := 11#32
  let c6_i32_13 : BitVec 32 := 6#32
  let v23 : BitVec 1 := Scalar.cmpi .eq v2 c6_i32_13
  let c2_i32_14 : BitVec 32 := 2#32
  let c5_i32_10 : BitVec 32 := 5#32
  let v19 : BitVec 1 := Scalar.cmpi .eq v2 c5_i32_10
  let c9_i32 : BitVec 32 := 9#32
  let c4_i32_7 : BitVec 32 := 4#32
  let v15 : BitVec 1 := Scalar.cmpi .eq v2 c4_i32_7
  let c0_i32_8 : BitVec 32 := 0#32
  let c3_i32_4 : BitVec 32 := 3#32
  let v11 : BitVec 1 := Scalar.cmpi .eq v2 c3_i32_4
  let c7_i32 : BitVec 32 := 7#32
  let c2_i32 : BitVec 32 := 2#32
  let v7 : BitVec 1 := Scalar.cmpi .eq v2 c2_i32
  let c3_i32 : BitVec 32 := 3#32
  let c1_i32_0 : BitVec 32 := 1#32
  let v3 : BitVec 1 := Scalar.cmpi .eq v2 c1_i32_0
  let c5_i32 : BitVec 32 := 5#32
  let c1_i32_1 : BitVec 32 := 1#32
  let v4 : BitVec 32 := Scalar.select v3 c5_i32 c1_i32_1
  let v8 : BitVec 32 := Scalar.select v7 c3_i32 v4
  let v12 : BitVec 32 := Scalar.select v11 c7_i32 v8
  let v16 : BitVec 32 := Scalar.select v15 c0_i32_8 v12
  let v20 : BitVec 32 := Scalar.select v19 c9_i32 v16
  let v24 : BitVec 32 := Scalar.select v23 c2_i32_14 v20
  let v28 : BitVec 32 := Scalar.select v27 c11_i32 v24
  let v32 : BitVec 32 := Scalar.select v31 c4_i32_20 v28
  let v36 : BitVec 32 := Scalar.select v35 c13_i32 v32
  let v40 : BitVec 32 := Scalar.select v39 c6_i32_26 v36
  let v44 : BitVec 32 := Scalar.select v43 c15_i32 v40
  let v48 : BitVec 32 := Scalar.select v47 c8_i32_32 v44
  let v52 : BitVec 32 := Scalar.select v51 c14_i32_36 v48
  let v56 : BitVec 32 := Scalar.select v55 c10_i32_40 v52
  let v60 : BitVec 32 := Scalar.select v59 c12_i32_44 v56
  let c1_i32_103 : BitVec 32 := 1#32
  let v108 : BitVec 32 := Scalar.muli v60 c1_i32_103
  let v109 : BitVec 32 := Scalar.addi c0_i32_104 v108
  v109.toNat
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_41 : BitVec 32 := 14#32
  let v57 : BitVec 1 := Scalar.cmpi .eq v2 c14_i32_41
  let c13_i32_42 : BitVec 32 := 13#32
  let c13_i32_37 : BitVec 32 := 13#32
  let v53 : BitVec 1 := Scalar.cmpi .eq v2 c13_i32_37
  let c9_i32_38 : BitVec 32 := 9#32
  let c12_i32_33 : BitVec 32 := 12#32
  let v49 : BitVec 1 := Scalar.cmpi .eq v2 c12_i32_33
  let c15_i32_34 : BitVec 32 := 15#32
  let c11_i32_29 : BitVec 32 := 11#32
  let v45 : BitVec 1 := Scalar.cmpi .eq v2 c11_i32_29
  let c7_i32_30 : BitVec 32 := 7#32
  let c10_i32_27 : BitVec 32 := 10#32
  let v41 : BitVec 1 := Scalar.cmpi .eq v2 c10_i32_27
  let c14_i32 : BitVec 32 := 14#32
  let c9_i32_23 : BitVec 32 := 9#32
  let v37 : BitVec 1 := Scalar.cmpi .eq v2 c9_i32_23
  let c5_i32_24 : BitVec 32 := 5#32
  let c8_i32_21 : BitVec 32 := 8#32
  let v33 : BitVec 1 := Scalar.cmpi .eq v2 c8_i32_21
  let c12_i32 : BitVec 32 := 12#32
  let c7_i32_17 : BitVec 32 := 7#32
  let v29 : BitVec 1 := Scalar.cmpi .eq v2 c7_i32_17
  let c3_i32_18 : BitVec 32 := 3#32
  let c6_i32_15 : BitVec 32 := 6#32
  let v25 : BitVec 1 := Scalar.cmpi .eq v2 c6_i32_15
  let c10_i32 : BitVec 32 := 10#32
  let c5_i32_11 : BitVec 32 := 5#32
  let v21 : BitVec 1 := Scalar.cmpi .eq v2 c5_i32_11
  let c1_i32_12 : BitVec 32 := 1#32
  let c4_i32_9 : BitVec 32 := 4#32
  let v17 : BitVec 1 := Scalar.cmpi .eq v2 c4_i32_9
  let c8_i32 : BitVec 32 := 8#32
  let c3_i32_5 : BitVec 32 := 3#32
  let v13 : BitVec 1 := Scalar.cmpi .eq v2 c3_i32_5
  let c2_i32_6 : BitVec 32 := 2#32
  let c2_i32_3 : BitVec 32 := 2#32
  let v9 : BitVec 1 := Scalar.cmpi .eq v2 c2_i32_3
  let c6_i32 : BitVec 32 := 6#32
  let c1_i32_2 : BitVec 32 := 1#32
  let v5 : BitVec 1 := Scalar.cmpi .eq v2 c1_i32_2
  let c0_i32 : BitVec 32 := 0#32
  let c4_i32 : BitVec 32 := 4#32
  let v6 : BitVec 32 := Scalar.select v5 c0_i32 c4_i32
  let v10 : BitVec 32 := Scalar.select v9 c6_i32 v6
  let v14 : BitVec 32 := Scalar.select v13 c2_i32_6 v10
  let v18 : BitVec 32 := Scalar.select v17 c8_i32 v14
  let v22 : BitVec 32 := Scalar.select v21 c1_i32_12 v18
  let v26 : BitVec 32 := Scalar.select v25 c10_i32 v22
  let v30 : BitVec 32 := Scalar.select v29 c3_i32_18 v26
  let v34 : BitVec 32 := Scalar.select v33 c12_i32 v30
  let v38 : BitVec 32 := Scalar.select v37 c5_i32_24 v34
  let v42 : BitVec 32 := Scalar.select v41 c14_i32 v38
  let v46 : BitVec 32 := Scalar.select v45 c7_i32_30 v42
  let v50 : BitVec 32 := Scalar.select v49 c15_i32_34 v46
  let v54 : BitVec 32 := Scalar.select v53 c9_i32_38 v50
  let v58 : BitVec 32 := Scalar.select v57 c13_i32_42 v54
  let v62 : BitVec 32 := Scalar.select v61 c11_i32_46 v58
  let c1_i32_114 : BitVec 32 := 1#32
  let v118 : BitVec 32 := Scalar.muli v62 c1_i32_114
  let v119 : BitVec 32 := Scalar.addi c0_i32_115 v118
  v119.toNat
def k0_dev8 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_41 : BitVec 32 := 14#32
  let v57 : BitVec 1 := Scalar.cmpi .eq v2 c14_i32_41
  let c13_i32_42 : BitVec 32 := 13#32
  let c13_i32_37 : BitVec 32 := 13#32
  let v53 : BitVec 1 := Scalar.cmpi .eq v2 c13_i32_37
  let c9_i32_38 : BitVec 32 := 9#32
  let c12_i32_33 : BitVec 32 := 12#32
  let v49 : BitVec 1 := Scalar.cmpi .eq v2 c12_i32_33
  let c15_i32_34 : BitVec 32 := 15#32
  let c11_i32_29 : BitVec 32 := 11#32
  let v45 : BitVec 1 := Scalar.cmpi .eq v2 c11_i32_29
  let c7_i32_30 : BitVec 32 := 7#32
  let c10_i32_27 : BitVec 32 := 10#32
  let v41 : BitVec 1 := Scalar.cmpi .eq v2 c10_i32_27
  let c14_i32 : BitVec 32 := 14#32
  let c9_i32_23 : BitVec 32 := 9#32
  let v37 : BitVec 1 := Scalar.cmpi .eq v2 c9_i32_23
  let c5_i32_24 : BitVec 32 := 5#32
  let c8_i32_21 : BitVec 32 := 8#32
  let v33 : BitVec 1 := Scalar.cmpi .eq v2 c8_i32_21
  let c12_i32 : BitVec 32 := 12#32
  let c7_i32_17 : BitVec 32 := 7#32
  let v29 : BitVec 1 := Scalar.cmpi .eq v2 c7_i32_17
  let c3_i32_18 : BitVec 32 := 3#32
  let c6_i32_15 : BitVec 32 := 6#32
  let v25 : BitVec 1 := Scalar.cmpi .eq v2 c6_i32_15
  let c10_i32 : BitVec 32 := 10#32
  let c5_i32_11 : BitVec 32 := 5#32
  let v21 : BitVec 1 := Scalar.cmpi .eq v2 c5_i32_11
  let c1_i32_12 : BitVec 32 := 1#32
  let c4_i32_9 : BitVec 32 := 4#32
  let v17 : BitVec 1 := Scalar.cmpi .eq v2 c4_i32_9
  let c8_i32 : BitVec 32 := 8#32
  let c3_i32_5 : BitVec 32 := 3#32
  let v13 : BitVec 1 := Scalar.cmpi .eq v2 c3_i32_5
  let c2_i32_6 : BitVec 32 := 2#32
  let c2_i32_3 : BitVec 32 := 2#32
  let v9 : BitVec 1 := Scalar.cmpi .eq v2 c2_i32_3
  let c6_i32 : BitVec 32 := 6#32
  let c1_i32_2 : BitVec 32 := 1#32
  let v5 : BitVec 1 := Scalar.cmpi .eq v2 c1_i32_2
  let c0_i32 : BitVec 32 := 0#32
  let c4_i32 : BitVec 32 := 4#32
  let v6 : BitVec 32 := Scalar.select v5 c0_i32 c4_i32
  let v10 : BitVec 32 := Scalar.select v9 c6_i32 v6
  let v14 : BitVec 32 := Scalar.select v13 c2_i32_6 v10
  let v18 : BitVec 32 := Scalar.select v17 c8_i32 v14
  let v22 : BitVec 32 := Scalar.select v21 c1_i32_12 v18
  let v26 : BitVec 32 := Scalar.select v25 c10_i32 v22
  let v30 : BitVec 32 := Scalar.select v29 c3_i32_18 v26
  let v34 : BitVec 32 := Scalar.select v33 c12_i32 v30
  let v38 : BitVec 32 := Scalar.select v37 c5_i32_24 v34
  let v42 : BitVec 32 := Scalar.select v41 c14_i32 v38
  let v46 : BitVec 32 := Scalar.select v45 c7_i32_30 v42
  let v50 : BitVec 32 := Scalar.select v49 c15_i32_34 v46
  let v54 : BitVec 32 := Scalar.select v53 c9_i32_38 v50
  let v58 : BitVec 32 := Scalar.select v57 c13_i32_42 v54
  let v62 : BitVec 32 := Scalar.select v61 c11_i32_46 v58
  let c1_i32_125 : BitVec 32 := 1#32
  let v128 : BitVec 32 := Scalar.muli v62 c1_i32_125
  let v129 : BitVec 32 := Scalar.addi c0_i32_126 v128
  v129.toNat
def k0_dev9 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_41 : BitVec 32 := 14#32
  let v57 : BitVec 1 := Scalar.cmpi .eq v2 c14_i32_41
  let c13_i32_42 : BitVec 32 := 13#32
  let c13_i32_37 : BitVec 32 := 13#32
  let v53 : BitVec 1 := Scalar.cmpi .eq v2 c13_i32_37
  let c9_i32_38 : BitVec 32 := 9#32
  let c12_i32_33 : BitVec 32 := 12#32
  let v49 : BitVec 1 := Scalar.cmpi .eq v2 c12_i32_33
  let c15_i32_34 : BitVec 32 := 15#32
  let c11_i32_29 : BitVec 32 := 11#32
  let v45 : BitVec 1 := Scalar.cmpi .eq v2 c11_i32_29
  let c7_i32_30 : BitVec 32 := 7#32
  let c10_i32_27 : BitVec 32 := 10#32
  let v41 : BitVec 1 := Scalar.cmpi .eq v2 c10_i32_27
  let c14_i32 : BitVec 32 := 14#32
  let c9_i32_23 : BitVec 32 := 9#32
  let v37 : BitVec 1 := Scalar.cmpi .eq v2 c9_i32_23
  let c5_i32_24 : BitVec 32 := 5#32
  let c8_i32_21 : BitVec 32 := 8#32
  let v33 : BitVec 1 := Scalar.cmpi .eq v2 c8_i32_21
  let c12_i32 : BitVec 32 := 12#32
  let c7_i32_17 : BitVec 32 := 7#32
  let v29 : BitVec 1 := Scalar.cmpi .eq v2 c7_i32_17
  let c3_i32_18 : BitVec 32 := 3#32
  let c6_i32_15 : BitVec 32 := 6#32
  let v25 : BitVec 1 := Scalar.cmpi .eq v2 c6_i32_15
  let c10_i32 : BitVec 32 := 10#32
  let c5_i32_11 : BitVec 32 := 5#32
  let v21 : BitVec 1 := Scalar.cmpi .eq v2 c5_i32_11
  let c1_i32_12 : BitVec 32 := 1#32
  let c4_i32_9 : BitVec 32 := 4#32
  let v17 : BitVec 1 := Scalar.cmpi .eq v2 c4_i32_9
  let c8_i32 : BitVec 32 := 8#32
  let c3_i32_5 : BitVec 32 := 3#32
  let v13 : BitVec 1 := Scalar.cmpi .eq v2 c3_i32_5
  let c2_i32_6 : BitVec 32 := 2#32
  let c2_i32_3 : BitVec 32 := 2#32
  let v9 : BitVec 1 := Scalar.cmpi .eq v2 c2_i32_3
  let c6_i32 : BitVec 32 := 6#32
  let c1_i32_2 : BitVec 32 := 1#32
  let v5 : BitVec 1 := Scalar.cmpi .eq v2 c1_i32_2
  let c0_i32 : BitVec 32 := 0#32
  let c4_i32 : BitVec 32 := 4#32
  let v6 : BitVec 32 := Scalar.select v5 c0_i32 c4_i32
  let v10 : BitVec 32 := Scalar.select v9 c6_i32 v6
  let v14 : BitVec 32 := Scalar.select v13 c2_i32_6 v10
  let v18 : BitVec 32 := Scalar.select v17 c8_i32 v14
  let v22 : BitVec 32 := Scalar.select v21 c1_i32_12 v18
  let v26 : BitVec 32 := Scalar.select v25 c10_i32 v22
  let v30 : BitVec 32 := Scalar.select v29 c3_i32_18 v26
  let v34 : BitVec 32 := Scalar.select v33 c12_i32 v30
  let v38 : BitVec 32 := Scalar.select v37 c5_i32_24 v34
  let v42 : BitVec 32 := Scalar.select v41 c14_i32 v38
  let v46 : BitVec 32 := Scalar.select v45 c7_i32_30 v42
  let v50 : BitVec 32 := Scalar.select v49 c15_i32_34 v46
  let v54 : BitVec 32 := Scalar.select v53 c9_i32_38 v50
  let v58 : BitVec 32 := Scalar.select v57 c13_i32_42 v54
  let v62 : BitVec 32 := Scalar.select v61 c11_i32_46 v58
  let c1_i32_137 : BitVec 32 := 1#32
  let v138 : BitVec 32 := Scalar.muli v62 c1_i32_137
  let v139 : BitVec 32 := Scalar.addi c0_i32_138 v138
  v139.toNat
def k0_dev10 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_41 : BitVec 32 := 14#32
  let v57 : BitVec 1 := Scalar.cmpi .eq v2 c14_i32_41
  let c13_i32_42 : BitVec 32 := 13#32
  let c13_i32_37 : BitVec 32 := 13#32
  let v53 : BitVec 1 := Scalar.cmpi .eq v2 c13_i32_37
  let c9_i32_38 : BitVec 32 := 9#32
  let c12_i32_33 : BitVec 32 := 12#32
  let v49 : BitVec 1 := Scalar.cmpi .eq v2 c12_i32_33
  let c15_i32_34 : BitVec 32 := 15#32
  let c11_i32_29 : BitVec 32 := 11#32
  let v45 : BitVec 1 := Scalar.cmpi .eq v2 c11_i32_29
  let c7_i32_30 : BitVec 32 := 7#32
  let c10_i32_27 : BitVec 32 := 10#32
  let v41 : BitVec 1 := Scalar.cmpi .eq v2 c10_i32_27
  let c14_i32 : BitVec 32 := 14#32
  let c9_i32_23 : BitVec 32 := 9#32
  let v37 : BitVec 1 := Scalar.cmpi .eq v2 c9_i32_23
  let c5_i32_24 : BitVec 32 := 5#32
  let c8_i32_21 : BitVec 32 := 8#32
  let v33 : BitVec 1 := Scalar.cmpi .eq v2 c8_i32_21
  let c12_i32 : BitVec 32 := 12#32
  let c7_i32_17 : BitVec 32 := 7#32
  let v29 : BitVec 1 := Scalar.cmpi .eq v2 c7_i32_17
  let c3_i32_18 : BitVec 32 := 3#32
  let c6_i32_15 : BitVec 32 := 6#32
  let v25 : BitVec 1 := Scalar.cmpi .eq v2 c6_i32_15
  let c10_i32 : BitVec 32 := 10#32
  let c5_i32_11 : BitVec 32 := 5#32
  let v21 : BitVec 1 := Scalar.cmpi .eq v2 c5_i32_11
  let c1_i32_12 : BitVec 32 := 1#32
  let c4_i32_9 : BitVec 32 := 4#32
  let v17 : BitVec 1 := Scalar.cmpi .eq v2 c4_i32_9
  let c8_i32 : BitVec 32 := 8#32
  let c3_i32_5 : BitVec 32 := 3#32
  let v13 : BitVec 1 := Scalar.cmpi .eq v2 c3_i32_5
  let c2_i32_6 : BitVec 32 := 2#32
  let c2_i32_3 : BitVec 32 := 2#32
  let v9 : BitVec 1 := Scalar.cmpi .eq v2 c2_i32_3
  let c6_i32 : BitVec 32 := 6#32
  let c1_i32_2 : BitVec 32 := 1#32
  let v5 : BitVec 1 := Scalar.cmpi .eq v2 c1_i32_2
  let c0_i32 : BitVec 32 := 0#32
  let c4_i32 : BitVec 32 := 4#32
  let v6 : BitVec 32 := Scalar.select v5 c0_i32 c4_i32
  let v10 : BitVec 32 := Scalar.select v9 c6_i32 v6
  let v14 : BitVec 32 := Scalar.select v13 c2_i32_6 v10
  let v18 : BitVec 32 := Scalar.select v17 c8_i32 v14
  let v22 : BitVec 32 := Scalar.select v21 c1_i32_12 v18
  let v26 : BitVec 32 := Scalar.select v25 c10_i32 v22
  let v30 : BitVec 32 := Scalar.select v29 c3_i32_18 v26
  let v34 : BitVec 32 := Scalar.select v33 c12_i32 v30
  let v38 : BitVec 32 := Scalar.select v37 c5_i32_24 v34
  let v42 : BitVec 32 := Scalar.select v41 c14_i32 v38
  let v46 : BitVec 32 := Scalar.select v45 c7_i32_30 v42
  let v50 : BitVec 32 := Scalar.select v49 c15_i32_34 v46
  let v54 : BitVec 32 := Scalar.select v53 c9_i32_38 v50
  let v58 : BitVec 32 := Scalar.select v57 c13_i32_42 v54
  let v62 : BitVec 32 := Scalar.select v61 c11_i32_46 v58
  let c1_i32_149 : BitVec 32 := 1#32
  let v148 : BitVec 32 := Scalar.muli v62 c1_i32_149
  let v149 : BitVec 32 := Scalar.addi c0_i32_150 v148
  v149.toNat
@[reducible] def k0_t1_loop : Scf.Loop 32 :=
  let c1_i32_250 : BitVec 32 := 1#32
  let c6_i32_251 : BitVec 32 := 6#32
  let v212 : BitVec 32 := Scalar.addi c1_i32_250 c6_i32_251
  let c1_i32_252 : BitVec 32 := 1#32
  ⟨c1_i32_250, v212, c1_i32_252⟩
def k0_off1 (k0_t1 : Fin k0_t1_loop.trips) : Fin 2 → Nat :=
  let c1_i32_250 : BitVec 32 := 1#32
  let c1_i32_252 : BitVec 32 := 1#32
  let arg15 : BitVec 32 := Scf.iv c1_i32_250 c1_i32_252 k0_t1
  let c1_i32_520 : BitVec 32 := 1#32
  let v408 : BitVec 32 := Scalar.subi arg15 c1_i32_520
  let c3_i32_521 : BitVec 32 := 3#32
  let c0_i32_522 : BitVec 32 := 0#32
  let v409 : BitVec 1 := Scalar.cmpi .eq c3_i32_521 c0_i32_522
  let c1_i32_523 : BitVec 32 := 1#32
  let v410 : BitVec 32 := Scalar.select v409 c1_i32_523 c3_i32_521
  let v411 : BitVec 32 := Scalar.remsi v408 v410
  let c0_i32_525 : BitVec 32 := 0#32
  let v413 : BitVec 1 := Scalar.cmpi .slt v411 c0_i32_525
  let c0_i32_526 : BitVec 32 := 0#32
  let v414 : BitVec 1 := Scalar.cmpi .slt v410 c0_i32_526
  let v415 : BitVec 1 := Scalar.xori v413 v414
  let c0_i32_524 : BitVec 32 := 0#32
  let v412 : BitVec 1 := Scalar.cmpi .ne v411 c0_i32_524
  let v416 : BitVec 1 := Scalar.andi v415 v412
  let v417 : BitVec 32 := Scalar.addi v411 v410
  let v418 : BitVec 32 := Scalar.select v416 v417 v411
  let c0_i32_527 : BitVec 32 := 0#32
  ![v418.toNat, 0]
def k0_off2 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c1_i32_520 : BitVec 32 := 1#32
  let v408 : BitVec 32 := Scalar.subi arg15 c1_i32_520
  let c3_i32_521 : BitVec 32 := 3#32
  let c0_i32_522 : BitVec 32 := 0#32
  let v409 : BitVec 1 := Scalar.cmpi .eq c3_i32_521 c0_i32_522
  let c1_i32_523 : BitVec 32 := 1#32
  let v410 : BitVec 32 := Scalar.select v409 c1_i32_523 c3_i32_521
  let v411 : BitVec 32 := Scalar.remsi v408 v410
  let c0_i32_525 : BitVec 32 := 0#32
  let v413 : BitVec 1 := Scalar.cmpi .slt v411 c0_i32_525
  let c0_i32_526 : BitVec 32 := 0#32
  let v414 : BitVec 1 := Scalar.cmpi .slt v410 c0_i32_526
  let v415 : BitVec 1 := Scalar.xori v413 v414
  let c0_i32_524 : BitVec 32 := 0#32
  let v412 : BitVec 1 := Scalar.cmpi .ne v411 c0_i32_524
  let v416 : BitVec 1 := Scalar.andi v415 v412
  let v417 : BitVec 32 := Scalar.addi v411 v410
  let v418 : BitVec 32 := Scalar.select v416 v417 v411
  let c0_i32_531 : BitVec 32 := 0#32
  let c0_i32_532 : BitVec 32 := 0#32
  ![v418.toNat, 0, 0]
def k0_off3 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c1_i32_520 : BitVec 32 := 1#32
  let v408 : BitVec 32 := Scalar.subi arg15 c1_i32_520
  let c3_i32_521 : BitVec 32 := 3#32
  let c0_i32_522 : BitVec 32 := 0#32
  let v409 : BitVec 1 := Scalar.cmpi .eq c3_i32_521 c0_i32_522
  let c1_i32_523 : BitVec 32 := 1#32
  let v410 : BitVec 32 := Scalar.select v409 c1_i32_523 c3_i32_521
  let v411 : BitVec 32 := Scalar.remsi v408 v410
  let c0_i32_525 : BitVec 32 := 0#32
  let v413 : BitVec 1 := Scalar.cmpi .slt v411 c0_i32_525
  let c0_i32_526 : BitVec 32 := 0#32
  let v414 : BitVec 1 := Scalar.cmpi .slt v410 c0_i32_526
  let v415 : BitVec 1 := Scalar.xori v413 v414
  let c0_i32_524 : BitVec 32 := 0#32
  let v412 : BitVec 1 := Scalar.cmpi .ne v411 c0_i32_524
  let v416 : BitVec 1 := Scalar.andi v415 v412
  let v417 : BitVec 32 := Scalar.addi v411 v410
  let v418 : BitVec 32 := Scalar.select v416 v417 v411
  let c0_i32_539 : BitVec 32 := 0#32
  let c256_i32_540 : BitVec 32 := 256#32
  ![v418.toNat, 0, 256]
def k0_off4 (k0_t1 : Fin k0_t1_loop.trips) : Fin 2 → Nat :=
  let c1_i32_250 : BitVec 32 := 1#32
  let c1_i32_252 : BitVec 32 := 1#32
  let arg15 : BitVec 32 := Scf.iv c1_i32_250 c1_i32_252 k0_t1
  let c3_i32_514 : BitVec 32 := 3#32
  let c0_i32_515 : BitVec 32 := 0#32
  let v398 : BitVec 1 := Scalar.cmpi .eq c3_i32_514 c0_i32_515
  let c1_i32_516 : BitVec 32 := 1#32
  let v399 : BitVec 32 := Scalar.select v398 c1_i32_516 c3_i32_514
  let v400 : BitVec 32 := Scalar.remsi arg15 v399
  let c0_i32_518 : BitVec 32 := 0#32
  let v402 : BitVec 1 := Scalar.cmpi .slt v400 c0_i32_518
  let c0_i32_519 : BitVec 32 := 0#32
  let v403 : BitVec 1 := Scalar.cmpi .slt v399 c0_i32_519
  let v404 : BitVec 1 := Scalar.xori v402 v403
  let c0_i32_517 : BitVec 32 := 0#32
  let v401 : BitVec 1 := Scalar.cmpi .ne v400 c0_i32_517
  let v405 : BitVec 1 := Scalar.andi v404 v401
  let v406 : BitVec 32 := Scalar.addi v400 v399
  let v407 : BitVec 32 := Scalar.select v405 v406 v400
  let c0_i32_544 : BitVec 32 := 0#32
  ![v407.toNat, 0]
def k0_off5 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c3_i32_514 : BitVec 32 := 3#32
  let c0_i32_515 : BitVec 32 := 0#32
  let v398 : BitVec 1 := Scalar.cmpi .eq c3_i32_514 c0_i32_515
  let c1_i32_516 : BitVec 32 := 1#32
  let v399 : BitVec 32 := Scalar.select v398 c1_i32_516 c3_i32_514
  let v400 : BitVec 32 := Scalar.remsi arg15 v399
  let c0_i32_518 : BitVec 32 := 0#32
  let v402 : BitVec 1 := Scalar.cmpi .slt v400 c0_i32_518
  let c0_i32_519 : BitVec 32 := 0#32
  let v403 : BitVec 1 := Scalar.cmpi .slt v399 c0_i32_519
  let v404 : BitVec 1 := Scalar.xori v402 v403
  let c0_i32_517 : BitVec 32 := 0#32
  let v401 : BitVec 1 := Scalar.cmpi .ne v400 c0_i32_517
  let v405 : BitVec 1 := Scalar.andi v404 v401
  let v406 : BitVec 32 := Scalar.addi v400 v399
  let v407 : BitVec 32 := Scalar.select v405 v406 v400
  let c0_i32_547 : BitVec 32 := 0#32
  let c0_i32_548 : BitVec 32 := 0#32
  ![v407.toNat, 0, 0]
def k0_dev11 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_43 : BitVec 32 := 15#32
  let v59 : BitVec 1 := Scalar.cmpi .eq v2 c15_i32_43
  let c12_i32_44 : BitVec 32 := 12#32
  let c14_i32_39 : BitVec 32 := 14#32
  let v55 : BitVec 1 := Scalar.cmpi .eq v2 c14_i32_39
  let c10_i32_40 : BitVec 32 := 10#32
  let c13_i32_35 : BitVec 32 := 13#32
  let v51 : BitVec 1 := Scalar.cmpi .eq v2 c13_i32_35
  let c14_i32_36 : BitVec 32 := 14#32
  let c12_i32_31 : BitVec 32 := 12#32
  let v47 : BitVec 1 := Scalar.cmpi .eq v2 c12_i32_31
  let c8_i32_32 : BitVec 32 := 8#32
  let c11_i32_28 : BitVec 32 := 11#32
  let v43 : BitVec 1 := Scalar.cmpi .eq v2 c11_i32_28
  let c15_i32 : BitVec 32 := 15#32
  let c10_i32_25 : BitVec 32 := 10#32
  let v39 : BitVec 1 := Scalar.cmpi .eq v2 c10_i32_25
  let c6_i32_26 : BitVec 32 := 6#32
  let c9_i32_22 : BitVec 32 := 9#32
  let v35 : BitVec 1 := Scalar.cmpi .eq v2 c9_i32_22
  let c13_i32 : BitVec 32 := 13#32
  let c8_i32_19 : BitVec 32 := 8#32
  let v31 : BitVec 1 := Scalar.cmpi .eq v2 c8_i32_19
  let c4_i32_20 : BitVec 32 := 4#32
  let c7_i32_16 : BitVec 32 := 7#32
  let v27 : BitVec 1 := Scalar.cmpi .eq v2 c7_i32_16
  let c11_i32 : BitVec 32 := 11#32
  let c6_i32_13 : BitVec 32 := 6#32
  let v23 : BitVec 1 := Scalar.cmpi .eq v2 c6_i32_13
  let c2_i32_14 : BitVec 32 := 2#32
  let c5_i32_10 : BitVec 32 := 5#32
  let v19 : BitVec 1 := Scalar.cmpi .eq v2 c5_i32_10
  let c9_i32 : BitVec 32 := 9#32
  let c4_i32_7 : BitVec 32 := 4#32
  let v15 : BitVec 1 := Scalar.cmpi .eq v2 c4_i32_7
  let c0_i32_8 : BitVec 32 := 0#32
  let c3_i32_4 : BitVec 32 := 3#32
  let v11 : BitVec 1 := Scalar.cmpi .eq v2 c3_i32_4
  let c7_i32 : BitVec 32 := 7#32
  let c2_i32 : BitVec 32 := 2#32
  let v7 : BitVec 1 := Scalar.cmpi .eq v2 c2_i32
  let c3_i32 : BitVec 32 := 3#32
  let c1_i32_0 : BitVec 32 := 1#32
  let v3 : BitVec 1 := Scalar.cmpi .eq v2 c1_i32_0
  let c5_i32 : BitVec 32 := 5#32
  let c1_i32_1 : BitVec 32 := 1#32
  let v4 : BitVec 32 := Scalar.select v3 c5_i32 c1_i32_1
  let v8 : BitVec 32 := Scalar.select v7 c3_i32 v4
  let v12 : BitVec 32 := Scalar.select v11 c7_i32 v8
  let v16 : BitVec 32 := Scalar.select v15 c0_i32_8 v12
  let v20 : BitVec 32 := Scalar.select v19 c9_i32 v16
  let v24 : BitVec 32 := Scalar.select v23 c2_i32_14 v20
  let v28 : BitVec 32 := Scalar.select v27 c11_i32 v24
  let v32 : BitVec 32 := Scalar.select v31 c4_i32_20 v28
  let v36 : BitVec 32 := Scalar.select v35 c13_i32 v32
  let v40 : BitVec 32 := Scalar.select v39 c6_i32_26 v36
  let v44 : BitVec 32 := Scalar.select v43 c15_i32 v40
  let v48 : BitVec 32 := Scalar.select v47 c8_i32_32 v44
  let v52 : BitVec 32 := Scalar.select v51 c14_i32_36 v48
  let v56 : BitVec 32 := Scalar.select v55 c10_i32_40 v52
  let v60 : BitVec 32 := Scalar.select v59 c12_i32_44 v56
  let c1_i32_545 : BitVec 32 := 1#32
  let v435 : BitVec 32 := Scalar.muli v60 c1_i32_545
  let v436 : BitVec 32 := Scalar.addi c0_i32_546 v435
  v436.toNat
def k0_off6 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c3_i32_514 : BitVec 32 := 3#32
  let c0_i32_515 : BitVec 32 := 0#32
  let v398 : BitVec 1 := Scalar.cmpi .eq c3_i32_514 c0_i32_515
  let c1_i32_516 : BitVec 32 := 1#32
  let v399 : BitVec 32 := Scalar.select v398 c1_i32_516 c3_i32_514
  let v400 : BitVec 32 := Scalar.remsi arg15 v399
  let c0_i32_518 : BitVec 32 := 0#32
  let v402 : BitVec 1 := Scalar.cmpi .slt v400 c0_i32_518
  let c0_i32_519 : BitVec 32 := 0#32
  let v403 : BitVec 1 := Scalar.cmpi .slt v399 c0_i32_519
  let v404 : BitVec 1 := Scalar.xori v402 v403
  let c0_i32_517 : BitVec 32 := 0#32
  let v401 : BitVec 1 := Scalar.cmpi .ne v400 c0_i32_517
  let v405 : BitVec 1 := Scalar.andi v404 v401
  let v406 : BitVec 32 := Scalar.addi v400 v399
  let v407 : BitVec 32 := Scalar.select v405 v406 v400
  let c0_i32_555 : BitVec 32 := 0#32
  let c256_i32_556 : BitVec 32 := 256#32
  ![v407.toNat, 0, 256]
def k0_dev12 (d0 : Dev nD) : Nat :=
  let c0_i32_554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_41 : BitVec 32 := 14#32
  let v57 : BitVec 1 := Scalar.cmpi .eq v2 c14_i32_41
  let c13_i32_42 : BitVec 32 := 13#32
  let c13_i32_37 : BitVec 32 := 13#32
  let v53 : BitVec 1 := Scalar.cmpi .eq v2 c13_i32_37
  let c9_i32_38 : BitVec 32 := 9#32
  let c12_i32_33 : BitVec 32 := 12#32
  let v49 : BitVec 1 := Scalar.cmpi .eq v2 c12_i32_33
  let c15_i32_34 : BitVec 32 := 15#32
  let c11_i32_29 : BitVec 32 := 11#32
  let v45 : BitVec 1 := Scalar.cmpi .eq v2 c11_i32_29
  let c7_i32_30 : BitVec 32 := 7#32
  let c10_i32_27 : BitVec 32 := 10#32
  let v41 : BitVec 1 := Scalar.cmpi .eq v2 c10_i32_27
  let c14_i32 : BitVec 32 := 14#32
  let c9_i32_23 : BitVec 32 := 9#32
  let v37 : BitVec 1 := Scalar.cmpi .eq v2 c9_i32_23
  let c5_i32_24 : BitVec 32 := 5#32
  let c8_i32_21 : BitVec 32 := 8#32
  let v33 : BitVec 1 := Scalar.cmpi .eq v2 c8_i32_21
  let c12_i32 : BitVec 32 := 12#32
  let c7_i32_17 : BitVec 32 := 7#32
  let v29 : BitVec 1 := Scalar.cmpi .eq v2 c7_i32_17
  let c3_i32_18 : BitVec 32 := 3#32
  let c6_i32_15 : BitVec 32 := 6#32
  let v25 : BitVec 1 := Scalar.cmpi .eq v2 c6_i32_15
  let c10_i32 : BitVec 32 := 10#32
  let c5_i32_11 : BitVec 32 := 5#32
  let v21 : BitVec 1 := Scalar.cmpi .eq v2 c5_i32_11
  let c1_i32_12 : BitVec 32 := 1#32
  let c4_i32_9 : BitVec 32 := 4#32
  let v17 : BitVec 1 := Scalar.cmpi .eq v2 c4_i32_9
  let c8_i32 : BitVec 32 := 8#32
  let c3_i32_5 : BitVec 32 := 3#32
  let v13 : BitVec 1 := Scalar.cmpi .eq v2 c3_i32_5
  let c2_i32_6 : BitVec 32 := 2#32
  let c2_i32_3 : BitVec 32 := 2#32
  let v9 : BitVec 1 := Scalar.cmpi .eq v2 c2_i32_3
  let c6_i32 : BitVec 32 := 6#32
  let c1_i32_2 : BitVec 32 := 1#32
  let v5 : BitVec 1 := Scalar.cmpi .eq v2 c1_i32_2
  let c0_i32 : BitVec 32 := 0#32
  let c4_i32 : BitVec 32 := 4#32
  let v6 : BitVec 32 := Scalar.select v5 c0_i32 c4_i32
  let v10 : BitVec 32 := Scalar.select v9 c6_i32 v6
  let v14 : BitVec 32 := Scalar.select v13 c2_i32_6 v10
  let v18 : BitVec 32 := Scalar.select v17 c8_i32 v14
  let v22 : BitVec 32 := Scalar.select v21 c1_i32_12 v18
  let v26 : BitVec 32 := Scalar.select v25 c10_i32 v22
  let v30 : BitVec 32 := Scalar.select v29 c3_i32_18 v26
  let v34 : BitVec 32 := Scalar.select v33 c12_i32 v30
  let v38 : BitVec 32 := Scalar.select v37 c5_i32_24 v34
  let v42 : BitVec 32 := Scalar.select v41 c14_i32 v38
  let v46 : BitVec 32 := Scalar.select v45 c7_i32_30 v42
  let v50 : BitVec 32 := Scalar.select v49 c15_i32_34 v46
  let v54 : BitVec 32 := Scalar.select v53 c9_i32_38 v50
  let v58 : BitVec 32 := Scalar.select v57 c13_i32_42 v54
  let v62 : BitVec 32 := Scalar.select v61 c11_i32_46 v58
  let c1_i32_553 : BitVec 32 := 1#32
  let v445 : BitVec 32 := Scalar.muli v62 c1_i32_553
  let v446 : BitVec 32 := Scalar.addi c0_i32_554 v445
  v446.toNat
def k0_off7 (k0_t1 : Fin k0_t1_loop.trips) : Fin 2 → Nat :=
  let c1_i32_250 : BitVec 32 := 1#32
  let c1_i32_252 : BitVec 32 := 1#32
  let arg15 : BitVec 32 := Scf.iv c1_i32_250 c1_i32_252 k0_t1
  let c1_i32_520 : BitVec 32 := 1#32
  let v408 : BitVec 32 := Scalar.subi arg15 c1_i32_520
  let c3_i32_521 : BitVec 32 := 3#32
  let c0_i32_522 : BitVec 32 := 0#32
  let v409 : BitVec 1 := Scalar.cmpi .eq c3_i32_521 c0_i32_522
  let c1_i32_523 : BitVec 32 := 1#32
  let v410 : BitVec 32 := Scalar.select v409 c1_i32_523 c3_i32_521
  let v411 : BitVec 32 := Scalar.remsi v408 v410
  let c0_i32_525 : BitVec 32 := 0#32
  let v413 : BitVec 1 := Scalar.cmpi .slt v411 c0_i32_525
  let c0_i32_526 : BitVec 32 := 0#32
  let v414 : BitVec 1 := Scalar.cmpi .slt v410 c0_i32_526
  let v415 : BitVec 1 := Scalar.xori v413 v414
  let c0_i32_524 : BitVec 32 := 0#32
  let v412 : BitVec 1 := Scalar.cmpi .ne v411 c0_i32_524
  let v416 : BitVec 1 := Scalar.andi v415 v412
  let v417 : BitVec 32 := Scalar.addi v411 v410
  let v418 : BitVec 32 := Scalar.select v416 v417 v411
  let c1_i32_559 : BitVec 32 := 1#32
  ![v418.toNat, 1]
def k0_off8 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c1_i32_520 : BitVec 32 := 1#32
  let v408 : BitVec 32 := Scalar.subi arg15 c1_i32_520
  let c3_i32_521 : BitVec 32 := 3#32
  let c0_i32_522 : BitVec 32 := 0#32
  let v409 : BitVec 1 := Scalar.cmpi .eq c3_i32_521 c0_i32_522
  let c1_i32_523 : BitVec 32 := 1#32
  let v410 : BitVec 32 := Scalar.select v409 c1_i32_523 c3_i32_521
  let v411 : BitVec 32 := Scalar.remsi v408 v410
  let c0_i32_525 : BitVec 32 := 0#32
  let v413 : BitVec 1 := Scalar.cmpi .slt v411 c0_i32_525
  let c0_i32_526 : BitVec 32 := 0#32
  let v414 : BitVec 1 := Scalar.cmpi .slt v410 c0_i32_526
  let v415 : BitVec 1 := Scalar.xori v413 v414
  let c0_i32_524 : BitVec 32 := 0#32
  let v412 : BitVec 1 := Scalar.cmpi .ne v411 c0_i32_524
  let v416 : BitVec 1 := Scalar.andi v415 v412
  let v417 : BitVec 32 := Scalar.addi v411 v410
  let v418 : BitVec 32 := Scalar.select v416 v417 v411
  let c2048_i32_563 : BitVec 32 := 2048#32
  let c0_i32_564 : BitVec 32 := 0#32
  ![v418.toNat, 2048, 0]
def k0_off9 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c1_i32_520 : BitVec 32 := 1#32
  let v408 : BitVec 32 := Scalar.subi arg15 c1_i32_520
  let c3_i32_521 : BitVec 32 := 3#32
  let c0_i32_522 : BitVec 32 := 0#32
  let v409 : BitVec 1 := Scalar.cmpi .eq c3_i32_521 c0_i32_522
  let c1_i32_523 : BitVec 32 := 1#32
  let v410 : BitVec 32 := Scalar.select v409 c1_i32_523 c3_i32_521
  let v411 : BitVec 32 := Scalar.remsi v408 v410
  let c0_i32_525 : BitVec 32 := 0#32
  let v413 : BitVec 1 := Scalar.cmpi .slt v411 c0_i32_525
  let c0_i32_526 : BitVec 32 := 0#32
  let v414 : BitVec 1 := Scalar.cmpi .slt v410 c0_i32_526
  let v415 : BitVec 1 := Scalar.xori v413 v414
  let c0_i32_524 : BitVec 32 := 0#32
  let v412 : BitVec 1 := Scalar.cmpi .ne v411 c0_i32_524
  let v416 : BitVec 1 := Scalar.andi v415 v412
  let v417 : BitVec 32 := Scalar.addi v411 v410
  let v418 : BitVec 32 := Scalar.select v416 v417 v411
  let c2048_i32_571 : BitVec 32 := 2048#32
  let c256_i32_572 : BitVec 32 := 256#32
  ![v418.toNat, 2048, 256]
def k0_off10 (k0_t1 : Fin k0_t1_loop.trips) : Fin 2 → Nat :=
  let c1_i32_250 : BitVec 32 := 1#32
  let c1_i32_252 : BitVec 32 := 1#32
  let arg15 : BitVec 32 := Scf.iv c1_i32_250 c1_i32_252 k0_t1
  let c3_i32_514 : BitVec 32 := 3#32
  let c0_i32_515 : BitVec 32 := 0#32
  let v398 : BitVec 1 := Scalar.cmpi .eq c3_i32_514 c0_i32_515
  let c1_i32_516 : BitVec 32 := 1#32
  let v399 : BitVec 32 := Scalar.select v398 c1_i32_516 c3_i32_514
  let v400 : BitVec 32 := Scalar.remsi arg15 v399
  let c0_i32_518 : BitVec 32 := 0#32
  let v402 : BitVec 1 := Scalar.cmpi .slt v400 c0_i32_518
  let c0_i32_519 : BitVec 32 := 0#32
  let v403 : BitVec 1 := Scalar.cmpi .slt v399 c0_i32_519
  let v404 : BitVec 1 := Scalar.xori v402 v403
  let c0_i32_517 : BitVec 32 := 0#32
  let v401 : BitVec 1 := Scalar.cmpi .ne v400 c0_i32_517
  let v405 : BitVec 1 := Scalar.andi v404 v401
  let v406 : BitVec 32 := Scalar.addi v400 v399
  let v407 : BitVec 32 := Scalar.select v405 v406 v400
  let c1_i32_576 : BitVec 32 := 1#32
  ![v407.toNat, 1]
def k0_off11 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c3_i32_514 : BitVec 32 := 3#32
  let c0_i32_515 : BitVec 32 := 0#32
  let v398 : BitVec 1 := Scalar.cmpi .eq c3_i32_514 c0_i32_515
  let c1_i32_516 : BitVec 32 := 1#32
  let v399 : BitVec 32 := Scalar.select v398 c1_i32_516 c3_i32_514
  let v400 : BitVec 32 := Scalar.remsi arg15 v399
  let c0_i32_518 : BitVec 32 := 0#32
  let v402 : BitVec 1 := Scalar.cmpi .slt v400 c0_i32_518
  let c0_i32_519 : BitVec 32 := 0#32
  let v403 : BitVec 1 := Scalar.cmpi .slt v399 c0_i32_519
  let v404 : BitVec 1 := Scalar.xori v402 v403
  let c0_i32_517 : BitVec 32 := 0#32
  let v401 : BitVec 1 := Scalar.cmpi .ne v400 c0_i32_517
  let v405 : BitVec 1 := Scalar.andi v404 v401
  let v406 : BitVec 32 := Scalar.addi v400 v399
  let v407 : BitVec 32 := Scalar.select v405 v406 v400
  let c2048_i32_579 : BitVec 32 := 2048#32
  let c0_i32_580 : BitVec 32 := 0#32
  ![v407.toNat, 2048, 0]
def k0_dev13 (d0 : Dev nD) : Nat :=
  let c0_i32_578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_43 : BitVec 32 := 15#32
  let v59 : BitVec 1 := Scalar.cmpi .eq v2 c15_i32_43
  let c12_i32_44 : BitVec 32 := 12#32
  let c14_i32_39 : BitVec 32 := 14#32
  let v55 : BitVec 1 := Scalar.cmpi .eq v2 c14_i32_39
  let c10_i32_40 : BitVec 32 := 10#32
  let c13_i32_35 : BitVec 32 := 13#32
  let v51 : BitVec 1 := Scalar.cmpi .eq v2 c13_i32_35
  let c14_i32_36 : BitVec 32 := 14#32
  let c12_i32_31 : BitVec 32 := 12#32
  let v47 : BitVec 1 := Scalar.cmpi .eq v2 c12_i32_31
  let c8_i32_32 : BitVec 32 := 8#32
  let c11_i32_28 : BitVec 32 := 11#32
  let v43 : BitVec 1 := Scalar.cmpi .eq v2 c11_i32_28
  let c15_i32 : BitVec 32 := 15#32
  let c10_i32_25 : BitVec 32 := 10#32
  let v39 : BitVec 1 := Scalar.cmpi .eq v2 c10_i32_25
  let c6_i32_26 : BitVec 32 := 6#32
  let c9_i32_22 : BitVec 32 := 9#32
  let v35 : BitVec 1 := Scalar.cmpi .eq v2 c9_i32_22
  let c13_i32 : BitVec 32 := 13#32
  let c8_i32_19 : BitVec 32 := 8#32
  let v31 : BitVec 1 := Scalar.cmpi .eq v2 c8_i32_19
  let c4_i32_20 : BitVec 32 := 4#32
  let c7_i32_16 : BitVec 32 := 7#32
  let v27 : BitVec 1 := Scalar.cmpi .eq v2 c7_i32_16
  let c11_i32 : BitVec 32 := 11#32
  let c6_i32_13 : BitVec 32 := 6#32
  let v23 : BitVec 1 := Scalar.cmpi .eq v2 c6_i32_13
  let c2_i32_14 : BitVec 32 := 2#32
  let c5_i32_10 : BitVec 32 := 5#32
  let v19 : BitVec 1 := Scalar.cmpi .eq v2 c5_i32_10
  let c9_i32 : BitVec 32 := 9#32
  let c4_i32_7 : BitVec 32 := 4#32
  let v15 : BitVec 1 := Scalar.cmpi .eq v2 c4_i32_7
  let c0_i32_8 : BitVec 32 := 0#32
  let c3_i32_4 : BitVec 32 := 3#32
  let v11 : BitVec 1 := Scalar.cmpi .eq v2 c3_i32_4
  let c7_i32 : BitVec 32 := 7#32
  let c2_i32 : BitVec 32 := 2#32
  let v7 : BitVec 1 := Scalar.cmpi .eq v2 c2_i32
  let c3_i32 : BitVec 32 := 3#32
  let c1_i32_0 : BitVec 32 := 1#32
  let v3 : BitVec 1 := Scalar.cmpi .eq v2 c1_i32_0
  let c5_i32 : BitVec 32 := 5#32
  let c1_i32_1 : BitVec 32 := 1#32
  let v4 : BitVec 32 := Scalar.select v3 c5_i32 c1_i32_1
  let v8 : BitVec 32 := Scalar.select v7 c3_i32 v4
  let v12 : BitVec 32 := Scalar.select v11 c7_i32 v8
  let v16 : BitVec 32 := Scalar.select v15 c0_i32_8 v12
  let v20 : BitVec 32 := Scalar.select v19 c9_i32 v16
  let v24 : BitVec 32 := Scalar.select v23 c2_i32_14 v20
  let v28 : BitVec 32 := Scalar.select v27 c11_i32 v24
  let v32 : BitVec 32 := Scalar.select v31 c4_i32_20 v28
  let v36 : BitVec 32 := Scalar.select v35 c13_i32 v32
  let v40 : BitVec 32 := Scalar.select v39 c6_i32_26 v36
  let v44 : BitVec 32 := Scalar.select v43 c15_i32 v40
  let v48 : BitVec 32 := Scalar.select v47 c8_i32_32 v44
  let v52 : BitVec 32 := Scalar.select v51 c14_i32_36 v48
  let v56 : BitVec 32 := Scalar.select v55 c10_i32_40 v52
  let v60 : BitVec 32 := Scalar.select v59 c12_i32_44 v56
  let c1_i32_577 : BitVec 32 := 1#32
  let v471 : BitVec 32 := Scalar.muli v60 c1_i32_577
  let v472 : BitVec 32 := Scalar.addi c0_i32_578 v471
  v472.toNat
def k0_off12 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c3_i32_514 : BitVec 32 := 3#32
  let c0_i32_515 : BitVec 32 := 0#32
  let v398 : BitVec 1 := Scalar.cmpi .eq c3_i32_514 c0_i32_515
  let c1_i32_516 : BitVec 32 := 1#32
  let v399 : BitVec 32 := Scalar.select v398 c1_i32_516 c3_i32_514
  let v400 : BitVec 32 := Scalar.remsi arg15 v399
  let c0_i32_518 : BitVec 32 := 0#32
  let v402 : BitVec 1 := Scalar.cmpi .slt v400 c0_i32_518
  let c0_i32_519 : BitVec 32 := 0#32
  let v403 : BitVec 1 := Scalar.cmpi .slt v399 c0_i32_519
  let v404 : BitVec 1 := Scalar.xori v402 v403
  let c0_i32_517 : BitVec 32 := 0#32
  let v401 : BitVec 1 := Scalar.cmpi .ne v400 c0_i32_517
  let v405 : BitVec 1 := Scalar.andi v404 v401
  let v406 : BitVec 32 := Scalar.addi v400 v399
  let v407 : BitVec 32 := Scalar.select v405 v406 v400
  let c2048_i32_587 : BitVec 32 := 2048#32
  let c256_i32_588 : BitVec 32 := 256#32
  ![v407.toNat, 2048, 256]
def k0_dev14 (d0 : Dev nD) : Nat :=
  let c0_i32_586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_41 : BitVec 32 := 14#32
  let v57 : BitVec 1 := Scalar.cmpi .eq v2 c14_i32_41
  let c13_i32_42 : BitVec 32 := 13#32
  let c13_i32_37 : BitVec 32 := 13#32
  let v53 : BitVec 1 := Scalar.cmpi .eq v2 c13_i32_37
  let c9_i32_38 : BitVec 32 := 9#32
  let c12_i32_33 : BitVec 32 := 12#32
  let v49 : BitVec 1 := Scalar.cmpi .eq v2 c12_i32_33
  let c15_i32_34 : BitVec 32 := 15#32
  let c11_i32_29 : BitVec 32 := 11#32
  let v45 : BitVec 1 := Scalar.cmpi .eq v2 c11_i32_29
  let c7_i32_30 : BitVec 32 := 7#32
  let c10_i32_27 : BitVec 32 := 10#32
  let v41 : BitVec 1 := Scalar.cmpi .eq v2 c10_i32_27
  let c14_i32 : BitVec 32 := 14#32
  let c9_i32_23 : BitVec 32 := 9#32
  let v37 : BitVec 1 := Scalar.cmpi .eq v2 c9_i32_23
  let c5_i32_24 : BitVec 32 := 5#32
  let c8_i32_21 : BitVec 32 := 8#32
  let v33 : BitVec 1 := Scalar.cmpi .eq v2 c8_i32_21
  let c12_i32 : BitVec 32 := 12#32
  let c7_i32_17 : BitVec 32 := 7#32
  let v29 : BitVec 1 := Scalar.cmpi .eq v2 c7_i32_17
  let c3_i32_18 : BitVec 32 := 3#32
  let c6_i32_15 : BitVec 32 := 6#32
  let v25 : BitVec 1 := Scalar.cmpi .eq v2 c6_i32_15
  let c10_i32 : BitVec 32 := 10#32
  let c5_i32_11 : BitVec 32 := 5#32
  let v21 : BitVec 1 := Scalar.cmpi .eq v2 c5_i32_11
  let c1_i32_12 : BitVec 32 := 1#32
  let c4_i32_9 : BitVec 32 := 4#32
  let v17 : BitVec 1 := Scalar.cmpi .eq v2 c4_i32_9
  let c8_i32 : BitVec 32 := 8#32
  let c3_i32_5 : BitVec 32 := 3#32
  let v13 : BitVec 1 := Scalar.cmpi .eq v2 c3_i32_5
  let c2_i32_6 : BitVec 32 := 2#32
  let c2_i32_3 : BitVec 32 := 2#32
  let v9 : BitVec 1 := Scalar.cmpi .eq v2 c2_i32_3
  let c6_i32 : BitVec 32 := 6#32
  let c1_i32_2 : BitVec 32 := 1#32
  let v5 : BitVec 1 := Scalar.cmpi .eq v2 c1_i32_2
  let c0_i32 : BitVec 32 := 0#32
  let c4_i32 : BitVec 32 := 4#32
  let v6 : BitVec 32 := Scalar.select v5 c0_i32 c4_i32
  let v10 : BitVec 32 := Scalar.select v9 c6_i32 v6
  let v14 : BitVec 32 := Scalar.select v13 c2_i32_6 v10
  let v18 : BitVec 32 := Scalar.select v17 c8_i32 v14
  let v22 : BitVec 32 := Scalar.select v21 c1_i32_12 v18
  let v26 : BitVec 32 := Scalar.select v25 c10_i32 v22
  let v30 : BitVec 32 := Scalar.select v29 c3_i32_18 v26
  let v34 : BitVec 32 := Scalar.select v33 c12_i32 v30
  let v38 : BitVec 32 := Scalar.select v37 c5_i32_24 v34
  let v42 : BitVec 32 := Scalar.select v41 c14_i32 v38
  let v46 : BitVec 32 := Scalar.select v45 c7_i32_30 v42
  let v50 : BitVec 32 := Scalar.select v49 c15_i32_34 v46
  let v54 : BitVec 32 := Scalar.select v53 c9_i32_38 v50
  let v58 : BitVec 32 := Scalar.select v57 c13_i32_42 v54
  let v62 : BitVec 32 := Scalar.select v61 c11_i32_46 v58
  let c1_i32_585 : BitVec 32 := 1#32
  let v481 : BitVec 32 := Scalar.muli v62 c1_i32_585
  let v482 : BitVec 32 := Scalar.addi c0_i32_586 v481
  v482.toNat
def k0_off13 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c1_i32_520 : BitVec 32 := 1#32
  let v408 : BitVec 32 := Scalar.subi arg15 c1_i32_520
  let c3_i32_521 : BitVec 32 := 3#32
  let c0_i32_522 : BitVec 32 := 0#32
  let v409 : BitVec 1 := Scalar.cmpi .eq c3_i32_521 c0_i32_522
  let c1_i32_523 : BitVec 32 := 1#32
  let v410 : BitVec 32 := Scalar.select v409 c1_i32_523 c3_i32_521
  let v411 : BitVec 32 := Scalar.remsi v408 v410
  let c0_i32_525 : BitVec 32 := 0#32
  let v413 : BitVec 1 := Scalar.cmpi .slt v411 c0_i32_525
  let c0_i32_526 : BitVec 32 := 0#32
  let v414 : BitVec 1 := Scalar.cmpi .slt v410 c0_i32_526
  let v415 : BitVec 1 := Scalar.xori v413 v414
  let c0_i32_524 : BitVec 32 := 0#32
  let v412 : BitVec 1 := Scalar.cmpi .ne v411 c0_i32_524
  let v416 : BitVec 1 := Scalar.andi v415 v412
  let v417 : BitVec 32 := Scalar.addi v411 v410
  let v418 : BitVec 32 := Scalar.select v416 v417 v411
  let c0_i32_595 : BitVec 32 := 0#32
  let c0_i32_596 : BitVec 32 := 0#32
  ![v418.toNat, 0, 0]
def k0_off14 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c1_i32_520 : BitVec 32 := 1#32
  let v408 : BitVec 32 := Scalar.subi arg15 c1_i32_520
  let c3_i32_521 : BitVec 32 := 3#32
  let c0_i32_522 : BitVec 32 := 0#32
  let v409 : BitVec 1 := Scalar.cmpi .eq c3_i32_521 c0_i32_522
  let c1_i32_523 : BitVec 32 := 1#32
  let v410 : BitVec 32 := Scalar.select v409 c1_i32_523 c3_i32_521
  let v411 : BitVec 32 := Scalar.remsi v408 v410
  let c0_i32_525 : BitVec 32 := 0#32
  let v413 : BitVec 1 := Scalar.cmpi .slt v411 c0_i32_525
  let c0_i32_526 : BitVec 32 := 0#32
  let v414 : BitVec 1 := Scalar.cmpi .slt v410 c0_i32_526
  let v415 : BitVec 1 := Scalar.xori v413 v414
  let c0_i32_524 : BitVec 32 := 0#32
  let v412 : BitVec 1 := Scalar.cmpi .ne v411 c0_i32_524
  let v416 : BitVec 1 := Scalar.andi v415 v412
  let v417 : BitVec 32 := Scalar.addi v411 v410
  let v418 : BitVec 32 := Scalar.select v416 v417 v411
  let c256_i32_603 : BitVec 32 := 256#32
  let c0_i32_604 : BitVec 32 := 0#32
  ![v418.toNat, 256, 0]
def k0_off15 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c3_i32_514 : BitVec 32 := 3#32
  let c0_i32_515 : BitVec 32 := 0#32
  let v398 : BitVec 1 := Scalar.cmpi .eq c3_i32_514 c0_i32_515
  let c1_i32_516 : BitVec 32 := 1#32
  let v399 : BitVec 32 := Scalar.select v398 c1_i32_516 c3_i32_514
  let v400 : BitVec 32 := Scalar.remsi arg15 v399
  let c0_i32_518 : BitVec 32 := 0#32
  let v402 : BitVec 1 := Scalar.cmpi .slt v400 c0_i32_518
  let c0_i32_519 : BitVec 32 := 0#32
  let v403 : BitVec 1 := Scalar.cmpi .slt v399 c0_i32_519
  let v404 : BitVec 1 := Scalar.xori v402 v403
  let c0_i32_517 : BitVec 32 := 0#32
  let v401 : BitVec 1 := Scalar.cmpi .ne v400 c0_i32_517
  let v405 : BitVec 1 := Scalar.andi v404 v401
  let v406 : BitVec 32 := Scalar.addi v400 v399
  let v407 : BitVec 32 := Scalar.select v405 v406 v400
  let c0_i32_611 : BitVec 32 := 0#32
  let c0_i32_612 : BitVec 32 := 0#32
  ![v407.toNat, 0, 0]
def k0_dev15 (d0 : Dev nD) : Nat :=
  let c0_i32_610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_43 : BitVec 32 := 15#32
  let v59 : BitVec 1 := Scalar.cmpi .eq v2 c15_i32_43
  let c12_i32_44 : BitVec 32 := 12#32
  let c14_i32_39 : BitVec 32 := 14#32
  let v55 : BitVec 1 := Scalar.cmpi .eq v2 c14_i32_39
  let c10_i32_40 : BitVec 32 := 10#32
  let c13_i32_35 : BitVec 32 := 13#32
  let v51 : BitVec 1 := Scalar.cmpi .eq v2 c13_i32_35
  let c14_i32_36 : BitVec 32 := 14#32
  let c12_i32_31 : BitVec 32 := 12#32
  let v47 : BitVec 1 := Scalar.cmpi .eq v2 c12_i32_31
  let c8_i32_32 : BitVec 32 := 8#32
  let c11_i32_28 : BitVec 32 := 11#32
  let v43 : BitVec 1 := Scalar.cmpi .eq v2 c11_i32_28
  let c15_i32 : BitVec 32 := 15#32
  let c10_i32_25 : BitVec 32 := 10#32
  let v39 : BitVec 1 := Scalar.cmpi .eq v2 c10_i32_25
  let c6_i32_26 : BitVec 32 := 6#32
  let c9_i32_22 : BitVec 32 := 9#32
  let v35 : BitVec 1 := Scalar.cmpi .eq v2 c9_i32_22
  let c13_i32 : BitVec 32 := 13#32
  let c8_i32_19 : BitVec 32 := 8#32
  let v31 : BitVec 1 := Scalar.cmpi .eq v2 c8_i32_19
  let c4_i32_20 : BitVec 32 := 4#32
  let c7_i32_16 : BitVec 32 := 7#32
  let v27 : BitVec 1 := Scalar.cmpi .eq v2 c7_i32_16
  let c11_i32 : BitVec 32 := 11#32
  let c6_i32_13 : BitVec 32 := 6#32
  let v23 : BitVec 1 := Scalar.cmpi .eq v2 c6_i32_13
  let c2_i32_14 : BitVec 32 := 2#32
  let c5_i32_10 : BitVec 32 := 5#32
  let v19 : BitVec 1 := Scalar.cmpi .eq v2 c5_i32_10
  let c9_i32 : BitVec 32 := 9#32
  let c4_i32_7 : BitVec 32 := 4#32
  let v15 : BitVec 1 := Scalar.cmpi .eq v2 c4_i32_7
  let c0_i32_8 : BitVec 32 := 0#32
  let c3_i32_4 : BitVec 32 := 3#32
  let v11 : BitVec 1 := Scalar.cmpi .eq v2 c3_i32_4
  let c7_i32 : BitVec 32 := 7#32
  let c2_i32 : BitVec 32 := 2#32
  let v7 : BitVec 1 := Scalar.cmpi .eq v2 c2_i32
  let c3_i32 : BitVec 32 := 3#32
  let c1_i32_0 : BitVec 32 := 1#32
  let v3 : BitVec 1 := Scalar.cmpi .eq v2 c1_i32_0
  let c5_i32 : BitVec 32 := 5#32
  let c1_i32_1 : BitVec 32 := 1#32
  let v4 : BitVec 32 := Scalar.select v3 c5_i32 c1_i32_1
  let v8 : BitVec 32 := Scalar.select v7 c3_i32 v4
  let v12 : BitVec 32 := Scalar.select v11 c7_i32 v8
  let v16 : BitVec 32 := Scalar.select v15 c0_i32_8 v12
  let v20 : BitVec 32 := Scalar.select v19 c9_i32 v16
  let v24 : BitVec 32 := Scalar.select v23 c2_i32_14 v20
  let v28 : BitVec 32 := Scalar.select v27 c11_i32 v24
  let v32 : BitVec 32 := Scalar.select v31 c4_i32_20 v28
  let v36 : BitVec 32 := Scalar.select v35 c13_i32 v32
  let v40 : BitVec 32 := Scalar.select v39 c6_i32_26 v36
  let v44 : BitVec 32 := Scalar.select v43 c15_i32 v40
  let v48 : BitVec 32 := Scalar.select v47 c8_i32_32 v44
  let v52 : BitVec 32 := Scalar.select v51 c14_i32_36 v48
  let v56 : BitVec 32 := Scalar.select v55 c10_i32_40 v52
  let v60 : BitVec 32 := Scalar.select v59 c12_i32_44 v56
  let c1_i32_609 : BitVec 32 := 1#32
  let v507 : BitVec 32 := Scalar.muli v60 c1_i32_609
  let v508 : BitVec 32 := Scalar.addi c0_i32_610 v507
  v508.toNat
def k0_off16 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c3_i32_514 : BitVec 32 := 3#32
  let c0_i32_515 : BitVec 32 := 0#32
  let v398 : BitVec 1 := Scalar.cmpi .eq c3_i32_514 c0_i32_515
  let c1_i32_516 : BitVec 32 := 1#32
  let v399 : BitVec 32 := Scalar.select v398 c1_i32_516 c3_i32_514
  let v400 : BitVec 32 := Scalar.remsi arg15 v399
  let c0_i32_518 : BitVec 32 := 0#32
  let v402 : BitVec 1 := Scalar.cmpi .slt v400 c0_i32_518
  let c0_i32_519 : BitVec 32 := 0#32
  let v403 : BitVec 1 := Scalar.cmpi .slt v399 c0_i32_519
  let v404 : BitVec 1 := Scalar.xori v402 v403
  let c0_i32_517 : BitVec 32 := 0#32
  let v401 : BitVec 1 := Scalar.cmpi .ne v400 c0_i32_517
  let v405 : BitVec 1 := Scalar.andi v404 v401
  let v406 : BitVec 32 := Scalar.addi v400 v399
  let v407 : BitVec 32 := Scalar.select v405 v406 v400
  let c256_i32_619 : BitVec 32 := 256#32
  let c0_i32_620 : BitVec 32 := 0#32
  ![v407.toNat, 256, 0]
def k0_dev16 (d0 : Dev nD) : Nat :=
  let c0_i32_618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_41 : BitVec 32 := 14#32
  let v57 : BitVec 1 := Scalar.cmpi .eq v2 c14_i32_41
  let c13_i32_42 : BitVec 32 := 13#32
  let c13_i32_37 : BitVec 32 := 13#32
  let v53 : BitVec 1 := Scalar.cmpi .eq v2 c13_i32_37
  let c9_i32_38 : BitVec 32 := 9#32
  let c12_i32_33 : BitVec 32 := 12#32
  let v49 : BitVec 1 := Scalar.cmpi .eq v2 c12_i32_33
  let c15_i32_34 : BitVec 32 := 15#32
  let c11_i32_29 : BitVec 32 := 11#32
  let v45 : BitVec 1 := Scalar.cmpi .eq v2 c11_i32_29
  let c7_i32_30 : BitVec 32 := 7#32
  let c10_i32_27 : BitVec 32 := 10#32
  let v41 : BitVec 1 := Scalar.cmpi .eq v2 c10_i32_27
  let c14_i32 : BitVec 32 := 14#32
  let c9_i32_23 : BitVec 32 := 9#32
  let v37 : BitVec 1 := Scalar.cmpi .eq v2 c9_i32_23
  let c5_i32_24 : BitVec 32 := 5#32
  let c8_i32_21 : BitVec 32 := 8#32
  let v33 : BitVec 1 := Scalar.cmpi .eq v2 c8_i32_21
  let c12_i32 : BitVec 32 := 12#32
  let c7_i32_17 : BitVec 32 := 7#32
  let v29 : BitVec 1 := Scalar.cmpi .eq v2 c7_i32_17
  let c3_i32_18 : BitVec 32 := 3#32
  let c6_i32_15 : BitVec 32 := 6#32
  let v25 : BitVec 1 := Scalar.cmpi .eq v2 c6_i32_15
  let c10_i32 : BitVec 32 := 10#32
  let c5_i32_11 : BitVec 32 := 5#32
  let v21 : BitVec 1 := Scalar.cmpi .eq v2 c5_i32_11
  let c1_i32_12 : BitVec 32 := 1#32
  let c4_i32_9 : BitVec 32 := 4#32
  let v17 : BitVec 1 := Scalar.cmpi .eq v2 c4_i32_9
  let c8_i32 : BitVec 32 := 8#32
  let c3_i32_5 : BitVec 32 := 3#32
  let v13 : BitVec 1 := Scalar.cmpi .eq v2 c3_i32_5
  let c2_i32_6 : BitVec 32 := 2#32
  let c2_i32_3 : BitVec 32 := 2#32
  let v9 : BitVec 1 := Scalar.cmpi .eq v2 c2_i32_3
  let c6_i32 : BitVec 32 := 6#32
  let c1_i32_2 : BitVec 32 := 1#32
  let v5 : BitVec 1 := Scalar.cmpi .eq v2 c1_i32_2
  let c0_i32 : BitVec 32 := 0#32
  let c4_i32 : BitVec 32 := 4#32
  let v6 : BitVec 32 := Scalar.select v5 c0_i32 c4_i32
  let v10 : BitVec 32 := Scalar.select v9 c6_i32 v6
  let v14 : BitVec 32 := Scalar.select v13 c2_i32_6 v10
  let v18 : BitVec 32 := Scalar.select v17 c8_i32 v14
  let v22 : BitVec 32 := Scalar.select v21 c1_i32_12 v18
  let v26 : BitVec 32 := Scalar.select v25 c10_i32 v22
  let v30 : BitVec 32 := Scalar.select v29 c3_i32_18 v26
  let v34 : BitVec 32 := Scalar.select v33 c12_i32 v30
  let v38 : BitVec 32 := Scalar.select v37 c5_i32_24 v34
  let v42 : BitVec 32 := Scalar.select v41 c14_i32 v38
  let v46 : BitVec 32 := Scalar.select v45 c7_i32_30 v42
  let v50 : BitVec 32 := Scalar.select v49 c15_i32_34 v46
  let v54 : BitVec 32 := Scalar.select v53 c9_i32_38 v50
  let v58 : BitVec 32 := Scalar.select v57 c13_i32_42 v54
  let v62 : BitVec 32 := Scalar.select v61 c11_i32_46 v58
  let c1_i32_617 : BitVec 32 := 1#32
  let v517 : BitVec 32 := Scalar.muli v62 c1_i32_617
  let v518 : BitVec 32 := Scalar.addi c0_i32_618 v517
  v518.toNat
def k0_off17 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c1_i32_520 : BitVec 32 := 1#32
  let v408 : BitVec 32 := Scalar.subi arg15 c1_i32_520
  let c3_i32_521 : BitVec 32 := 3#32
  let c0_i32_522 : BitVec 32 := 0#32
  let v409 : BitVec 1 := Scalar.cmpi .eq c3_i32_521 c0_i32_522
  let c1_i32_523 : BitVec 32 := 1#32
  let v410 : BitVec 32 := Scalar.select v409 c1_i32_523 c3_i32_521
  let v411 : BitVec 32 := Scalar.remsi v408 v410
  let c0_i32_525 : BitVec 32 := 0#32
  let v413 : BitVec 1 := Scalar.cmpi .slt v411 c0_i32_525
  let c0_i32_526 : BitVec 32 := 0#32
  let v414 : BitVec 1 := Scalar.cmpi .slt v410 c0_i32_526
  let v415 : BitVec 1 := Scalar.xori v413 v414
  let c0_i32_524 : BitVec 32 := 0#32
  let v412 : BitVec 1 := Scalar.cmpi .ne v411 c0_i32_524
  let v416 : BitVec 1 := Scalar.andi v415 v412
  let v417 : BitVec 32 := Scalar.addi v411 v410
  let v418 : BitVec 32 := Scalar.select v416 v417 v411
  let c128_i32_627 : BitVec 32 := 128#32
  let c0_i32_628 : BitVec 32 := 0#32
  ![v418.toNat, 128, 0]
def k0_off18 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c1_i32_520 : BitVec 32 := 1#32
  let v408 : BitVec 32 := Scalar.subi arg15 c1_i32_520
  let c3_i32_521 : BitVec 32 := 3#32
  let c0_i32_522 : BitVec 32 := 0#32
  let v409 : BitVec 1 := Scalar.cmpi .eq c3_i32_521 c0_i32_522
  let c1_i32_523 : BitVec 32 := 1#32
  let v410 : BitVec 32 := Scalar.select v409 c1_i32_523 c3_i32_521
  let v411 : BitVec 32 := Scalar.remsi v408 v410
  let c0_i32_525 : BitVec 32 := 0#32
  let v413 : BitVec 1 := Scalar.cmpi .slt v411 c0_i32_525
  let c0_i32_526 : BitVec 32 := 0#32
  let v414 : BitVec 1 := Scalar.cmpi .slt v410 c0_i32_526
  let v415 : BitVec 1 := Scalar.xori v413 v414
  let c0_i32_524 : BitVec 32 := 0#32
  let v412 : BitVec 1 := Scalar.cmpi .ne v411 c0_i32_524
  let v416 : BitVec 1 := Scalar.andi v415 v412
  let v417 : BitVec 32 := Scalar.addi v411 v410
  let v418 : BitVec 32 := Scalar.select v416 v417 v411
  let c384_i32_635 : BitVec 32 := 384#32
  let c0_i32_636 : BitVec 32 := 0#32
  ![v418.toNat, 384, 0]
def k0_off19 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c3_i32_514 : BitVec 32 := 3#32
  let c0_i32_515 : BitVec 32 := 0#32
  let v398 : BitVec 1 := Scalar.cmpi .eq c3_i32_514 c0_i32_515
  let c1_i32_516 : BitVec 32 := 1#32
  let v399 : BitVec 32 := Scalar.select v398 c1_i32_516 c3_i32_514
  let v400 : BitVec 32 := Scalar.remsi arg15 v399
  let c0_i32_518 : BitVec 32 := 0#32
  let v402 : BitVec 1 := Scalar.cmpi .slt v400 c0_i32_518
  let c0_i32_519 : BitVec 32 := 0#32
  let v403 : BitVec 1 := Scalar.cmpi .slt v399 c0_i32_519
  let v404 : BitVec 1 := Scalar.xori v402 v403
  let c0_i32_517 : BitVec 32 := 0#32
  let v401 : BitVec 1 := Scalar.cmpi .ne v400 c0_i32_517
  let v405 : BitVec 1 := Scalar.andi v404 v401
  let v406 : BitVec 32 := Scalar.addi v400 v399
  let v407 : BitVec 32 := Scalar.select v405 v406 v400
  let c128_i32_643 : BitVec 32 := 128#32
  let c0_i32_644 : BitVec 32 := 0#32
  ![v407.toNat, 128, 0]
def k0_dev17 (d0 : Dev nD) : Nat :=
  let c0_i32_642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_43 : BitVec 32 := 15#32
  let v59 : BitVec 1 := Scalar.cmpi .eq v2 c15_i32_43
  let c12_i32_44 : BitVec 32 := 12#32
  let c14_i32_39 : BitVec 32 := 14#32
  let v55 : BitVec 1 := Scalar.cmpi .eq v2 c14_i32_39
  let c10_i32_40 : BitVec 32 := 10#32
  let c13_i32_35 : BitVec 32 := 13#32
  let v51 : BitVec 1 := Scalar.cmpi .eq v2 c13_i32_35
  let c14_i32_36 : BitVec 32 := 14#32
  let c12_i32_31 : BitVec 32 := 12#32
  let v47 : BitVec 1 := Scalar.cmpi .eq v2 c12_i32_31
  let c8_i32_32 : BitVec 32 := 8#32
  let c11_i32_28 : BitVec 32 := 11#32
  let v43 : BitVec 1 := Scalar.cmpi .eq v2 c11_i32_28
  let c15_i32 : BitVec 32 := 15#32
  let c10_i32_25 : BitVec 32 := 10#32
  let v39 : BitVec 1 := Scalar.cmpi .eq v2 c10_i32_25
  let c6_i32_26 : BitVec 32 := 6#32
  let c9_i32_22 : BitVec 32 := 9#32
  let v35 : BitVec 1 := Scalar.cmpi .eq v2 c9_i32_22
  let c13_i32 : BitVec 32 := 13#32
  let c8_i32_19 : BitVec 32 := 8#32
  let v31 : BitVec 1 := Scalar.cmpi .eq v2 c8_i32_19
  let c4_i32_20 : BitVec 32 := 4#32
  let c7_i32_16 : BitVec 32 := 7#32
  let v27 : BitVec 1 := Scalar.cmpi .eq v2 c7_i32_16
  let c11_i32 : BitVec 32 := 11#32
  let c6_i32_13 : BitVec 32 := 6#32
  let v23 : BitVec 1 := Scalar.cmpi .eq v2 c6_i32_13
  let c2_i32_14 : BitVec 32 := 2#32
  let c5_i32_10 : BitVec 32 := 5#32
  let v19 : BitVec 1 := Scalar.cmpi .eq v2 c5_i32_10
  let c9_i32 : BitVec 32 := 9#32
  let c4_i32_7 : BitVec 32 := 4#32
  let v15 : BitVec 1 := Scalar.cmpi .eq v2 c4_i32_7
  let c0_i32_8 : BitVec 32 := 0#32
  let c3_i32_4 : BitVec 32 := 3#32
  let v11 : BitVec 1 := Scalar.cmpi .eq v2 c3_i32_4
  let c7_i32 : BitVec 32 := 7#32
  let c2_i32 : BitVec 32 := 2#32
  let v7 : BitVec 1 := Scalar.cmpi .eq v2 c2_i32
  let c3_i32 : BitVec 32 := 3#32
  let c1_i32_0 : BitVec 32 := 1#32
  let v3 : BitVec 1 := Scalar.cmpi .eq v2 c1_i32_0
  let c5_i32 : BitVec 32 := 5#32
  let c1_i32_1 : BitVec 32 := 1#32
  let v4 : BitVec 32 := Scalar.select v3 c5_i32 c1_i32_1
  let v8 : BitVec 32 := Scalar.select v7 c3_i32 v4
  let v12 : BitVec 32 := Scalar.select v11 c7_i32 v8
  let v16 : BitVec 32 := Scalar.select v15 c0_i32_8 v12
  let v20 : BitVec 32 := Scalar.select v19 c9_i32 v16
  let v24 : BitVec 32 := Scalar.select v23 c2_i32_14 v20
  let v28 : BitVec 32 := Scalar.select v27 c11_i32 v24
  let v32 : BitVec 32 := Scalar.select v31 c4_i32_20 v28
  let v36 : BitVec 32 := Scalar.select v35 c13_i32 v32
  let v40 : BitVec 32 := Scalar.select v39 c6_i32_26 v36
  let v44 : BitVec 32 := Scalar.select v43 c15_i32 v40
  let v48 : BitVec 32 := Scalar.select v47 c8_i32_32 v44
  let v52 : BitVec 32 := Scalar.select v51 c14_i32_36 v48
  let v56 : BitVec 32 := Scalar.select v55 c10_i32_40 v52
  let v60 : BitVec 32 := Scalar.select v59 c12_i32_44 v56
  let c1_i32_641 : BitVec 32 := 1#32
  let v543 : BitVec 32 := Scalar.muli v60 c1_i32_641
  let v544 : BitVec 32 := Scalar.addi c0_i32_642 v543
  v544.toNat
def k0_off20 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c3_i32_514 : BitVec 32 := 3#32
  let c0_i32_515 : BitVec 32 := 0#32
  let v398 : BitVec 1 := Scalar.cmpi .eq c3_i32_514 c0_i32_515
  let c1_i32_516 : BitVec 32 := 1#32
  let v399 : BitVec 32 := Scalar.select v398 c1_i32_516 c3_i32_514
  let v400 : BitVec 32 := Scalar.remsi arg15 v399
  let c0_i32_518 : BitVec 32 := 0#32
  let v402 : BitVec 1 := Scalar.cmpi .slt v400 c0_i32_518
  let c0_i32_519 : BitVec 32 := 0#32
  let v403 : BitVec 1 := Scalar.cmpi .slt v399 c0_i32_519
  let v404 : BitVec 1 := Scalar.xori v402 v403
  let c0_i32_517 : BitVec 32 := 0#32
  let v401 : BitVec 1 := Scalar.cmpi .ne v400 c0_i32_517
  let v405 : BitVec 1 := Scalar.andi v404 v401
  let v406 : BitVec 32 := Scalar.addi v400 v399
  let v407 : BitVec 32 := Scalar.select v405 v406 v400
  let c384_i32_651 : BitVec 32 := 384#32
  let c0_i32_652 : BitVec 32 := 0#32
  ![v407.toNat, 384, 0]
def k0_dev18 (d0 : Dev nD) : Nat :=
  let c0_i32_650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_41 : BitVec 32 := 14#32
  let v57 : BitVec 1 := Scalar.cmpi .eq v2 c14_i32_41
  let c13_i32_42 : BitVec 32 := 13#32
  let c13_i32_37 : BitVec 32 := 13#32
  let v53 : BitVec 1 := Scalar.cmpi .eq v2 c13_i32_37
  let c9_i32_38 : BitVec 32 := 9#32
  let c12_i32_33 : BitVec 32 := 12#32
  let v49 : BitVec 1 := Scalar.cmpi .eq v2 c12_i32_33
  let c15_i32_34 : BitVec 32 := 15#32
  let c11_i32_29 : BitVec 32 := 11#32
  let v45 : BitVec 1 := Scalar.cmpi .eq v2 c11_i32_29
  let c7_i32_30 : BitVec 32 := 7#32
  let c10_i32_27 : BitVec 32 := 10#32
  let v41 : BitVec 1 := Scalar.cmpi .eq v2 c10_i32_27
  let c14_i32 : BitVec 32 := 14#32
  let c9_i32_23 : BitVec 32 := 9#32
  let v37 : BitVec 1 := Scalar.cmpi .eq v2 c9_i32_23
  let c5_i32_24 : BitVec 32 := 5#32
  let c8_i32_21 : BitVec 32 := 8#32
  let v33 : BitVec 1 := Scalar.cmpi .eq v2 c8_i32_21
  let c12_i32 : BitVec 32 := 12#32
  let c7_i32_17 : BitVec 32 := 7#32
  let v29 : BitVec 1 := Scalar.cmpi .eq v2 c7_i32_17
  let c3_i32_18 : BitVec 32 := 3#32
  let c6_i32_15 : BitVec 32 := 6#32
  let v25 : BitVec 1 := Scalar.cmpi .eq v2 c6_i32_15
  let c10_i32 : BitVec 32 := 10#32
  let c5_i32_11 : BitVec 32 := 5#32
  let v21 : BitVec 1 := Scalar.cmpi .eq v2 c5_i32_11
  let c1_i32_12 : BitVec 32 := 1#32
  let c4_i32_9 : BitVec 32 := 4#32
  let v17 : BitVec 1 := Scalar.cmpi .eq v2 c4_i32_9
  let c8_i32 : BitVec 32 := 8#32
  let c3_i32_5 : BitVec 32 := 3#32
  let v13 : BitVec 1 := Scalar.cmpi .eq v2 c3_i32_5
  let c2_i32_6 : BitVec 32 := 2#32
  let c2_i32_3 : BitVec 32 := 2#32
  let v9 : BitVec 1 := Scalar.cmpi .eq v2 c2_i32_3
  let c6_i32 : BitVec 32 := 6#32
  let c1_i32_2 : BitVec 32 := 1#32
  let v5 : BitVec 1 := Scalar.cmpi .eq v2 c1_i32_2
  let c0_i32 : BitVec 32 := 0#32
  let c4_i32 : BitVec 32 := 4#32
  let v6 : BitVec 32 := Scalar.select v5 c0_i32 c4_i32
  let v10 : BitVec 32 := Scalar.select v9 c6_i32 v6
  let v14 : BitVec 32 := Scalar.select v13 c2_i32_6 v10
  let v18 : BitVec 32 := Scalar.select v17 c8_i32 v14
  let v22 : BitVec 32 := Scalar.select v21 c1_i32_12 v18
  let v26 : BitVec 32 := Scalar.select v25 c10_i32 v22
  let v30 : BitVec 32 := Scalar.select v29 c3_i32_18 v26
  let v34 : BitVec 32 := Scalar.select v33 c12_i32 v30
  let v38 : BitVec 32 := Scalar.select v37 c5_i32_24 v34
  let v42 : BitVec 32 := Scalar.select v41 c14_i32 v38
  let v46 : BitVec 32 := Scalar.select v45 c7_i32_30 v42
  let v50 : BitVec 32 := Scalar.select v49 c15_i32_34 v46
  let v54 : BitVec 32 := Scalar.select v53 c9_i32_38 v50
  let v58 : BitVec 32 := Scalar.select v57 c13_i32_42 v54
  let v62 : BitVec 32 := Scalar.select v61 c11_i32_46 v58
  let c1_i32_649 : BitVec 32 := 1#32
  let v553 : BitVec 32 := Scalar.muli v62 c1_i32_649
  let v554 : BitVec 32 := Scalar.addi c0_i32_650 v553
  v554.toNat
def k0_off21 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c1_i32_520 : BitVec 32 := 1#32
  let v408 : BitVec 32 := Scalar.subi arg15 c1_i32_520
  let c3_i32_521 : BitVec 32 := 3#32
  let c0_i32_522 : BitVec 32 := 0#32
  let v409 : BitVec 1 := Scalar.cmpi .eq c3_i32_521 c0_i32_522
  let c1_i32_523 : BitVec 32 := 1#32
  let v410 : BitVec 32 := Scalar.select v409 c1_i32_523 c3_i32_521
  let v411 : BitVec 32 := Scalar.remsi v408 v410
  let c0_i32_525 : BitVec 32 := 0#32
  let v413 : BitVec 1 := Scalar.cmpi .slt v411 c0_i32_525
  let c0_i32_526 : BitVec 32 := 0#32
  let v414 : BitVec 1 := Scalar.cmpi .slt v410 c0_i32_526
  let v415 : BitVec 1 := Scalar.xori v413 v414
  let c0_i32_524 : BitVec 32 := 0#32
  let v412 : BitVec 1 := Scalar.cmpi .ne v411 c0_i32_524
  let v416 : BitVec 1 := Scalar.andi v415 v412
  let v417 : BitVec 32 := Scalar.addi v411 v410
  let v418 : BitVec 32 := Scalar.select v416 v417 v411
  let v565 : Index := Scalar.indexCast v418
  let c0_657 : Index := 0#32
  let c0_658 : Index := 0#32
  ![v565.toNat, 0, 0]
def k0_off22 (k0_t1 : Fin k0_t1_loop.trips) : Fin 3 → Nat :=
  let c1_i32_250 : BitVec 32 := 1#32
  let c1_i32_252 : BitVec 32 := 1#32
  let arg15 : BitVec 32 := Scf.iv c1_i32_250 c1_i32_252 k0_t1
  let c1_i32_520 : BitVec 32 := 1#32
  let v408 : BitVec 32 := Scalar.subi arg15 c1_i32_520
  let c3_i32_521 : BitVec 32 := 3#32
  let c0_i32_522 : BitVec 32 := 0#32
  let v409 : BitVec 1 := Scalar.cmpi .eq c3_i32_521 c0_i32_522
  let c1_i32_523 : BitVec 32 := 1#32
  let v410 : BitVec 32 := Scalar.select v409 c1_i32_523 c3_i32_521
  let v411 : BitVec 32 := Scalar.remsi v408 v410
  let c0_i32_525 : BitVec 32 := 0#32
  let v413 : BitVec 1 := Scalar.cmpi .slt v411 c0_i32_525
  let c0_i32_526 : BitVec 32 := 0#32
  let v414 : BitVec 1 := Scalar.cmpi .slt v410 c0_i32_526
  let v415 : BitVec 1 := Scalar.xori v413 v414
  let c0_i32_524 : BitVec 32 := 0#32
  let v412 : BitVec 1 := Scalar.cmpi .ne v411 c0_i32_524
  let v416 : BitVec 1 := Scalar.andi v415 v412
  let v417 : BitVec 32 := Scalar.addi v411 v410
  let v418 : BitVec 32 := Scalar.select v416 v417 v411
  let v568 : Index := Scalar.indexCast v418
  let c0_659 : Index := 0#32
  let c0_660 : Index := 0#32
  ![v568.toNat, 0, 0]
def k0_dev19 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_43 : BitVec 32 := 15#32
  let v59 : BitVec 1 := Scalar.cmpi .eq v2 c15_i32_43
  let c12_i32_44 : BitVec 32 := 12#32
  let c14_i32_39 : BitVec 32 := 14#32
  let v55 : BitVec 1 := Scalar.cmpi .eq v2 c14_i32_39
  let c10_i32_40 : BitVec 32 := 10#32
  let c13_i32_35 : BitVec 32 := 13#32
  let v51 : BitVec 1 := Scalar.cmpi .eq v2 c13_i32_35
  let c14_i32_36 : BitVec 32 := 14#32
  let c12_i32_31 : BitVec 32 := 12#32
  let v47 : BitVec 1 := Scalar.cmpi .eq v2 c12_i32_31
  let c8_i32_32 : BitVec 32 := 8#32
  let c11_i32_28 : BitVec 32 := 11#32
  let v43 : BitVec 1 := Scalar.cmpi .eq v2 c11_i32_28
  let c15_i32 : BitVec 32 := 15#32
  let c10_i32_25 : BitVec 32 := 10#32
  let v39 : BitVec 1 := Scalar.cmpi .eq v2 c10_i32_25
  let c6_i32_26 : BitVec 32 := 6#32
  let c9_i32_22 : BitVec 32 := 9#32
  let v35 : BitVec 1 := Scalar.cmpi .eq v2 c9_i32_22
  let c13_i32 : BitVec 32 := 13#32
  let c8_i32_19 : BitVec 32 := 8#32
  let v31 : BitVec 1 := Scalar.cmpi .eq v2 c8_i32_19
  let c4_i32_20 : BitVec 32 := 4#32
  let c7_i32_16 : BitVec 32 := 7#32
  let v27 : BitVec 1 := Scalar.cmpi .eq v2 c7_i32_16
  let c11_i32 : BitVec 32 := 11#32
  let c6_i32_13 : BitVec 32 := 6#32
  let v23 : BitVec 1 := Scalar.cmpi .eq v2 c6_i32_13
  let c2_i32_14 : BitVec 32 := 2#32
  let c5_i32_10 : BitVec 32 := 5#32
  let v19 : BitVec 1 := Scalar.cmpi .eq v2 c5_i32_10
  let c9_i32 : BitVec 32 := 9#32
  let c4_i32_7 : BitVec 32 := 4#32
  let v15 : BitVec 1 := Scalar.cmpi .eq v2 c4_i32_7
  let c0_i32_8 : BitVec 32 := 0#32
  let c3_i32_4 : BitVec 32 := 3#32
  let v11 : BitVec 1 := Scalar.cmpi .eq v2 c3_i32_4
  let c7_i32 : BitVec 32 := 7#32
  let c2_i32 : BitVec 32 := 2#32
  let v7 : BitVec 1 := Scalar.cmpi .eq v2 c2_i32
  let c3_i32 : BitVec 32 := 3#32
  let c1_i32_0 : BitVec 32 := 1#32
  let v3 : BitVec 1 := Scalar.cmpi .eq v2 c1_i32_0
  let c5_i32 : BitVec 32 := 5#32
  let c1_i32_1 : BitVec 32 := 1#32
  let v4 : BitVec 32 := Scalar.select v3 c5_i32 c1_i32_1
  let v8 : BitVec 32 := Scalar.select v7 c3_i32 v4
  let v12 : BitVec 32 := Scalar.select v11 c7_i32 v8
  let v16 : BitVec 32 := Scalar.select v15 c0_i32_8 v12
  let v20 : BitVec 32 := Scalar.select v19 c9_i32 v16
  let v24 : BitVec 32 := Scalar.select v23 c2_i32_14 v20
  let v28 : BitVec 32 := Scalar.select v27 c11_i32 v24
  let v32 : BitVec 32 := Scalar.select v31 c4_i32_20 v28
  let v36 : BitVec 32 := Scalar.select v35 c13_i32 v32
  let v40 : BitVec 32 := Scalar.select v39 c6_i32_26 v36
  let v44 : BitVec 32 := Scalar.select v43 c15_i32 v40
  let v48 : BitVec 32 := Scalar.select v47 c8_i32_32 v44
  let v52 : BitVec 32 := Scalar.select v51 c14_i32_36 v48
  let v56 : BitVec 32 := Scalar.select v55 c10_i32_40 v52
  let v60 : BitVec 32 := Scalar.select v59 c12_i32_44 v56
  let c1_i32_284 : BitVec 32 := 1#32
  let v229 : BitVec 32 := Scalar.muli v60 c1_i32_284
  let v230 : BitVec 32 := Scalar.addi c0_i32_285 v229
  v230.toNat
def k0_dev20 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_43 : BitVec 32 := 15#32
  let v59 : BitVec 1 := Scalar.cmpi .eq v2 c15_i32_43
  let c12_i32_44 : BitVec 32 := 12#32
  let c14_i32_39 : BitVec 32 := 14#32
  let v55 : BitVec 1 := Scalar.cmpi .eq v2 c14_i32_39
  let c10_i32_40 : BitVec 32 := 10#32
  let c13_i32_35 : BitVec 32 := 13#32
  let v51 : BitVec 1 := Scalar.cmpi .eq v2 c13_i32_35
  let c14_i32_36 : BitVec 32 := 14#32
  let c12_i32_31 : BitVec 32 := 12#32
  let v47 : BitVec 1 := Scalar.cmpi .eq v2 c12_i32_31
  let c8_i32_32 : BitVec 32 := 8#32
  let c11_i32_28 : BitVec 32 := 11#32
  let v43 : BitVec 1 := Scalar.cmpi .eq v2 c11_i32_28
  let c15_i32 : BitVec 32 := 15#32
  let c10_i32_25 : BitVec 32 := 10#32
  let v39 : BitVec 1 := Scalar.cmpi .eq v2 c10_i32_25
  let c6_i32_26 : BitVec 32 := 6#32
  let c9_i32_22 : BitVec 32 := 9#32
  let v35 : BitVec 1 := Scalar.cmpi .eq v2 c9_i32_22
  let c13_i32 : BitVec 32 := 13#32
  let c8_i32_19 : BitVec 32 := 8#32
  let v31 : BitVec 1 := Scalar.cmpi .eq v2 c8_i32_19
  let c4_i32_20 : BitVec 32 := 4#32
  let c7_i32_16 : BitVec 32 := 7#32
  let v27 : BitVec 1 := Scalar.cmpi .eq v2 c7_i32_16
  let c11_i32 : BitVec 32 := 11#32
  let c6_i32_13 : BitVec 32 := 6#32
  let v23 : BitVec 1 := Scalar.cmpi .eq v2 c6_i32_13
  let c2_i32_14 : BitVec 32 := 2#32
  let c5_i32_10 : BitVec 32 := 5#32
  let v19 : BitVec 1 := Scalar.cmpi .eq v2 c5_i32_10
  let c9_i32 : BitVec 32 := 9#32
  let c4_i32_7 : BitVec 32 := 4#32
  let v15 : BitVec 1 := Scalar.cmpi .eq v2 c4_i32_7
  let c0_i32_8 : BitVec 32 := 0#32
  let c3_i32_4 : BitVec 32 := 3#32
  let v11 : BitVec 1 := Scalar.cmpi .eq v2 c3_i32_4
  let c7_i32 : BitVec 32 := 7#32
  let c2_i32 : BitVec 32 := 2#32
  let v7 : BitVec 1 := Scalar.cmpi .eq v2 c2_i32
  let c3_i32 : BitVec 32 := 3#32
  let c1_i32_0 : BitVec 32 := 1#32
  let v3 : BitVec 1 := Scalar.cmpi .eq v2 c1_i32_0
  let c5_i32 : BitVec 32 := 5#32
  let c1_i32_1 : BitVec 32 := 1#32
  let v4 : BitVec 32 := Scalar.select v3 c5_i32 c1_i32_1
  let v8 : BitVec 32 := Scalar.select v7 c3_i32 v4
  let v12 : BitVec 32 := Scalar.select v11 c7_i32 v8
  let v16 : BitVec 32 := Scalar.select v15 c0_i32_8 v12
  let v20 : BitVec 32 := Scalar.select v19 c9_i32 v16
  let v24 : BitVec 32 := Scalar.select v23 c2_i32_14 v20
  let v28 : BitVec 32 := Scalar.select v27 c11_i32 v24
  let v32 : BitVec 32 := Scalar.select v31 c4_i32_20 v28
  let v36 : BitVec 32 := Scalar.select v35 c13_i32 v32
  let v40 : BitVec 32 := Scalar.select v39 c6_i32_26 v36
  let v44 : BitVec 32 := Scalar.select v43 c15_i32 v40
  let v48 : BitVec 32 := Scalar.select v47 c8_i32_32 v44
  let v52 : BitVec 32 := Scalar.select v51 c14_i32_36 v48
  let v56 : BitVec 32 := Scalar.select v55 c10_i32_40 v52
  let v60 : BitVec 32 := Scalar.select v59 c12_i32_44 v56
  let c1_i32_320 : BitVec 32 := 1#32
  let v255 : BitVec 32 := Scalar.muli v60 c1_i32_320
  let v256 : BitVec 32 := Scalar.addi c0_i32_321 v255
  v256.toNat
def k0_dev21 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_43 : BitVec 32 := 15#32
  let v59 : BitVec 1 := Scalar.cmpi .eq v2 c15_i32_43
  let c12_i32_44 : BitVec 32 := 12#32
  let c14_i32_39 : BitVec 32 := 14#32
  let v55 : BitVec 1 := Scalar.cmpi .eq v2 c14_i32_39
  let c10_i32_40 : BitVec 32 := 10#32
  let c13_i32_35 : BitVec 32 := 13#32
  let v51 : BitVec 1 := Scalar.cmpi .eq v2 c13_i32_35
  let c14_i32_36 : BitVec 32 := 14#32
  let c12_i32_31 : BitVec 32 := 12#32
  let v47 : BitVec 1 := Scalar.cmpi .eq v2 c12_i32_31
  let c8_i32_32 : BitVec 32 := 8#32
  let c11_i32_28 : BitVec 32 := 11#32
  let v43 : BitVec 1 := Scalar.cmpi .eq v2 c11_i32_28
  let c15_i32 : BitVec 32 := 15#32
  let c10_i32_25 : BitVec 32 := 10#32
  let v39 : BitVec 1 := Scalar.cmpi .eq v2 c10_i32_25
  let c6_i32_26 : BitVec 32 := 6#32
  let c9_i32_22 : BitVec 32 := 9#32
  let v35 : BitVec 1 := Scalar.cmpi .eq v2 c9_i32_22
  let c13_i32 : BitVec 32 := 13#32
  let c8_i32_19 : BitVec 32 := 8#32
  let v31 : BitVec 1 := Scalar.cmpi .eq v2 c8_i32_19
  let c4_i32_20 : BitVec 32 := 4#32
  let c7_i32_16 : BitVec 32 := 7#32
  let v27 : BitVec 1 := Scalar.cmpi .eq v2 c7_i32_16
  let c11_i32 : BitVec 32 := 11#32
  let c6_i32_13 : BitVec 32 := 6#32
  let v23 : BitVec 1 := Scalar.cmpi .eq v2 c6_i32_13
  let c2_i32_14 : BitVec 32 := 2#32
  let c5_i32_10 : BitVec 32 := 5#32
  let v19 : BitVec 1 := Scalar.cmpi .eq v2 c5_i32_10
  let c9_i32 : BitVec 32 := 9#32
  let c4_i32_7 : BitVec 32 := 4#32
  let v15 : BitVec 1 := Scalar.cmpi .eq v2 c4_i32_7
  let c0_i32_8 : BitVec 32 := 0#32
  let c3_i32_4 : BitVec 32 := 3#32
  let v11 : BitVec 1 := Scalar.cmpi .eq v2 c3_i32_4
  let c7_i32 : BitVec 32 := 7#32
  let c2_i32 : BitVec 32 := 2#32
  let v7 : BitVec 1 := Scalar.cmpi .eq v2 c2_i32
  let c3_i32 : BitVec 32 := 3#32
  let c1_i32_0 : BitVec 32 := 1#32
  let v3 : BitVec 1 := Scalar.cmpi .eq v2 c1_i32_0
  let c5_i32 : BitVec 32 := 5#32
  let c1_i32_1 : BitVec 32 := 1#32
  let v4 : BitVec 32 := Scalar.select v3 c5_i32 c1_i32_1
  let v8 : BitVec 32 := Scalar.select v7 c3_i32 v4
  let v12 : BitVec 32 := Scalar.select v11 c7_i32 v8
  let v16 : BitVec 32 := Scalar.select v15 c0_i32_8 v12
  let v20 : BitVec 32 := Scalar.select v19 c9_i32 v16
  let v24 : BitVec 32 := Scalar.select v23 c2_i32_14 v20
  let v28 : BitVec 32 := Scalar.select v27 c11_i32 v24
  let v32 : BitVec 32 := Scalar.select v31 c4_i32_20 v28
  let v36 : BitVec 32 := Scalar.select v35 c13_i32 v32
  let v40 : BitVec 32 := Scalar.select v39 c6_i32_26 v36
  let v44 : BitVec 32 := Scalar.select v43 c15_i32 v40
  let v48 : BitVec 32 := Scalar.select v47 c8_i32_32 v44
  let v52 : BitVec 32 := Scalar.select v51 c14_i32_36 v48
  let v56 : BitVec 32 := Scalar.select v55 c10_i32_40 v52
  let v60 : BitVec 32 := Scalar.select v59 c12_i32_44 v56
  let c1_i32_356 : BitVec 32 := 1#32
  let v281 : BitVec 32 := Scalar.muli v60 c1_i32_356
  let v282 : BitVec 32 := Scalar.addi c0_i32_357 v281
  v282.toNat
def k0_dev22 (d0 : Dev nD) : Nat :=
  let c0_i32_393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_43 : BitVec 32 := 15#32
  let v59 : BitVec 1 := Scalar.cmpi .eq v2 c15_i32_43
  let c12_i32_44 : BitVec 32 := 12#32
  let c14_i32_39 : BitVec 32 := 14#32
  let v55 : BitVec 1 := Scalar.cmpi .eq v2 c14_i32_39
  let c10_i32_40 : BitVec 32 := 10#32
  let c13_i32_35 : BitVec 32 := 13#32
  let v51 : BitVec 1 := Scalar.cmpi .eq v2 c13_i32_35
  let c14_i32_36 : BitVec 32 := 14#32
  let c12_i32_31 : BitVec 32 := 12#32
  let v47 : BitVec 1 := Scalar.cmpi .eq v2 c12_i32_31
  let c8_i32_32 : BitVec 32 := 8#32
  let c11_i32_28 : BitVec 32 := 11#32
  let v43 : BitVec 1 := Scalar.cmpi .eq v2 c11_i32_28
  let c15_i32 : BitVec 32 := 15#32
  let c10_i32_25 : BitVec 32 := 10#32
  let v39 : BitVec 1 := Scalar.cmpi .eq v2 c10_i32_25
  let c6_i32_26 : BitVec 32 := 6#32
  let c9_i32_22 : BitVec 32 := 9#32
  let v35 : BitVec 1 := Scalar.cmpi .eq v2 c9_i32_22
  let c13_i32 : BitVec 32 := 13#32
  let c8_i32_19 : BitVec 32 := 8#32
  let v31 : BitVec 1 := Scalar.cmpi .eq v2 c8_i32_19
  let c4_i32_20 : BitVec 32 := 4#32
  let c7_i32_16 : BitVec 32 := 7#32
  let v27 : BitVec 1 := Scalar.cmpi .eq v2 c7_i32_16
  let c11_i32 : BitVec 32 := 11#32
  let c6_i32_13 : BitVec 32 := 6#32
  let v23 : BitVec 1 := Scalar.cmpi .eq v2 c6_i32_13
  let c2_i32_14 : BitVec 32 := 2#32
  let c5_i32_10 : BitVec 32 := 5#32
  let v19 : BitVec 1 := Scalar.cmpi .eq v2 c5_i32_10
  let c9_i32 : BitVec 32 := 9#32
  let c4_i32_7 : BitVec 32 := 4#32
  let v15 : BitVec 1 := Scalar.cmpi .eq v2 c4_i32_7
  let c0_i32_8 : BitVec 32 := 0#32
  let c3_i32_4 : BitVec 32 := 3#32
  let v11 : BitVec 1 := Scalar.cmpi .eq v2 c3_i32_4
  let c7_i32 : BitVec 32 := 7#32
  let c2_i32 : BitVec 32 := 2#32
  let v7 : BitVec 1 := Scalar.cmpi .eq v2 c2_i32
  let c3_i32 : BitVec 32 := 3#32
  let c1_i32_0 : BitVec 32 := 1#32
  let v3 : BitVec 1 := Scalar.cmpi .eq v2 c1_i32_0
  let c5_i32 : BitVec 32 := 5#32
  let c1_i32_1 : BitVec 32 := 1#32
  let v4 : BitVec 32 := Scalar.select v3 c5_i32 c1_i32_1
  let v8 : BitVec 32 := Scalar.select v7 c3_i32 v4
  let v12 : BitVec 32 := Scalar.select v11 c7_i32 v8
  let v16 : BitVec 32 := Scalar.select v15 c0_i32_8 v12
  let v20 : BitVec 32 := Scalar.select v19 c9_i32 v16
  let v24 : BitVec 32 := Scalar.select v23 c2_i32_14 v20
  let v28 : BitVec 32 := Scalar.select v27 c11_i32 v24
  let v32 : BitVec 32 := Scalar.select v31 c4_i32_20 v28
  let v36 : BitVec 32 := Scalar.select v35 c13_i32 v32
  let v40 : BitVec 32 := Scalar.select v39 c6_i32_26 v36
  let v44 : BitVec 32 := Scalar.select v43 c15_i32 v40
  let v48 : BitVec 32 := Scalar.select v47 c8_i32_32 v44
  let v52 : BitVec 32 := Scalar.select v51 c14_i32_36 v48
  let v56 : BitVec 32 := Scalar.select v55 c10_i32_40 v52
  let v60 : BitVec 32 := Scalar.select v59 c12_i32_44 v56
  let c1_i32_392 : BitVec 32 := 1#32
  let v307 : BitVec 32 := Scalar.muli v60 c1_i32_392
  let v308 : BitVec 32 := Scalar.addi c0_i32_393 v307
  v308.toNat
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdealRing.lean ====
/-
# The two-way ring: devices, buffers' pieces, cells and the schedule

The sixteen devices stand on a ring that visits neighbouring devices of the 4 × 4 grid in turn. Every device sends
its block of `x` and of `w` both ways round the ring, in four flows each way (two halves of `x`, two of `w`), eight
steps to the right and seven to the left. A block that arrives at step `s` is stored in slot `s % 3` of the scratch
buffers, added to the result at step `s + 1`, and sent on at the same step.

* Flow `φ : Fin 8`: `φ / 4` is the direction (0 to the right, 1 to the left), `φ / 2 % 2` the operand (0 for `x`, 1
  for `w`), `φ % 2` the half.
* Each flow and slot has a send semaphore and a receive semaphore. Their rounds are the steps: step `s` uses slot
  `s % 3`, round `s / 3`. One duty per round.
* The receive cell's payload is the landed piece, with its contents, and — the flow control — the sender's own piece
  that the opposite flow's next message overwrites.
* The send cell's payload is the share of the source piece the transfer reads through.
* The barrier semaphore's two duties hand the neighbours the pieces of slot 0.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR
abbrev 𝒱₀ : Variants := Variants.none

/-! ## The ring -/

/-- The right neighbour. -/
def nxt (c : Dev nD) : Dev nD := (![1, 5, 3, 7, 0, 9, 2, 11, 4, 13, 6, 15, 8, 14, 10, 12] : Fin 16 → Fin 16) c
/-- The left neighbour. -/
def prv (c : Dev nD) : Dev nD := (![4, 0, 6, 2, 8, 1, 10, 3, 12, 5, 14, 7, 15, 9, 13, 11] : Fin 16 → Fin 16) c

theorem prv_nxt (c : Dev nD) : prv (nxt c) = c := by revert c; decide
theorem nxt_prv (c : Dev nD) : nxt (prv c) = c := by revert c; decide

/-- One step to the right, as a permutation of the devices. -/
def ring : Dev nD ≃ Dev nD := ⟨nxt, prv, prv_nxt, nxt_prv⟩

/-! ## Flows -/

/-- The direction: 0 right, 1 left. -/
def dir (φ : Fin 8) : ℕ := φ.val / 4
/-- The operand: 0 for `x`, 1 for `w`. -/
def kd (φ : Fin 8) : ℕ := φ.val / 2 % 2
/-- The half. -/
def hf (φ : Fin 8) : ℕ := φ.val % 2
/-- The flow the other way round of the same operand and half. -/
def opp (φ : Fin 8) : Fin 8 := φ + 4
/-- The number of messages of a flow. -/
def lim (φ : Fin 8) : ℕ := if φ.val < 4 then 8 else 7
/-- Where device `c` sends flow `φ`. -/
def tgt (φ : Fin 8) (c : Dev nD) : Dev nD := if φ.val < 4 then nxt c else prv c

theorem tgt_opp (φ : Fin 8) (c : Dev nD) : tgt (opp φ) (tgt φ c) = c := by revert φ c; decide
theorem opp_opp (φ : Fin 8) : opp (opp φ) = φ := by revert φ; decide
theorem kd_opp (φ : Fin 8) : kd (opp φ) = kd φ := by revert φ; decide
theorem kd_lt (φ : Fin 8) : kd φ = 0 ∨ kd φ = 1 := by revert φ; decide

/-! ## Semaphores -/

/-- The number of the semaphore of flow `φ` at step `s`: send (`r = 0`) or receive (`r = 1`). -/
def semN (r : ℕ) (φ : Fin 8) (s : ℕ) : ℕ := 5 + 24 * dir φ + 12 * kd φ + 6 * r + 2 * (s % 3) + hf φ
theorem semN_lt {r : ℕ} (hr : r < 2) (φ : Fin 8) (s : ℕ) : semN r φ s < 53 := by
  have := φ.isLt; unfold semN dir kd hf; omega

/-- The send semaphore of flow `φ` at step `s`. -/
def sS (φ : Fin 8) (s : ℕ) : DmaSem sig := ⟨semN 0 φ s, semN_lt (by decide) φ s⟩
/-- The receive semaphore of flow `φ` at step `s`. -/
def rS (φ : Fin 8) (s : ℕ) : DmaSem sig := ⟨semN 1 φ s, semN_lt (by decide) φ s⟩

/-- The barrier semaphore. -/
abbrev bar : Sem sig := (SemArray.scalar (sig.barrier 0 rfl) : Sems sig S_).sem

/-- The flow, the slot and the role of a semaphore's number. -/
def flowOf (q : ℕ) : Fin 8 := ⟨(4 * ((q - 5) / 24) + 2 * ((q - 5) / 12 % 2) + (q - 5) % 2) % 8, Nat.mod_lt _ (by decide)⟩
def slotOf (q : ℕ) : ℕ := (q - 5) % 6 / 2
def roleOf (q : ℕ) : ℕ := (q - 5) / 6 % 2

theorem flowOf_semN {r : ℕ} (hr : r < 2) (φ : Fin 8) (s : ℕ) : flowOf (semN r φ s) = φ := by
  unfold semN; have hu : s % 3 < 3 := Nat.mod_lt _ (by decide)
  generalize s % 3 = u at hu ⊢; interval_cases r <;> interval_cases u <;> revert φ <;> decide
theorem slotOf_semN {r : ℕ} (hr : r < 2) (φ : Fin 8) (s : ℕ) : slotOf (semN r φ s) = s % 3 := by
  unfold semN; have hu : s % 3 < 3 := Nat.mod_lt _ (by decide)
  generalize s % 3 = u at hu ⊢; interval_cases r <;> interval_cases u <;> revert φ <;> decide
theorem roleOf_semN {r : ℕ} (hr : r < 2) (φ : Fin 8) (s : ℕ) : roleOf (semN r φ s) = r := by
  unfold semN; have hu : s % 3 < 3 := Nat.mod_lt _ (by decide)
  generalize s % 3 = u at hu ⊢; interval_cases r <;> interval_cases u <;> revert φ <;> decide

theorem sS_mod {φ : Fin 8} {s s' : ℕ} (h : s % 3 = s' % 3) : sS φ s = sS φ s' := by
  apply Fin.ext; simp only [sS, semN, h]
theorem rS_mod {φ : Fin 8} {s s' : ℕ} (h : s % 3 = s' % 3) : rS φ s = rS φ s' := by
  apply Fin.ext; simp only [rS, semN, h]

abbrev barC (c : Dev nD) : GSem nD τ sig := ((c : Thread nD τ), .reg bar)
abbrev sC (c : Dev nD) (φ : Fin 8) (s : ℕ) : GSem nD τ sig := ((c : Thread nD τ), .dma (sS φ s))
abbrev rC (c : Dev nD) (φ : Fin 8) (s : ℕ) : GSem nD τ sig := ((c : Thread nD τ), .dma (rS φ s))

/-! ## Pieces of the two scratch buffers -/

abbrev xL (c : Dev nD) : Loc nD τ sig := (c : Thread nD τ).loc cc0_scratch0
abbrev wL (c : Dev nD) : Loc nD τ sig := (c : Thread nD τ).loc cc0_scratch1

/-- Slot `u`, half `h`, side `d` of the `x` buffer: 2048 rows of one side's 256 columns. -/
def xset (u h d : ℕ) : Finset S3x4096x512.Idx :=
  Finset.univ.filter fun i => (i 0).val = u ∧ (i 1).val / 2048 = h ∧ (i 2).val / 256 = d
/-- Slot `u`, half `h`, side `d` of the `w` buffer: 128 of one side's 256 rows. -/
def wset (u h d : ℕ) : Finset S3x512x2048.Idx :=
  Finset.univ.filter fun i => (i 0).val = u ∧ (i 1).val / 128 = 2 * d + h

theorem mem_xset {u h d : ℕ} {i : S3x4096x512.Idx} :
    i ∈ xset u h d ↔ (i 0).val = u ∧ (i 1).val / 2048 = h ∧ (i 2).val / 256 = d := by
  simp only [xset, Finset.mem_filter, Finset.mem_univ, true_and]
theorem mem_wset {u h d : ℕ} {i : S3x512x2048.Idx} :
    i ∈ wset u h d ↔ (i 0).val = u ∧ (i 1).val / 128 = 2 * d + h := by
  simp only [wset, Finset.mem_filter, Finset.mem_univ, true_and]

/-- The part of the `x` buffer a transfer's side names, through the program's slice. -/
theorem xview_set (off : Fin 3 → ℕ) (inb) {u h d : ℕ} (ho : off = ![u, 2048 * h, 256 * d]) :
    (((Memref.whole cc0_scratch0).slice (Rect.unit (s := S3x4096x512) off S1x2048x256.size inb) (fun _ => rfl)).squeeze S2048x256
      squeezes_S1x2048x256_S2048x256 : Memref sig .tc .vmem S2048x256 .fp8e4m3).view.set = xset u h d := by
  subst ho
  show ((View.reshape ((View.whole cc0_scratch0).slice _) _ _)).set = _
  rw [View.set_reshape, View.set_slice_whole]
  ext i
  rw [Rect.mem_set_unit, mem_xset]
  have h0 : (i 0).val < 3 := (i 0).isLt
  have h1 : (i 1).val < 4096 := (i 1).isLt
  have h2 : (i 2).val < 512 := (i 2).isLt
  constructor
  · intro hi
    have a0 := hi 0; have a1 := hi 1; have a2 := hi 2
    have b0 : u ≤ (i 0).val ∧ (i 0).val < u + 1 := a0
    have b1 : 2048 * h ≤ (i 1).val ∧ (i 1).val < 2048 * h + 2048 := a1
    have b2 : 256 * d ≤ (i 2).val ∧ (i 2).val < 256 * d + 256 := a2
    refine ⟨?_, ?_, ?_⟩ <;> omega
  · rintro ⟨e0, e1, e2⟩ a
    match a with
    | 0 => exact (show u ≤ (i 0).val ∧ (i 0).val < u + 1 from by omega)
    | 1 => exact (show 2048 * h ≤ (i 1).val ∧ (i 1).val < 2048 * h + 2048 from by omega)
    | 2 => exact (show 256 * d ≤ (i 2).val ∧ (i 2).val < 256 * d + 256 from by omega)

theorem wview_set (off : Fin 3 → ℕ) (inb) {u h d : ℕ} (ho : off = ![u, 256 * d + 128 * h, 0]) :
    (((Memref.whole cc0_scratch1).slice (Rect.unit (s := S3x512x2048) off S1x128x2048.size inb) (fun _ => rfl)).squeeze S128x2048
      squeezes_S1x128x2048_S128x2048 : Memref sig .tc .vmem S128x2048 .fp8e5m2).view.set = wset u h d := by
  subst ho
  show ((View.reshape ((View.whole cc0_scratch1).slice _) _ _)).set = _
  rw [View.set_reshape, View.set_slice_whole]
  ext i
  rw [Rect.mem_set_unit, mem_wset]
  have h0 : (i 0).val < 3 := (i 0).isLt
  have h1 : (i 1).val < 512 := (i 1).isLt
  have h2 : (i 2).val < 2048 := (i 2).isLt
  constructor
  · intro hi
    have a0 := hi 0; have a1 := hi 1
    have b0 : u ≤ (i 0).val ∧ (i 0).val < u + 1 := a0
    have b1 : 256 * d + 128 * h ≤ (i 1).val ∧ (i 1).val < 256 * d + 128 * h + 128 := a1
    refine ⟨?_, ?_⟩ <;> omega
  · rintro ⟨e0, e1⟩ a
    match a with
    | 0 => exact (show u ≤ (i 0).val ∧ (i 0).val < u + 1 from by omega)
    | 1 => exact (show 256 * d + 128 * h ≤ (i 1).val ∧ (i 1).val < 256 * d + 128 * h + 128 from by omega)
    | 2 => exact (show 0 ≤ (i 2).val ∧ (i 2).val < 0 + 2048 from by omega)

/-! ## Contents -/

section Contents
variable (X : Dev nD → S4096x256.Idx → Elt F .fp8e4m3) (Y : Dev nD → S256x2048.Idx → Elt F .fp8e5m2)

/-- The `x` buffer's contents `n` steps after the blocks set out, at row `a` and column `b` of any slot: on the right
    side the block of the device `n` places to the left, on the left side the block of the device `n` places to the
    right. -/
def bx (c : Dev nD) (n : ℕ) (a : Fin 4096) (b : Fin 512) : Elt F .fp8e4m3 :=
  if h : b.val < 256 then X (prv^[n] c) (ix2 a ⟨b.val, h⟩) else X (nxt^[n] c) (ix2 a ⟨b.val - 256, by omega⟩)
/-- The `w` buffer's contents `n` steps after the blocks set out. -/
def bw (c : Dev nD) (n : ℕ) (a : Fin 512) (b : Fin 2048) : Elt F .fp8e5m2 :=
  if h : a.val < 256 then Y (prv^[n] c) (ix2 ⟨a.val, h⟩ b) else Y (nxt^[n] c) (ix2 ⟨a.val - 256, by omega⟩ b)
def cx (c : Dev nD) (n : ℕ) : S3x4096x512.Idx → Elt F .fp8e4m3 := fun i => bx X c n (i 1) (i 2)
def cw (c : Dev nD) (n : ℕ) : S3x512x2048.Idx → Elt F .fp8e5m2 := fun i => bw Y c n (i 1) (i 2)

/-- Flow `φ`'s piece of slot `s % 3`, at share `q`, with the contents of `n` steps after the start. -/
def P (c : Dev nD) (φ : Fin 8) (s : ℕ) (q : PosShare TreeShare) (n : ℕ) : sProp 𝕄 :=
  if kd φ = 0 then (xL c ↦[xset (s % 3) (hf φ) (dir φ)]{q} (cx X c n : Buf (Elt F) (xL c)))
  else (wL c ↦[wset (s % 3) (hf φ) (dir φ)]{q} (cw Y c n : Buf (Elt F) (wL c)))

/-- Flow `φ`'s piece of slot `s % 3` at some contents. -/
def Fr (c : Dev nD) (φ : Fin 8) (s : ℕ) : sProp 𝕄 :=
  if kd φ = 0 then iprop(∃ f : Buf (Elt F) (xL c), xL c ↦[xset (s % 3) (hf φ) (dir φ)]{fullShare} f)
  else iprop(∃ f : Buf (Elt F) (wL c), wL c ↦[wset (s % 3) (hf φ) (dir φ)]{fullShare} f)

instance P_storable (c φ s q n) : BI.Storable (upEmb : UEmb _ 𝕄) (P X Y c φ s q n) := by
  unfold P; split <;> infer_instance
instance Fr_storable (c φ s) : BI.Storable (upEmb : UEmb _ 𝕄) (Fr (F := F) c φ s) := by
  unfold Fr; split <;> infer_instance

theorem P_mod {c : Dev nD} {φ : Fin 8} {s s' : ℕ} {q n} (h : s % 3 = s' % 3) : P X Y c φ s q n = P X Y c φ s' q n := by
  unfold P; rw [h]
theorem Fr_mod {c : Dev nD} {φ : Fin 8} {s s' : ℕ} (h : s % 3 = s' % 3) : Fr (F := F) c φ s = Fr c φ s' := by
  unfold Fr; rw [h]

/-- A whole piece, its contents forgotten. -/
theorem P_forget (c : Dev nD) (φ : Fin 8) (s n : ℕ) : P X Y c φ s fullShare n ⊢ Fr c φ s := by
  unfold P Fr; split
  · iintro H; iexists _; iexact H
  · iintro H; iexists _; iexact H

/-- A share is its two halves. -/
theorem P_halves (c : Dev nD) (φ : Fin 8) (s : ℕ) (q : PosShare TreeShare) (n : ℕ) :
    P X Y c φ s q n ⊣⊢ iprop(P X Y c φ s q.left n ∗ P X Y c φ s q.right n) := by
  unfold P; split
  · exact pointsTo_share (PosShare.mem_left_op_right q)
  · exact pointsTo_share (PosShare.mem_left_op_right q)

/-! ## The messages' resources -/

/-- What a device needs of the target to send flow `φ` at step `s`: the target's piece, at any contents, and that the
    target's receive cell has reached the round. -/
def Dst (c : Dev nD) (φ : Fin 8) (s : ℕ) : sProp 𝕄 :=
  iprop(Fr (tgt φ c) φ s ∗ reached ER (rC (tgt φ c) φ s) (s / 3))

/-- What the arrival of flow `φ` at step `s` brings besides the piece: leave to send the opposite flow's next message
    back, if there is one. -/
def Back (c : Dev nD) (φ : Fin 8) (s : ℕ) : sProp 𝕄 :=
  if s + 1 < lim (opp φ) then Dst c (opp φ) (s + 1) else iprop(emp)

def Landed (c : Dev nD) (φ : Fin 8) (s : ℕ) : sProp 𝕄 := iprop(P X Y c φ s fullShare (s + 1) ∗ Back c φ s)

/-- The flow whose piece is the source: at step 0 both directions read the device's own block, on the right side. -/
def srcF (φ : Fin 8) (s : ℕ) : Fin 8 := if s = 0 then ⟨φ.val % 4, by omega⟩ else φ
/-- The share a transfer reads its source through. -/
def srcQ (φ : Fin 8) (s : ℕ) : PosShare TreeShare :=
  if s = 0 then (if φ.val < 4 then fullShare.left.left else fullShare.left.right) else fullShare.left

theorem kd_srcF (φ : Fin 8) (s : ℕ) : kd (srcF φ s) = kd φ := by
  have := φ.isLt; unfold srcF; split
  · unfold kd; simp only; omega
  · rfl
theorem hf_srcF (φ : Fin 8) (s : ℕ) : hf (srcF φ s) = hf φ := by
  have := φ.isLt; unfold srcF; split
  · unfold hf; simp only; omega
  · rfl

/-- The source of flow `φ` at step `s`: the piece of the slot before. -/
def Src (c : Dev nD) (φ : Fin 8) (s : ℕ) : sProp 𝕄 := P X Y c (srcF φ s) (s + 2) (srcQ φ s) s

/-- What the right (`false`) and left (`true`) neighbours' signals hand over. -/
def barPay (c : Dev nD) (d : Bool) : sProp 𝕄 :=
  if d then iprop(Dst c 0 0 ∗ Dst c 1 0 ∗ Dst c 2 0 ∗ Dst c 3 0) else iprop(Dst c 4 0 ∗ Dst c 5 0 ∗ Dst c 6 0 ∗ Dst c 7 0)

instance Dst_storable (c φ s) : BI.Storable (upEmb : UEmb _ 𝕄) (Dst (F := F) c φ s) := by unfold Dst; infer_instance
instance Back_storable (c φ s) : BI.Storable (upEmb : UEmb _ 𝕄) (Back (F := F) c φ s) := by unfold Back; split <;> infer_instance
instance Landed_storable (c φ s) : BI.Storable (upEmb : UEmb _ 𝕄) (Landed X Y c φ s) := by unfold Landed; infer_instance
instance Src_storable (c φ s) : BI.Storable (upEmb : UEmb _ 𝕄) (Src X Y c φ s) := by unfold Src; infer_instance
instance barPay_storable (c d) : BI.Storable (upEmb : UEmb _ 𝕄) (barPay (F := F) c d) := by unfold barPay; split <;> infer_instance

/-! ## The schedule -/

/-- The credit of one `x` transfer and of one `w` transfer. -/
abbrev NX : ℕ := (((Memref.whole cc0_scratch0).slice (Rect.unit (s := S3x4096x512) ![0, 0, 0] S1x2048x256.size inb_S3x4096x512_S1x2048x256_0_0_0)
  (fun _ => rfl)).squeeze S2048x256 squeezes_S1x2048x256_S2048x256 : Memref sig .tc .vmem S2048x256 .fp8e4m3).view.dmaCredit
abbrev NW : ℕ := (((Memref.whole cc0_scratch1).slice (Rect.unit (s := S3x512x2048) ![0, 0, 0] S1x128x2048.size inb_S3x512x2048_S1x128x2048_0_0_0)
  (fun _ => rfl)).squeeze S128x2048 squeezes_S1x128x2048_S128x2048 : Memref sig .tc .vmem S128x2048 .fp8e5m2).view.dmaCredit
theorem NX_pos : 0 < NX := View.dmaCredit_pos _ (by decide)
theorem NW_pos : 0 < NW := View.dmaCredit_pos _ (by decide)
/-- The credit of a transfer of flow `φ`. -/
def NN (φ : Fin 8) : ℕ := if kd φ = 0 then NX else NW
theorem NN_pos (φ : Fin 8) : 0 < NN φ := by unfold NN; split; exacts [NX_pos, NW_pos]

def ringRd : Rounds.Schedule (GSem nD τ sig) Bool 𝕄 where
  duties g r := match g.2 with
    | .reg b => if g.1.2 = .tc ∧ r = 0 ∧ b = bar then Finset.univ else ∅
    | .dma q => if g.1.2 = .tc ∧ 5 ≤ q.val ∧ 3 * r + slotOf q.val < lim (flowOf q.val) then {false} else ∅
  unitless _ := False
  amount g _ _ := match g.2 with
    | .reg _ => 1
    | .dma q => NN (flowOf q.val)
  payload g r d := match g.2 with
    | .reg _ => barPay g.1.1 d
    | .dma q => if roleOf q.val = 0 then Src X Y g.1.1 (flowOf q.val) (3 * r + slotOf q.val)
        else Landed X Y g.1.1 (flowOf q.val) (3 * r + slotOf q.val)
  amount_pos g r d _ := by
    match g.2 with
    | .reg _ => exact Nat.one_pos
    | .dma q => exact NN_pos _

instance ringRd_payload_storable (g : GSem nD τ sig) (r : ℕ) (d : Bool) :
    BI.Storable (upEmb : UEmb _ 𝕄) ((ringRd X Y).payload g r d) := by
  obtain ⟨t, sm⟩ := g
  match sm with
  | .reg _ => exact barPay_storable _ _
  | .dma q =>
    show BI.Storable upEmb (if roleOf q.val = 0 then Src X Y t.1 (flowOf q.val) (3 * r + slotOf q.val)
        else Landed X Y t.1 (flowOf q.val) (3 * r + slotOf q.val))
    split <;> infer_instance

section Sched
variable (c : Dev nD)

theorem step_eq (s : ℕ) : 3 * (s / 3) + s % 3 = s := by omega

theorem duties_bar : (ringRd X Y).duties (barC c) 0 = Finset.univ := by
  show (if ((c : Thread nD τ).2 = .tc ∧ (0 : ℕ) = 0 ∧ bar = bar) then (Finset.univ : Finset Bool) else ∅) = _
  exact if_pos ⟨rfl, rfl, rfl⟩
theorem duties_bar_later : ∀ r, 1 ≤ r → (ringRd X Y).duties (barC c) r = ∅ :=
  fun r hr => if_neg fun h => by have := h.2.1; omega
theorem duties_dma (ro : ℕ) (hr : ro < 2) (φ : Fin 8) (s r : ℕ) (q : DmaSem sig) (hq : q.val = semN ro φ s) :
    (ringRd X Y).duties ((c : Thread nD τ), .dma q) r = if 3 * r + s % 3 < lim φ then {false} else ∅ := by
  show (if (c : Thread nD τ).2 = .tc ∧ 5 ≤ q.val ∧ 3 * r + slotOf q.val < lim (flowOf q.val) then {false} else ∅) = _
  rw [hq, flowOf_semN hr, slotOf_semN hr]
  by_cases h : 3 * r + s % 3 < lim φ
  · rw [if_pos h, if_pos ⟨rfl, by unfold semN; omega, h⟩]
  · rw [if_neg h, if_neg fun h' => h h'.2.2]
theorem duties_s {φ : Fin 8} {s : ℕ} (h : s < lim φ) : (ringRd X Y).duties (sC c φ s) (s / 3) = {false} := by
  rw [duties_dma X Y c 0 (by decide) φ s (s / 3) (sS φ s) rfl, step_eq, if_pos h]
theorem duties_r {φ : Fin 8} {s : ℕ} (h : s < lim φ) : (ringRd X Y).duties (rC c φ s) (s / 3) = {false} := by
  rw [duties_dma X Y c 1 (by decide) φ s (s / 3) (rS φ s) rfl, step_eq, if_pos h]

theorem amount_bar (d : Bool) : (ringRd X Y).amount (barC c) 0 d = 1 := rfl
theorem amount_s (φ : Fin 8) (s r : ℕ) (d : Bool) : (ringRd X Y).amount (sC c φ s) r d = NN φ := by
  show NN (flowOf (semN 0 φ s)) = _; rw [flowOf_semN (by decide)]
theorem amount_r (φ : Fin 8) (s r : ℕ) (d : Bool) : (ringRd X Y).amount (rC c φ s) r d = NN φ := by
  show NN (flowOf (semN 1 φ s)) = _; rw [flowOf_semN (by decide)]

theorem expect_bar : (ringRd X Y).expect (barC c) 0 = 2 := by
  unfold Schedule.expect Schedule.amountOf
  rw [duties_bar, Finset.sum_congr rfl fun d _ => amount_bar X Y c d, Finset.sum_const, Finset.card_univ, Fintype.card_bool, smul_eq_mul]
theorem expect_s {φ : Fin 8} {s : ℕ} (h : s < lim φ) : (ringRd X Y).expect (sC c φ s) (s / 3) = NN φ := by
  unfold Schedule.expect Schedule.amountOf; rw [duties_s X Y c h, Finset.sum_singleton, amount_s]
theorem expect_r {φ : Fin 8} {s : ℕ} (h : s < lim φ) : (ringRd X Y).expect (rC c φ s) (s / 3) = NN φ := by
  unfold Schedule.expect Schedule.amountOf; rw [duties_r X Y c h, Finset.sum_singleton, amount_r]

theorem payload_s (φ : Fin 8) (s : ℕ) (d : Bool) : (ringRd X Y).payload (sC c φ s) (s / 3) d = Src X Y c φ s := by
  show (if roleOf (semN 0 φ s) = 0 then Src X Y c (flowOf (semN 0 φ s)) (3 * (s / 3) + slotOf (semN 0 φ s))
        else Landed X Y c (flowOf (semN 0 φ s)) (3 * (s / 3) + slotOf (semN 0 φ s))) = _
  rw [roleOf_semN (by decide), flowOf_semN (by decide), slotOf_semN (by decide), if_pos rfl, step_eq]
theorem payload_r (φ : Fin 8) (s : ℕ) (d : Bool) : (ringRd X Y).payload (rC c φ s) (s / 3) d = Landed X Y c φ s := by
  show (if roleOf (semN 1 φ s) = 0 then Src X Y c (flowOf (semN 1 φ s)) (3 * (s / 3) + slotOf (semN 1 φ s))
        else Landed X Y c (flowOf (semN 1 φ s)) (3 * (s / 3) + slotOf (semN 1 φ s))) = _
  rw [roleOf_semN (by decide), flowOf_semN (by decide), slotOf_semN (by decide), if_neg (by decide), step_eq]

theorem rest_bar : bigSep ((ringRd X Y).duties (barC c) 0 \ ∅) (fun d => (ringRd X Y).payload (barC c) 0 d)
    = iprop(barPay c false ∗ barPay c true) := by
  rw [Finset.sdiff_empty, duties_bar, bigSep_univ_eq_bigSepL [false, true] (by decide) (by decide), bigSepL_cons_cons, bigSepL_singleton]
  rfl
theorem rest_s {φ : Fin 8} {s : ℕ} (h : s < lim φ) :
    bigSep ((ringRd X Y).duties (sC c φ s) (s / 3) \ ∅) (fun d => (ringRd X Y).payload (sC c φ s) (s / 3) d) = Src X Y c φ s := by
  rw [Finset.sdiff_empty, duties_s X Y c h, bigSep_singleton, payload_s]
theorem rest_r {φ : Fin 8} {s : ℕ} (h : s < lim φ) :
    bigSep ((ringRd X Y).duties (rC c φ s) (s / 3) \ ∅) (fun d => (ringRd X Y).payload (rC c φ s) (s / 3) d) = Landed X Y c φ s := by
  rw [Finset.sdiff_empty, duties_r X Y c h, bigSep_singleton, payload_r]

end Sched

end Contents
end Cert.KernelIdeal.Ring
-- ==== Proof.KernelIdealMsg.lean ====
/-
# Sends and waits of the two-way ring

What a device owes and in which order, the levels, and the three rules the body runs by: sending a message, waiting
for an arrival, waiting for a transfer's source to be free again.
-/
module

public import proofs.«01_k».proof.Proof.KernelIdealRing

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig ℕ (Elt F) ℕ UU ℕ

/-! ## What a device owes; levels -/

/-- The arrivals a list of messages still owes, the head's outermost. -/
def oweL (c : Dev nD) : List (Fin 8 × ℕ) → CellTallies nD τ sig ℕ
  | [] => 0
  | μ :: l => oweL c l + tallyAt (rC (tgt μ.1 c) μ.1 μ.2) μ.2 (NN μ.1)

theorem oweL_pos {c : Dev nD} {g : GSem nD τ sig} {i : ℕ} {l : List (Fin 8 × ℕ)} (h : 0 < oweL c l g i) :
    ∃ μ ∈ l, g = rC (tgt μ.1 c) μ.1 μ.2 ∧ i = μ.2 := by
  induction l with
  | nil => exact absurd h (Nat.lt_irrefl 0)
  | cons μ l ih =>
    unfold oweL at h
    rw [Pi.add_apply, Finsupp.add_apply, tallyAt_apply] at h
    by_cases hg : g = rC (tgt μ.1 c) μ.1 μ.2 ∧ i = μ.2
    · exact ⟨μ, List.mem_cons_self, hg⟩
    · rw [if_neg hg, Nat.add_zero] at h
      obtain ⟨ν, hν, hν'⟩ := ih h
      exact ⟨ν, List.mem_cons_of_mem _ hν, hν'⟩

def L (g : GSem nD τ sig) : Finset ℕ := if g.1.2 = .tc then Finset.range 9 else ∅
/-- Staging and send cells lowest, then the barrier, then the receive cells by their step. -/
def lv (g : GSem nD τ sig) (ι : ℕ) : ℕ := match g.2 with
  | .reg _ => 1
  | .dma q => if 5 ≤ q.val ∧ roleOf q.val = 1 then ι + 2 else 0

theorem L_of_ne (g : GSem nD τ sig) (h : g.1.2 ≠ .tc) : L g = ∅ := if_neg h
theorem L_tc (c : Dev nD) (sm : SemLoc sig) : L ((c : Thread nD τ), sm) = Finset.range 9 := if_pos rfl
theorem lv_r (c : Dev nD) (φ : Fin 8) (s ι : ℕ) : lv (rC c φ s) ι = ι + 2 := by
  show (if 5 ≤ semN 1 φ s ∧ roleOf (semN 1 φ s) = 1 then ι + 2 else 0) = _
  rw [roleOf_semN (by decide), if_pos ⟨by unfold semN; omega, rfl⟩]
theorem lv_s (c : Dev nD) (φ : Fin 8) (s ι : ℕ) : lv (sC c φ s) ι = 0 := by
  show (if 5 ≤ semN 0 φ s ∧ roleOf (semN 0 φ s) = 1 then ι + 2 else 0) = _
  rw [roleOf_semN (by decide), if_neg fun h => by have := h.2; omega]

/-- The list's messages are all of step `k` or later, and are messages. -/
def From (k : ℕ) (l : List (Fin 8 × ℕ)) : Prop := ∀ μ ∈ l, k ≤ μ.2 ∧ μ.2 < 8

theorem From.mono {k k' : ℕ} {l} (h : From k l) (hk : k' ≤ k) : From k' l := fun μ hμ => ⟨hk.trans (h μ hμ).1, (h μ hμ).2⟩
theorem From.cons {k : ℕ} {φ : Fin 8} {s : ℕ} {l} (h : From k l) (h1 : k ≤ s) (h2 : s < 8) : From k ((φ, s) :: l) := fun μ hμ => by
  rcases List.mem_cons.mp hμ with rfl | hμ
  exacts [⟨h1, h2⟩, h μ hμ]
theorem From.nil {k : ℕ} : From k [] := fun μ hμ => by cases hμ

/-- A wait on a cell of level below what the list owes. -/
theorem mayWait_cut (c : Dev nD) (sm : SemLoc sig) (ι n : ℕ) (hι : ι < 9) (hn : lv ((c : Thread nD τ), sm) ι ≤ n) {k : ℕ} (hk : n < k + 2)
    {l : List (Fin 8 × ℕ)} (hl : From k l) : (levAts L lv : sProp 𝕄) ⊢ MayWait (c : Thread nD τ) sm ι (oweL c l) :=
  MayOwe.of_cut (L := L) (lev := lv) n (fun p hp => by rw [Finset.mem_singleton.mp hp, L_tc]; exact Finset.mem_range.mpr hι)
    (fun g u hg => by
      obtain ⟨μ, hμ, rfl, rfl⟩ := oweL_pos hg
      rw [L_tc]; exact Finset.mem_range.mpr (by have := (hl μ hμ).2; omega))
    (fun p hp => by rw [Finset.mem_singleton.mp hp]; exact hn)
    (fun g u hg => by
      obtain ⟨μ, hμ, rfl, rfl⟩ := oweL_pos hg
      rw [lv_r]; have := (hl μ hμ).1; omega)

/-! ## Records -/

section Proto
variable (X : Dev nD → S4096x256.Idx → Elt F .fp8e4m3) (Y : Dev nD → S256x2048.Idx → Elt F .fp8e5m2)

/-- The ring's cells of a device: its 48 transfer semaphores, and the barrier. -/
def cellAt (p : Dev nD × Fin 49) : GSem nD τ sig :=
  if h : p.2.val < 48 then ((p.1 : Thread nD τ), .dma ⟨5 + p.2.val, by show 5 + p.2.val < 53; omega⟩) else barC p.1

def Recs : sProp 𝕄 := bigSep Finset.univ fun p : Dev nD × Fin 49 => iprop(∃ κ, cellInv ER (ringRd X Y) κ (cellAt p))

/-- What every device knows throughout: the cells' invariants and the levels. -/
def Rec : sProp 𝕄 := iprop(Recs X Y ∗ levAts L lv)

instance Recs_persistent : BI.Persistent (Recs X Y) := by unfold Recs; infer_instance
instance Rec_persistent : BI.Persistent (Rec X Y) := by unfold Rec; infer_instance

theorem Recs_at (p : Dev nD × Fin 49) : Recs X Y ⊢ iprop(∃ κ, cellInv ER (ringRd X Y) κ (cellAt p)) := by
  unfold Recs; rw [BI.bigSep_erase (Finset.mem_univ p)]
  exact sep_elim_left

theorem Recs_dma (c : Dev nD) (q : DmaSem sig) (h5 : 5 ≤ q.val) :
    Recs X Y ⊢ iprop(∃ κ, cellInv ER (ringRd X Y) κ ((c : Thread nD τ), .dma q)) := by
  have hq : q.val < 53 := q.isLt
  have e : cellAt (c, ⟨q.val - 5, by omega⟩) = ((c : Thread nD τ), .dma q) := by
    unfold cellAt; rw [dif_pos (show q.val - 5 < 48 by omega)]
    refine congrArg (Prod.mk _) (congrArg SemLoc.dma (Fin.ext ?_)); show 5 + (q.val - 5) = q.val; omega
  rw [← e]; exact Recs_at X Y _
theorem Recs_s (c : Dev nD) (φ s) : Recs X Y ⊢ iprop(∃ κ, cellInv ER (ringRd X Y) κ (sC c φ s)) :=
  Recs_dma X Y c _ (by show 5 ≤ semN 0 φ s; unfold semN; omega)
theorem Recs_r (c : Dev nD) (φ s) : Recs X Y ⊢ iprop(∃ κ, cellInv ER (ringRd X Y) κ (rC c φ s)) :=
  Recs_dma X Y c _ (by show 5 ≤ semN 1 φ s; unfold semN; omega)
theorem Recs_bar (c : Dev nD) : Recs X Y ⊢ iprop(∃ κ, cellInv ER (ringRd X Y) κ (barC c)) := by
  have e : cellAt (c, 48) = barC c := by unfold cellAt; exact dif_neg (show ¬ (48 : ℕ) < 48 by decide)
  rw [← e]; exact Recs_at X Y _

/-! ## The body's state, message by message -/

/-- The device owes the list's arrivals. -/
def Ow (c : Dev nD) (l : List (Fin 8 × ℕ)) : sProp 𝕄 := iprop(∃ W, owes (c : Thread nD τ) (oweL c l) W)
/-- The two duty tokens a message is sent with. -/
def Snd (c : Dev nD) (φ : Fin 8) (s : ℕ) : sProp 𝕄 :=
  iprop(dutyTok ER (sC c φ s) (s / 3) false ∗ dutyTok ER (rC (tgt φ c) φ s) (s / 3) false)
/-- The owner's position at the send cell, before step `s`'s wait. -/
def SN (c : Dev nD) (φ : Fin 8) (s : ℕ) : sProp 𝕄 := iprop(atPos ER (sC c φ s) (s / 3) ∅ 0 ∗ reached ER (sC c φ s) (s / 3))
/-- The owner's position at the receive cell, before step `s`'s wait. -/
def RN (c : Dev nD) (φ : Fin 8) (s : ℕ) : sProp 𝕄 := iprop(atPos ER (rC c φ s) (s / 3) ∅ 0 ∗ reached ER (rC c φ s) (s / 3))
/-- The credit of a message sent, and of one to arrive. -/
def SC (c : Dev nD) (φ : Fin 8) (s : ℕ) : sProp 𝕄 := cred (tallyAt (sC c φ s) s (NN φ))
def RC (c : Dev nD) (φ : Fin 8) (s : ℕ) : sProp 𝕄 := cred (tallyAt (rC c φ s) s (NN φ))
/-- The sender's piece that goes with a message, for the opposite flow's next one. -/
def Give (c : Dev nD) (φ : Fin 8) (s : ℕ) : sProp 𝕄 :=
  if s + 1 < lim (opp φ) then iprop(Fr c (opp φ) (s + 1) ∗ reached ER (rC c (opp φ) (s + 1)) ((s + 1) / 3)) else iprop(emp)
/-- All that sending flow `φ` at step `s` takes. -/
def SR (c : Dev nD) (φ : Fin 8) (s : ℕ) : sProp 𝕄 :=
  iprop(Snd c φ s ∗ reached ER (sC c φ s) (s / 3) ∗ Src X Y c φ s ∗ Dst c φ s ∗ Give c φ s)

theorem Give_Back (c : Dev nD) (φ : Fin 8) (s : ℕ) : (Give c φ s : sProp 𝕄) = Back (tgt φ c) φ s := by
  unfold Give Back Dst; rw [tgt_opp]

theorem SN_mod {c : Dev nD} {φ : Fin 8} {s : ℕ} :
    iprop(atPos ER (sC c φ s) (s / 3 + 1) ∅ 0 ∗ reached ER (sC c φ s) (s / 3 + 1)) ⊢ (SN c φ (s + 3) : sProp 𝕄) := by
  have e1 : sS φ s = sS φ (s + 3) := sS_mod (by omega)
  have e2 : s / 3 + 1 = (s + 3) / 3 := by omega
  unfold SN sC; rw [e1, e2]
theorem RN_mod {c : Dev nD} {φ : Fin 8} {s : ℕ} :
    iprop(atPos ER (rC c φ s) (s / 3 + 1) ∅ 0 ∗ reached ER (rC c φ s) (s / 3 + 1)) ⊢ (RN c φ (s + 3) : sProp 𝕄) := by
  have e1 : rS φ s = rS φ (s + 3) := rS_mod (by omega)
  have e2 : s / 3 + 1 = (s + 3) / 3 := by omega
  unfold RN rC; rw [e1, e2]

/-! ## Waiting -/

theorem wp_recv (c : Dev nD) (φ : Fin 8) (s : ℕ) (hs : s < lim φ) {l : List (Fin 8 × ℕ)} (hl : From (s + 1) l)
    {q : DmaSem sig} (hq : q = rS φ s) {sp sp' : Space} {sh : Shape} {e : EltTy}
    {src : Memref sig .tc sp sh e} {dst : Memref sig .tc sp' sh e} {hsrc : src.view.WordExact} {hdst : dst.view.WordExact}
    (hN : dst.view.dmaCredit = NN φ) {α : Type} {Q : α → sProp 𝕄} {k : PUnit → Prog (TpuEff nD τ sig (Elt F) Λ₀ .tc) α} :
    iprop(Rec X Y ∗ Ow c l ∗ RC c φ s ∗ RN c φ s)
      ⊢ iprop(((Ow c l ∗ RN c φ (s + 3) ∗ Landed X Y c φ s) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  have hs8 : s < 9 := by unfold lim at hs; split at hs <;> omega
  unfold Rec Ow RC RN
  iintro ⟨⟨#HI, #HL⟩, ⟨%W, HO⟩, Hc, Hat, -⟩ Hk
  ihave Hi := Recs_r X Y c φ s $$ HI
  icases Hi with ⟨%κ, #Hi⟩
  ihave HM := mayWait_cut c (.dma (rS φ s)) s (s + 2) hs8 (le_of_eq (lv_r c φ s s)) (k := s + 1) (by omega) hl $$ HL
  rw [← hN]
  iapply (Rounds.wp_wait_rest_token 𝒱₀ ER (ringRd X Y) (c : Thread nD τ) none (κ := κ)
      (wpE_waitDma2_eq 𝒱₀ (c : Thread nD τ) none Set.univ) (Set.mem_univ _) s (O := oweL c l) (W := W) (R := s / 3) (m := 0) (T := ∅)
      (by rw [expect_r X Y c hs, Nat.zero_add, hN])) $$ [HO Hc Hat HM]
  · isplitl []; · iexact Hi
    isplitl [Hc]; · iexact Hc
    isplitl [HO]; · iexact HO
    isplitl [HM]; · iexact HM
    iexact Hat
  rw [rest_r X Y c hs]
  iintro ⟨HO, Hat, Hr, Hpay⟩
  iapply Hk
  isplitl [HO]; · iexists _; iexact HO
  isplitl [Hat Hr]
  · iapply (show _ ⊢ (iprop(atPos ER (rC c φ (s + 3)) ((s + 3) / 3) ∅ 0 ∗ reached ER (rC c φ (s + 3)) ((s + 3) / 3)) : sProp 𝕄) from RN_mod (c := c) (φ := φ) (s := s))
    isplitl [Hat]; · iexact Hat
    iexact Hr
  iexact Hpay

theorem wp_swait (c : Dev nD) (φ : Fin 8) (s : ℕ) (hs : s < lim φ) {l : List (Fin 8 × ℕ)} (hl : From 0 l)
    {q : DmaSem sig} (hq : q = sS φ s) {sp sp' : Space} {sh : Shape} {e : EltTy}
    {src : Memref sig .tc sp sh e} {dst : Memref sig .tc sp' sh e} {hsrc : src.view.WordExact} {hdst : dst.view.WordExact}
    (hN : dst.view.dmaCredit = NN φ) {α : Type} {Q : α → sProp 𝕄} {k : PUnit → Prog (TpuEff nD τ sig (Elt F) Λ₀ .tc) α} :
    iprop(Rec X Y ∗ Ow c l ∗ SC c φ s ∗ SN c φ s)
      ⊢ iprop(((Ow c l ∗ SN c φ (s + 3) ∗ Src X Y c φ s) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  have hs8 : s < 9 := by unfold lim at hs; split at hs <;> omega
  unfold Rec Ow SC SN
  iintro ⟨⟨#HI, #HL⟩, ⟨%W, HO⟩, Hc, Hat, -⟩ Hk
  ihave Hi := Recs_s X Y c φ s $$ HI
  icases Hi with ⟨%κ, #Hi⟩
  ihave HM := mayWait_cut c (.dma (sS φ s)) s 0 hs8 (le_of_eq (lv_s c φ s s)) (k := 0) (by omega) hl $$ HL
  rw [← hN]
  iapply (Rounds.wp_wait_rest_token 𝒱₀ ER (ringRd X Y) (c : Thread nD τ) none (κ := κ)
      (wpE_waitDma2_eq 𝒱₀ (c : Thread nD τ) none Set.univ) (Set.mem_univ _) s (O := oweL c l) (W := W) (R := s / 3) (m := 0) (T := ∅)
      (by rw [expect_s X Y c hs, Nat.zero_add, hN])) $$ [HO Hc Hat HM]
  · isplitl []; · iexact Hi
    isplitl [Hc]; · iexact Hc
    isplitl [HO]; · iexact HO
    isplitl [HM]; · iexact HM
    iexact Hat
  rw [rest_s X Y c hs]
  iintro ⟨HO, Hat, Hr, Hpay⟩
  iapply Hk
  isplitl [HO]; · iexists _; iexact HO
  isplitl [Hat Hr]
  · iapply (show _ ⊢ (iprop(atPos ER (sC c φ (s + 3)) ((s + 3) / 3) ∅ 0 ∗ reached ER (sC c φ (s + 3)) ((s + 3) / 3)) : sProp 𝕄) from SN_mod (c := c) (φ := φ) (s := s))
    isplitl [Hat]; · iexact Hat
    iexact Hr
  iexact Hpay

/-! ## Sending -/

/-- The program's view of a piece of the `x` buffer, and of the `w` buffer. -/
abbrev xV (off : Fin 3 → ℕ) (inb : ∀ a : Fin S3x4096x512.rank, off a + S1x2048x256.size a ≤ S3x4096x512.size a) : Memref sig .tc .vmem S2048x256 .fp8e4m3 :=
  ((Memref.whole cc0_scratch0).slice (Rect.unit (s := S3x4096x512) off S1x2048x256.size inb) (fun _ => rfl)).squeeze S2048x256
    squeezes_S1x2048x256_S2048x256
abbrev wV (off : Fin 3 → ℕ) (inb : ∀ a : Fin S3x512x2048.rank, off a + S1x128x2048.size a ≤ S3x512x2048.size a) : Memref sig .tc .vmem S128x2048 .fp8e5m2 :=
  ((Memref.whole cc0_scratch1).slice (Rect.unit (s := S3x512x2048) off S1x128x2048.size inb) (fun _ => rfl)).squeeze S128x2048
    squeezes_S1x128x2048_S128x2048

theorem tgt_iter_prv {φ : Fin 8} (h : φ.val < 4) (c : Dev nD) (n : ℕ) : prv^[n + 1] (tgt φ c) = prv^[n] c := by
  rw [Function.iterate_succ_apply, tgt, if_pos h, prv_nxt]
theorem tgt_iter_nxt {φ : Fin 8} (h : ¬ φ.val < 4) (c : Dev nD) (n : ℕ) : nxt^[n + 1] (tgt φ c) = nxt^[n] c := by
  rw [Function.iterate_succ_apply, tgt, if_neg h, nxt_prv]

theorem dir_cases (φ : Fin 8) (s : ℕ) : (φ.val < 4 ∧ dir φ = 0 ∧ dir (srcF φ s) = 0) ∨ (¬ φ.val < 4 ∧ dir φ = 1 ∧ s = 0 ∧ dir (srcF φ s) = 0)
    ∨ (¬ φ.val < 4 ∧ dir φ = 1 ∧ s ≠ 0 ∧ dir (srcF φ s) = 1) := by
  unfold srcF
  by_cases hs : s = 0
  · simp only [if_pos hs]; revert φ; simp only [hs]; decide
  · simp only [if_neg hs, hs, false_and, and_false, false_or, ne_eq, not_false_eq_true, true_and]; clear hs; revert φ; decide

/-- The contents move with the transfer: equal places of source and target, `n` steps and `n + 1`. -/
theorem bx_land (c : Dev nD) (φ : Fin 8) (s : ℕ) (a : Fin 4096) (b b' : Fin 512)
    (hb : b.val / 256 = dir (srcF φ s)) (hb' : b'.val / 256 = dir φ) (h : b.val % 256 = b'.val % 256) :
    bx X c s a b = bx X (tgt φ c) (s + 1) a b' := by
  obtain ⟨b, hbl⟩ := b; obtain ⟨b', hbl'⟩ := b'
  simp only at hb hb' h
  unfold bx
  rcases dir_cases φ s with ⟨hφ, d1, d0⟩ | ⟨hφ, d1, hs, d0⟩ | ⟨hφ, d1, hs, d0⟩ <;> rw [d0] at hb <;> rw [d1] at hb'
  · obtain rfl : b = b' := by omega
    have hlt : b < 256 := by omega
    simp only [hlt, dif_pos, tgt_iter_prv hφ]
  · obtain rfl : b' = b + 256 := by omega
    have hlt : b < 256 := by omega
    have hge : ¬ b + 256 < 256 := by omega
    simp only [hlt, hge, dif_pos, dif_neg, not_false_iff, tgt_iter_nxt hφ, hs, Nat.add_sub_cancel, Function.iterate_zero, id]
  · obtain rfl : b = b' := by omega
    have hlt : ¬ b < 256 := by omega
    simp only [hlt, dif_neg, not_false_iff, tgt_iter_nxt hφ]

theorem bw_land (c : Dev nD) (φ : Fin 8) (s : ℕ) (a : Fin 2048) (b b' : Fin 512)
    (hb : b.val / 256 = dir (srcF φ s)) (hb' : b'.val / 256 = dir φ) (h : b.val % 256 = b'.val % 256) :
    bw Y c s b a = bw Y (tgt φ c) (s + 1) b' a := by
  obtain ⟨b, hbl⟩ := b; obtain ⟨b', hbl'⟩ := b'
  simp only at hb hb' h
  unfold bw
  rcases dir_cases φ s with ⟨hφ, d1, d0⟩ | ⟨hφ, d1, hs, d0⟩ | ⟨hφ, d1, hs, d0⟩ <;> rw [d0] at hb <;> rw [d1] at hb'
  · obtain rfl : b = b' := by omega
    have hlt : b < 256 := by omega
    simp only [hlt, dif_pos, tgt_iter_prv hφ]
  · obtain rfl : b' = b + 256 := by omega
    have hlt : b < 256 := by omega
    have hge : ¬ b + 256 < 256 := by omega
    simp only [hlt, hge, dif_pos, dif_neg, not_false_iff, tgt_iter_nxt hφ, hs, Nat.add_sub_cancel, Function.iterate_zero, id]
  · obtain rfl : b = b' := by omega
    have hlt : ¬ b < 256 := by omega
    simp only [hlt, dif_neg, not_false_iff, tgt_iter_nxt hφ]

theorem hf_lt (φ : Fin 8) : hf φ < 2 := Nat.mod_lt _ (by decide)

theorem land_x (c : Dev nD) (φ : Fin 8) (s : ℕ) {os od : Fin 3 → ℕ} {ios iod}
    (hos : os = ![(s + 2) % 3, 2048 * hf φ, 256 * dir (srcF φ s)]) (hod : od = ![s % 3, 2048 * hf φ, 256 * dir φ])
    (fd : Buf (Elt F) (xL (tgt φ c))) : ∀ i ∈ (xV od iod).view.set,
    (xV od iod).view.write (Elt F) fd ((xV os ios).view.read (Elt F) (cx X c s : Buf (Elt F) (xL c))) Finset.univ i = cx X (tgt φ c) (s + 1) i := by
  subst hos hod
  intro i hi
  obtain ⟨j, -, rfl⟩ := Finset.mem_map.mp hi
  rw [View.write_emb_of_mem _ _ (Finset.mem_univ j)]
  have e0 : ∀ k1 k2 : ℕ, k1 < 2048 → k2 < 256 → 2048 * hf φ + 1 * k1 < 4096 ∧ 256 * dir (srcF φ s) + 1 * k2 < 512 ∧ 256 * dir φ + 1 * k2 < 512 := by
    intro k1 k2 h1 h2
    have := hf_lt φ
    rcases dir_cases φ s with ⟨_, d1, d0⟩ | ⟨_, d1, _, d0⟩ | ⟨_, d1, _, d0⟩ <;> rw [d0, d1] <;> omega
  have key : ∀ k : S1x2048x256.Idx,
      bx X c s ⟨2048 * hf φ + 1 * (k 1).val, (e0 _ _ (k 1).isLt (k 2).isLt).1⟩ ⟨256 * dir (srcF φ s) + 1 * (k 2).val, (e0 _ _ (k 1).isLt (k 2).isLt).2.1⟩
      = bx X (tgt φ c) (s + 1) ⟨2048 * hf φ + 1 * (k 1).val, (e0 _ _ (k 1).isLt (k 2).isLt).1⟩ ⟨256 * dir φ + 1 * (k 2).val, (e0 _ _ (k 1).isLt (k 2).isLt).2.2⟩ := by
    intro k
    have k2 : (k 2).val < 256 := (k 2).isLt
    refine bx_land X c φ s _ _ _ ?_ ?_ ?_ <;> simp only <;> omega
  exact key (Shape.reshapeEquiv squeezes_S1x2048x256_S2048x256.numel_eq j)

theorem land_w (c : Dev nD) (φ : Fin 8) (s : ℕ) {os od : Fin 3 → ℕ} {ios iod}
    (hos : os = ![(s + 2) % 3, 256 * dir (srcF φ s) + 128 * hf φ, 0]) (hod : od = ![s % 3, 256 * dir φ + 128 * hf φ, 0])
    (fd : Buf (Elt F) (wL (tgt φ c))) : ∀ i ∈ (wV od iod).view.set,
    (wV od iod).view.write (Elt F) fd ((wV os ios).view.read (Elt F) (cw Y c s : Buf (Elt F) (wL c))) Finset.univ i = cw Y (tgt φ c) (s + 1) i := by
  subst hos hod
  intro i hi
  obtain ⟨j, -, rfl⟩ := Finset.mem_map.mp hi
  rw [View.write_emb_of_mem _ _ (Finset.mem_univ j)]
  have e0 : ∀ k1 k2 : ℕ, k1 < 128 → k2 < 2048 → 0 + 1 * k2 < 2048 ∧ 256 * dir (srcF φ s) + 128 * hf φ + 1 * k1 < 512 ∧ 256 * dir φ + 128 * hf φ + 1 * k1 < 512 := by
    intro k1 k2 h1 h2
    have := hf_lt φ
    rcases dir_cases φ s with ⟨_, d1, d0⟩ | ⟨_, d1, _, d0⟩ | ⟨_, d1, _, d0⟩ <;> rw [d0, d1] <;> omega
  have key : ∀ k : S1x128x2048.Idx,
      bw Y c s ⟨256 * dir (srcF φ s) + 128 * hf φ + 1 * (k 1).val, (e0 _ _ (k 1).isLt (k 2).isLt).2.1⟩ ⟨0 + 1 * (k 2).val, (e0 _ _ (k 1).isLt (k 2).isLt).1⟩
      = bw Y (tgt φ c) (s + 1) ⟨256 * dir φ + 128 * hf φ + 1 * (k 1).val, (e0 _ _ (k 1).isLt (k 2).isLt).2.2⟩ ⟨0 + 1 * (k 2).val, (e0 _ _ (k 1).isLt (k 2).isLt).1⟩ := by
    intro k
    have k1 : (k 1).val < 128 := (k 1).isLt
    have := hf_lt φ
    refine bw_land Y c φ s _ _ _ ?_ ?_ ?_ <;> simp only <;> omega
  exact key (Shape.reshapeEquiv squeezes_S1x128x2048_S128x2048.numel_eq j)

/-- A send, the pieces' views named abstractly. -/
theorem wp_send_gen (c : Dev nD) (φ : Fin 8) (s : ℕ) (hs : s < lim φ) (l : List (Fin 8 × ℕ))
    {ss rs : DmaSem sig} (hss : ss = sS φ s) (hrs : rs = rS φ s) {sp sp' : Space} {sh : Shape} {e : EltTy}
    {src : Memref sig .tc sp sh e} {dst : Memref sig .tc sp' sh e}
    {hsc : dst.view.ref.isScScratch = false} {hsrc : src.view.WordExact} {hdst : dst.view.WordExact}
    {hsem : DmaTarget.Typed (nD := nD) (τ := τ) sp (.dma rs) (.remote ((tgt φ c : Dev nD) : Thread nD τ) dst (.dma ss) hsc)}
    {q : PosShare TreeShare} {fs : Buf (Elt F) (src.view.loc (c : Thread nD τ))}
    (hS : Src X Y c φ s ⊢ (src.view.loc (c : Thread nD τ) ↦[src.view.set]{q} fs))
    (hS' : (src.view.loc (c : Thread nD τ) ↦[src.view.set]{q} fs) ⊢ Src X Y c φ s)
    (hF : (Fr (tgt φ c) φ s : sProp 𝕄) ⊢ iprop(∃ fd : Buf (Elt F) (dst.view.loc ((tgt φ c : Dev nD) : Thread nD τ)), dst.view.loc ((tgt φ c : Dev nD) : Thread nD τ) ↦[dst.view.set]{fullShare} fd))
    (hL : ∀ fd, (dst.view.loc ((tgt φ c : Dev nD) : Thread nD τ) ↦[dst.view.set]{fullShare}
      (dst.view.write (Elt F) fd (src.view.read (Elt F) fs) Finset.univ)) ⊢ P X Y (tgt φ c) φ s fullShare (s + 1))
    (hN : dst.view.dmaCredit = NN φ) {α : Type} {Q : α → sProp 𝕄} {k : PUnit → Prog (TpuEff nD τ sig (Elt F) Λ₀ .tc) α} :
    iprop(Rec X Y ∗ Ow c ((φ, s) :: l) ∗ SR X Y c φ s)
      ⊢ iprop(((Ow c l ∗ SC c φ s) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.remote ((tgt φ c : Dev nD) : Thread nD τ) dst (.dma ss) hsc) (.dma rs) hsrc hdst hsem) k) Q) := by
  subst hss hrs
  unfold Rec Ow SR Snd Dst SC
  rw [Give_Back]
  iintro ⟨⟨#HI, #HL⟩, ⟨%W, HO⟩, ⟨Ht1, Ht2⟩, Hr1, Hsrc, ⟨Hd, Hr2⟩, HB⟩ Hk
  ihave Hi1 := Recs_s X Y c φ s $$ HI
  icases Hi1 with ⟨%κ₁, #Hi1⟩
  ihave Hi2 := Recs_r X Y (tgt φ c) φ s $$ HI
  icases Hi2 with ⟨%κ₂, #Hi2⟩
  ihave Hd := hF $$ Hd
  icases Hd with ⟨%fd, Hd⟩
  ihave Hsrc := hS $$ Hsrc
  iapply (Rounds.wp_send_pointsTo_with 𝒱₀ ER (ringRd X Y) (c : Thread nD τ) none (κ₁ := κ₁) (κ₂ := κ₂) (r₁ := s / 3) (r₂ := s / 3)
      (d₁ := false) (d₂ := false) (F := Back (tgt φ c) φ s) (fd := fd) (sS := .dma (sS φ s)) (sem := .dma (rS φ s))
      (by rw [duties_s X Y c hs]; exact Finset.mem_singleton_self _) (by rw [duties_r X Y (tgt φ c) hs]; exact Finset.mem_singleton_self _)
      s s (NN φ) hN (amount_s X Y c φ s _ _) (amount_r X Y (tgt φ c) φ s _ _) (oweL c l) rfl (W := W)
      (by rw [payload_s]; exact hS')
      (by rw [payload_r]; unfold Landed; exact sep_mono_left (hL fd))) $$ [HO Ht1 Ht2 Hr1 Hsrc Hd Hr2 HB]
  · isplitl []; · iexact Hi1
    isplitl []; · iexact Hi2
    isplitl [Hsrc]; · iexact Hsrc
    isplitl [Hd HB]
    · isplitl [Hd]; · iexact Hd
      iexact HB
    isplitl [HO]; · iexact HO
    isplitl [Ht1]; · iexact Ht1
    isplitl [Hr1]; · iexact Hr1
    isplitl [Ht2]; · iexact Ht2
    iexact Hr2
  iintro ⟨Hc, HO⟩
  iapply Hk
  isplitl [HO]; · iexists W; iexact HO
  iexact Hc

/-- A send of half an `x` block. -/
theorem wp_send_x (c : Dev nD) (φ : Fin 8) (s : ℕ) (hs : s < lim φ) (hk : kd φ = 0) (l : List (Fin 8 × ℕ))
    {ss rs : DmaSem sig} (hss : ss = sS φ s) (hrs : rs = rS φ s) {n : Dev nD} (hn : n = tgt φ c) {os od : Fin 3 → ℕ} {ios iod}
    (hos : os = ![(s + 2) % 3, 2048 * hf φ, 256 * dir (srcF φ s)]) (hod : od = ![s % 3, 2048 * hf φ, 256 * dir φ])
    {hsc : (xV od iod).view.ref.isScScratch = false} {hsrc : (xV os ios).view.WordExact} {hdst : (xV od iod).view.WordExact}
    {hsem : DmaTarget.Typed (nD := nD) (τ := τ) _ (.dma rs) (.remote (Dev.tc n : Thread nD τ) (xV od iod) (.dma ss) hsc)}
    {α : Type} {Q : α → sProp 𝕄} {k : PUnit → Prog (TpuEff nD τ sig (Elt F) Λ₀ .tc) α} :
    iprop(Rec X Y ∗ Ow c ((φ, s) :: l) ∗ SR X Y c φ s)
      ⊢ iprop(((Ow c l ∗ SC c φ s) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xV os ios) (.remote (Dev.tc n : Thread nD τ) (xV od iod) (.dma ss) hsc) (.dma rs) hsrc hdst hsem) k) Q) := by
  subst hn
  have eS : Src X Y c φ s = ((xV os ios).view.loc (c : Thread nD τ) ↦[(xV os ios).view.set]{srcQ φ s} (cx X c s : Buf (Elt F) (xL c)) : sProp 𝕄) := by
    unfold Src P; rw [if_pos ((kd_srcF φ s).trans hk), hf_srcF, xview_set os ios hos]
  refine wp_send_gen X Y c φ s hs l hss hrs (q := srcQ φ s) (fs := (cx X c s : Buf (Elt F) (xL c))) (by rw [eS]) (by rw [eS]) ?_ ?_ ?_
  · unfold Fr; rw [if_pos hk, xview_set od iod hod]
  · intro fd
    rw [pointsTo_congr (land_x X c φ s hos hod fd)]
    unfold P; rw [if_pos hk, xview_set od iod hod]
  · exact (if_pos hk).symm

/-- A send of half a `w` block. -/
theorem wp_send_w (c : Dev nD) (φ : Fin 8) (s : ℕ) (hs : s < lim φ) (hk : kd φ = 1) (l : List (Fin 8 × ℕ))
    {ss rs : DmaSem sig} (hss : ss = sS φ s) (hrs : rs = rS φ s) {n : Dev nD} (hn : n = tgt φ c) {os od : Fin 3 → ℕ} {ios iod}
    (hos : os = ![(s + 2) % 3, 256 * dir (srcF φ s) + 128 * hf φ, 0]) (hod : od = ![s % 3, 256 * dir φ + 128 * hf φ, 0])
    {hsc : (wV od iod).view.ref.isScScratch = false} {hsrc : (wV os ios).view.WordExact} {hdst : (wV od iod).view.WordExact}
    {hsem : DmaTarget.Typed (nD := nD) (τ := τ) _ (.dma rs) (.remote (Dev.tc n : Thread nD τ) (wV od iod) (.dma ss) hsc)}
    {α : Type} {Q : α → sProp 𝕄} {k : PUnit → Prog (TpuEff nD τ sig (Elt F) Λ₀ .tc) α} :
    iprop(Rec X Y ∗ Ow c ((φ, s) :: l) ∗ SR X Y c φ s)
      ⊢ iprop(((Ow c l ∗ SC c φ s) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (wV os ios) (.remote (Dev.tc n : Thread nD τ) (wV od iod) (.dma ss) hsc) (.dma rs) hsrc hdst hsem) k) Q) := by
  subst hn
  have hk0 : ¬ kd φ = 0 := by omega
  have eS : Src X Y c φ s = ((wV os ios).view.loc (c : Thread nD τ) ↦[(wV os ios).view.set]{srcQ φ s} (cw Y c s : Buf (Elt F) (wL c)) : sProp 𝕄) := by
    unfold Src P; rw [if_neg (fun h => hk0 ((kd_srcF φ s).symm.trans h)), hf_srcF, wview_set os ios hos]
  refine wp_send_gen X Y c φ s hs l hss hrs (q := srcQ φ s) (fs := (cw Y c s : Buf (Elt F) (wL c))) (by rw [eS]) (by rw [eS]) ?_ ?_ ?_
  · unfold Fr; rw [if_neg hk0, wview_set od iod hod]
  · intro fd
    rw [pointsTo_congr (land_w Y c φ s hos hod fd)]
    unfold P; rw [if_neg hk0, wview_set od iod hod]
  · exact (if_neg hk0).symm

end Proto
end Cert.KernelIdeal.Ring
-- ==== Proof.KernelIdealStat.lean ====
/-
# Places, pieces and one step of a flow

The values of the program's offsets and devices, the pieces of a slot joined into what a load reads, and the rules for
one step of a flow and its opposite together: two arrivals, two sends, and later two sources free again.
-/
module

public import proofs.«01_k».proof.Proof.KernelIdealMsg

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig ℕ (Elt F) ℕ UU ℕ

/-! ## Semaphores by flow and step -/

theorem sem_at {B : ℕ} {h : B + S3x2.numel ≤ 53} {off : Fin 2 → ℕ} (inb : ∀ a : Fin S3x2.rank, off a + S1x1.size a ≤ S3x2.size a) {u v : ℕ} (ho : off = ![u, v]) :
    (((SemArray.consecutive B S3x2 h : DmaSems sig S3x2).slice (Rect.unit (s := S3x2) off S1x1.size inb)).squeeze S_ squeezes_S1x1_S_).sem.val
      = B + (2 * u + v) := by
  subst ho
  have key : ∀ e : S1x1.Idx, (S3x2.rowMajor ((Rect.unit (s := S3x2) ![u, v] S1x1.size inb).emb e)).val = 2 * u + v := by
    intro e
    have e0 : (e 0).val < 1 := (e 0).isLt
    have e1 : (e 1).val < 1 := (e 1).isLt
    rw [Shape.rowMajor_val_two]
    show (u + 1 * (e 0).val) * 2 + (v + 1 * (e 1).val) = _
    omega
  exact congrArg (B + ·) (key _)

theorem qS (φ : Fin 8) (s : ℕ) (B : ℕ) {h : B + S3x2.numel ≤ 53} (hB : B = 5 + 24 * dir φ + 12 * kd φ) {off : Fin 2 → ℕ}
    (inb : ∀ a : Fin S3x2.rank, off a + S1x1.size a ≤ S3x2.size a) (ho : off = ![s % 3, hf φ]) :
    (((SemArray.consecutive B S3x2 h : DmaSems sig S3x2).slice (Rect.unit (s := S3x2) off S1x1.size inb)).squeeze S_ squeezes_S1x1_S_).sem
      = sS φ s := by
  apply Fin.ext; rw [sem_at inb ho]; show B + (2 * (s % 3) + hf φ) = semN 0 φ s; unfold semN; omega
theorem qR (φ : Fin 8) (s : ℕ) (B : ℕ) {h : B + S3x2.numel ≤ 53} (hB : B = 11 + 24 * dir φ + 12 * kd φ) {off : Fin 2 → ℕ}
    (inb : ∀ a : Fin S3x2.rank, off a + S1x1.size a ≤ S3x2.size a) (ho : off = ![s % 3, hf φ]) :
    (((SemArray.consecutive B S3x2 h : DmaSems sig S3x2).slice (Rect.unit (s := S3x2) off S1x1.size inb)).squeeze S_ squeezes_S1x1_S_).sem
      = rS φ s := by
  apply Fin.ext; rw [sem_at inb ho]; show B + (2 * (s % 3) + hf φ) = semN 1 φ s; unfold semN; omega

/-! ## The loop's offsets -/

abbrev Trip : Type := Fin k0_t1_loop.trips
theorem trips_eq : k0_t1_loop.trips = 6 := by decide
theorem trip_lt (t : Trip) : t.val < 6 := lt_of_lt_of_eq t.isLt trips_eq

theorem off1_eq : ∀ t : Trip, k0_off1 t = ![t.val % 3, 0] := by decide
theorem off7_eq : ∀ t : Trip, k0_off7 t = ![t.val % 3, 1] := by decide
theorem off4_eq : ∀ t : Trip, k0_off4 t = ![(t.val + 1) % 3, 0] := by decide
theorem off10_eq : ∀ t : Trip, k0_off10 t = ![(t.val + 1) % 3, 1] := by decide
theorem off21_eq : ∀ t : Trip, k0_off21 t = ![t.val % 3, 0, 0] := by decide
theorem off22_eq : ∀ t : Trip, k0_off22 t = ![t.val % 3, 0, 0] := by decide

/-- The source of an `x` flow in trip `t`, and of a `w` flow. -/
abbrev xsrc (φ : Fin 8) (t : ℕ) : Fin 3 → ℕ := ![(t + 1 + 2) % 3, 2048 * hf φ, 256 * dir (srcF φ (t + 1))]
abbrev wsrc (φ : Fin 8) (t : ℕ) : Fin 3 → ℕ := ![(t + 1 + 2) % 3, 256 * dir (srcF φ (t + 1)) + 128 * hf φ, 0]
/-- The target. -/
abbrev xdst (φ : Fin 8) (t : ℕ) : Fin 3 → ℕ := ![(t + 1) % 3, 2048 * hf φ, 256 * dir φ]
abbrev wdst (φ : Fin 8) (t : ℕ) : Fin 3 → ℕ := ![(t + 1) % 3, 256 * dir φ + 128 * hf φ, 0]

theorem off2_eq : ∀ t : Trip, k0_off2 t = xsrc 0 t.val := by decide
theorem off3_eq : ∀ t : Trip, k0_off3 t = xsrc 4 t.val := by decide
theorem off8_eq : ∀ t : Trip, k0_off8 t = xsrc 1 t.val := by decide
theorem off9_eq : ∀ t : Trip, k0_off9 t = xsrc 5 t.val := by decide
theorem off5_eq : ∀ t : Trip, k0_off5 t = xdst 0 t.val := by decide
theorem off6_eq : ∀ t : Trip, k0_off6 t = xdst 4 t.val := by decide
theorem off11_eq : ∀ t : Trip, k0_off11 t = xdst 1 t.val := by decide
theorem off12_eq : ∀ t : Trip, k0_off12 t = xdst 5 t.val := by decide
theorem off13_eq : ∀ t : Trip, k0_off13 t = wsrc 2 t.val := by decide
theorem off14_eq : ∀ t : Trip, k0_off14 t = wsrc 6 t.val := by decide
theorem off17_eq : ∀ t : Trip, k0_off17 t = wsrc 3 t.val := by decide
theorem off18_eq : ∀ t : Trip, k0_off18 t = wsrc 7 t.val := by decide
theorem off15_eq : ∀ t : Trip, k0_off15 t = wdst 2 t.val := by decide
theorem off16_eq : ∀ t : Trip, k0_off16 t = wdst 6 t.val := by decide
theorem off19_eq : ∀ t : Trip, k0_off19 t = wdst 3 t.val := by decide
theorem off20_eq : ∀ t : Trip, k0_off20 t = wdst 7 t.val := by decide

/-! ## The devices the program names -/

theorem dev1_eq (c : Dev nD) : (⟨k0_dev1 c, k0_dev1_lt c⟩ : Dev nD) = prv c := Fin.ext ((k0_dev1_eq c).trans (by revert c; decide))
theorem dev2_eq (c : Dev nD) : (⟨k0_dev2 c, k0_dev2_lt c⟩ : Dev nD) = nxt c := Fin.ext ((k0_dev2_eq c).trans (by revert c; decide))
theorem dev3_eq (c : Dev nD) : (⟨k0_dev3 c, k0_dev3_lt c⟩ : Dev nD) = nxt c := Fin.ext ((k0_dev3_eq c).trans (by revert c; decide))
theorem dev4_eq (c : Dev nD) : (⟨k0_dev4 c, k0_dev4_lt c⟩ : Dev nD) = nxt c := Fin.ext ((k0_dev4_eq c).trans (by revert c; decide))
theorem dev5_eq (c : Dev nD) : (⟨k0_dev5 c, k0_dev5_lt c⟩ : Dev nD) = nxt c := Fin.ext ((k0_dev5_eq c).trans (by revert c; decide))
theorem dev6_eq (c : Dev nD) : (⟨k0_dev6 c, k0_dev6_lt c⟩ : Dev nD) = nxt c := Fin.ext ((k0_dev6_eq c).trans (by revert c; decide))
theorem dev7_eq (c : Dev nD) : (⟨k0_dev7 c, k0_dev7_lt c⟩ : Dev nD) = prv c := Fin.ext ((k0_dev7_eq c).trans (by revert c; decide))
theorem dev8_eq (c : Dev nD) : (⟨k0_dev8 c, k0_dev8_lt c⟩ : Dev nD) = prv c := Fin.ext ((k0_dev8_eq c).trans (by revert c; decide))
theorem dev9_eq (c : Dev nD) : (⟨k0_dev9 c, k0_dev9_lt c⟩ : Dev nD) = prv c := Fin.ext ((k0_dev9_eq c).trans (by revert c; decide))
theorem dev10_eq (c : Dev nD) : (⟨k0_dev10 c, k0_dev10_lt c⟩ : Dev nD) = prv c := Fin.ext ((k0_dev10_eq c).trans (by revert c; decide))
theorem dev11_eq (c : Dev nD) : (⟨k0_dev11 c, k0_dev11_lt c⟩ : Dev nD) = nxt c := Fin.ext ((k0_dev11_eq c).trans (by revert c; decide))
theorem dev12_eq (c : Dev nD) : (⟨k0_dev12 c, k0_dev12_lt c⟩ : Dev nD) = prv c := Fin.ext ((k0_dev12_eq c).trans (by revert c; decide))
theorem dev13_eq (c : Dev nD) : (⟨k0_dev13 c, k0_dev13_lt c⟩ : Dev nD) = nxt c := Fin.ext ((k0_dev13_eq c).trans (by revert c; decide))
theorem dev14_eq (c : Dev nD) : (⟨k0_dev14 c, k0_dev14_lt c⟩ : Dev nD) = prv c := Fin.ext ((k0_dev14_eq c).trans (by revert c; decide))
theorem dev15_eq (c : Dev nD) : (⟨k0_dev15 c, k0_dev15_lt c⟩ : Dev nD) = nxt c := Fin.ext ((k0_dev15_eq c).trans (by revert c; decide))
theorem dev16_eq (c : Dev nD) : (⟨k0_dev16 c, k0_dev16_lt c⟩ : Dev nD) = prv c := Fin.ext ((k0_dev16_eq c).trans (by revert c; decide))
theorem dev17_eq (c : Dev nD) : (⟨k0_dev17 c, k0_dev17_lt c⟩ : Dev nD) = nxt c := Fin.ext ((k0_dev17_eq c).trans (by revert c; decide))
theorem dev18_eq (c : Dev nD) : (⟨k0_dev18 c, k0_dev18_lt c⟩ : Dev nD) = prv c := Fin.ext ((k0_dev18_eq c).trans (by revert c; decide))
theorem dev19_eq (c : Dev nD) : (⟨k0_dev19 c, k0_dev19_lt c⟩ : Dev nD) = nxt c := Fin.ext ((k0_dev19_eq c).trans (by revert c; decide))
theorem dev20_eq (c : Dev nD) : (⟨k0_dev20 c, k0_dev20_lt c⟩ : Dev nD) = nxt c := Fin.ext ((k0_dev20_eq c).trans (by revert c; decide))
theorem dev21_eq (c : Dev nD) : (⟨k0_dev21 c, k0_dev21_lt c⟩ : Dev nD) = nxt c := Fin.ext ((k0_dev21_eq c).trans (by revert c; decide))
theorem dev22_eq (c : Dev nD) : (⟨k0_dev22 c, k0_dev22_lt c⟩ : Dev nD) = nxt c := Fin.ext ((k0_dev22_eq c).trans (by revert c; decide))

/-! ## Pieces joined -/

/-- A part of a buffer at some contents. -/
def Own (ℓ : Loc nD τ sig) (S : Finset (Idx ℓ)) : sProp 𝕄 := iprop(∃ f : Buf (Elt F) ℓ, ℓ ↦[S]{fullShare} f)

theorem Own_union {ℓ : Loc nD τ sig} {S T : Finset (Idx ℓ)} (h : Disjoint S T) :
    (Own ℓ (S ∪ T) : sProp 𝕄) ⊣⊢ iprop(Own ℓ S ∗ Own ℓ T) := by
  unfold Own
  refine ⟨?_, ?_⟩
  · iintro ⟨%f, H⟩
    ihave H := (pointsTo_union h).1 $$ H
    icases H with ⟨H1, H2⟩
    isplitl [H1]
    · iexists f; iexact H1
    · iexists f; iexact H2
  · iintro ⟨⟨%f, H1⟩, ⟨%g, H2⟩⟩
    iexists (fun i => if i ∈ S then f i else g i)
    iapply (pointsTo_union h).2
    rw [pointsTo_congr (I := S) (f := fun i => if i ∈ S then f i else g i) (g := f) (fun i hi => if_pos hi),
      pointsTo_congr (I := T) (f := fun i => if i ∈ S then f i else g i) (g := g) (fun i hi => if_neg fun hs => Finset.disjoint_left.mp h hs hi)]
    isplitl [H1]; · iexact H1
    iexact H2

/-- One side of a slot of the `x` buffer and a whole slot; the same of the `w` buffer. -/
def xside (u d : ℕ) : Finset S3x4096x512.Idx := Finset.univ.filter fun i => (i 0).val = u ∧ (i 2).val / 256 = d
def xslot (u : ℕ) : Finset S3x4096x512.Idx := Finset.univ.filter fun i => (i 0).val = u
def wside (u d : ℕ) : Finset S3x512x2048.Idx := Finset.univ.filter fun i => (i 0).val = u ∧ (i 1).val / 256 = d
def wslot (u : ℕ) : Finset S3x512x2048.Idx := Finset.univ.filter fun i => (i 0).val = u

theorem mem_xside {u d : ℕ} {i : S3x4096x512.Idx} : i ∈ xside u d ↔ (i 0).val = u ∧ (i 2).val / 256 = d := by
  simp only [xside, Finset.mem_filter, Finset.mem_univ, true_and]
theorem mem_xslot {u : ℕ} {i : S3x4096x512.Idx} : i ∈ xslot u ↔ (i 0).val = u := by
  simp only [xslot, Finset.mem_filter, Finset.mem_univ, true_and]
theorem mem_wside {u d : ℕ} {i : S3x512x2048.Idx} : i ∈ wside u d ↔ (i 0).val = u ∧ (i 1).val / 256 = d := by
  simp only [wside, Finset.mem_filter, Finset.mem_univ, true_and]
theorem mem_wslot {u : ℕ} {i : S3x512x2048.Idx} : i ∈ wslot u ↔ (i 0).val = u := by
  simp only [wslot, Finset.mem_filter, Finset.mem_univ, true_and]

theorem x_halves (u d : ℕ) : xside u d = xset u 0 d ∪ xset u 1 d := by
  ext i; have h1 : (i 1).val < 4096 := (i 1).isLt
  simp only [Finset.mem_union, mem_xset, mem_xside]; omega
theorem x_sides (u : ℕ) : xslot u = xside u 0 ∪ xside u 1 := by
  ext i; have h1 : (i 2).val < 512 := (i 2).isLt
  simp only [Finset.mem_union, mem_xslot, mem_xside]; omega
theorem x_slots : (Finset.univ : Finset S3x4096x512.Idx) = xslot 0 ∪ (xslot 1 ∪ xslot 2) := by
  ext i; have h1 : (i 0).val < 3 := (i 0).isLt
  simp only [Finset.mem_union, mem_xslot, Finset.mem_univ, true_iff]; omega
theorem w_halves (u d : ℕ) : wside u d = wset u 0 d ∪ wset u 1 d := by
  ext i; have h1 : (i 1).val < 512 := (i 1).isLt
  simp only [Finset.mem_union, mem_wset, mem_wside]; omega
theorem w_sides (u : ℕ) : wslot u = wside u 0 ∪ wside u 1 := by
  ext i; have h1 : (i 1).val < 512 := (i 1).isLt
  simp only [Finset.mem_union, mem_wslot, mem_wside]; omega
theorem w_slots : (Finset.univ : Finset S3x512x2048.Idx) = wslot 0 ∪ (wslot 1 ∪ wslot 2) := by
  ext i; have h1 : (i 0).val < 3 := (i 0).isLt
  simp only [Finset.mem_union, mem_wslot, Finset.mem_univ, true_iff]; omega

theorem x_halves_disj (u d : ℕ) : Disjoint (xset u 0 d) (xset u 1 d) :=
  Finset.disjoint_left.mpr fun i h h' => by rw [mem_xset] at h h'; omega
theorem x_sides_disj (u : ℕ) : Disjoint (xside u 0) (xside u 1) :=
  Finset.disjoint_left.mpr fun i h h' => by rw [mem_xside] at h h'; omega
theorem x_slots_disj {u v : ℕ} (h : u ≠ v) : Disjoint (xslot u) (xslot v) :=
  Finset.disjoint_left.mpr fun i h h' => by rw [mem_xslot] at h h'; omega
theorem w_halves_disj (u d : ℕ) : Disjoint (wset u 0 d) (wset u 1 d) :=
  Finset.disjoint_left.mpr fun i h h' => by rw [mem_wset] at h h'; omega
theorem w_sides_disj (u : ℕ) : Disjoint (wside u 0) (wside u 1) :=
  Finset.disjoint_left.mpr fun i h h' => by rw [mem_wside] at h h'; omega
theorem w_slots_disj {u v : ℕ} (h : u ≠ v) : Disjoint (wslot u) (wslot v) :=
  Finset.disjoint_left.mpr fun i h h' => by rw [mem_wslot] at h h'; omega

theorem Fr_x (c : Dev nD) {φ : Fin 8} (h : kd φ = 0) (s : ℕ) : (Fr c φ s : sProp 𝕄) = Own (xL c) (xset (s % 3) (hf φ) (dir φ)) := if_pos h
theorem Fr_w (c : Dev nD) {φ : Fin 8} (h : kd φ = 1) (s : ℕ) : (Fr c φ s : sProp 𝕄) = Own (wL c) (wset (s % 3) (hf φ) (dir φ)) :=
  if_neg (by omega)

/-- One side of a slot is its two flows' pieces. -/
theorem own_xr (c : Dev nD) (s : ℕ) : (Own (xL c) (xside (s % 3) 0) : sProp 𝕄) ⊣⊢ iprop(Fr c 0 s ∗ Fr c 1 s) := by
  rw [Fr_x c (φ := 0) rfl, Fr_x c (φ := 1) rfl, x_halves]; exact Own_union (x_halves_disj _ _)
theorem own_xl (c : Dev nD) (s : ℕ) : (Own (xL c) (xside (s % 3) 1) : sProp 𝕄) ⊣⊢ iprop(Fr c 4 s ∗ Fr c 5 s) := by
  rw [Fr_x c (φ := 4) rfl, Fr_x c (φ := 5) rfl, x_halves]; exact Own_union (x_halves_disj _ _)
theorem own_wr (c : Dev nD) (s : ℕ) : (Own (wL c) (wside (s % 3) 0) : sProp 𝕄) ⊣⊢ iprop(Fr c 2 s ∗ Fr c 3 s) := by
  rw [Fr_w c (φ := 2) rfl, Fr_w c (φ := 3) rfl, w_halves]; exact Own_union (w_halves_disj _ _)
theorem own_wl (c : Dev nD) (s : ℕ) : (Own (wL c) (wside (s % 3) 1) : sProp 𝕄) ⊣⊢ iprop(Fr c 6 s ∗ Fr c 7 s) := by
  rw [Fr_w c (φ := 6) rfl, Fr_w c (φ := 7) rfl, w_halves]; exact Own_union (w_halves_disj _ _)

/-- A slot's eight pieces. -/
def Slot (c : Dev nD) (s : ℕ) : sProp 𝕄 :=
  iprop((Fr c 0 s ∗ Fr c 1 s ∗ Fr c 2 s ∗ Fr c 3 s) ∗ Fr c 4 s ∗ Fr c 5 s ∗ Fr c 6 s ∗ Fr c 7 s)

theorem own_slot (c : Dev nD) (s : ℕ) : iprop(Own (xL c) (xslot (s % 3)) ∗ Own (wL c) (wslot (s % 3))) ⊣⊢ (Slot c s : sProp 𝕄) := by
  rw [x_sides, w_sides]
  unfold Slot
  refine ⟨?_, ?_⟩
  · iintro ⟨Hx, Hw⟩
    ihave Hx := (Own_union (x_sides_disj _)).1 $$ Hx
    ihave Hw := (Own_union (w_sides_disj _)).1 $$ Hw
    icases Hx with ⟨Hx0, Hx1⟩
    icases Hw with ⟨Hw0, Hw1⟩
    ihave Hx0 := (own_xr c s).1 $$ Hx0
    ihave Hx1 := (own_xl c s).1 $$ Hx1
    ihave Hw0 := (own_wr c s).1 $$ Hw0
    ihave Hw1 := (own_wl c s).1 $$ Hw1
    icases Hx0 with ⟨H0, H1⟩
    icases Hx1 with ⟨H4, H5⟩
    icases Hw0 with ⟨H2, H3⟩
    icases Hw1 with ⟨H6, H7⟩
    iframe
  · iintro ⟨⟨H0, H1, H2, H3⟩, H4, H5, H6, H7⟩
    isplitl [H0 H1 H4 H5]
    · iapply (Own_union (x_sides_disj _)).2
      isplitl [H0 H1]
      · iapply (own_xr c s).2; iframe
      · iapply (own_xl c s).2; iframe
    · iapply (Own_union (w_sides_disj _)).2
      isplitl [H2 H3]
      · iapply (own_wr c s).2; iframe
      · iapply (own_wl c s).2; iframe

/-- The two scratch buffers are three slots. -/
theorem own_scratch (c : Dev nD) :
    iprop((∃ f : Buf (Elt F) (xL c), xL c ↦{fullShare} f) ∗ (∃ f : Buf (Elt F) (wL c), wL c ↦{fullShare} f))
      ⊣⊢ (iprop(Slot c 0 ∗ Slot c 1 ∗ Slot c 2) : sProp 𝕄) := by
  show iprop(Own (xL c) (Finset.univ : Finset S3x4096x512.Idx) ∗ Own (wL c) (Finset.univ : Finset S3x512x2048.Idx)) ⊣⊢ _
  have e0 := own_slot (F := F) c 0
  have e1 := own_slot (F := F) c 1
  have e2 := own_slot (F := F) c 2
  simp only [Nat.zero_mod, Nat.reduceMod] at e0 e1 e2
  have d1 : Disjoint (xslot 0) (xslot 1 ∪ xslot 2) := Finset.disjoint_union_right.mpr ⟨x_slots_disj (by decide), x_slots_disj (by decide)⟩
  have d2 : Disjoint (wslot 0) (wslot 1 ∪ wslot 2) := Finset.disjoint_union_right.mpr ⟨w_slots_disj (by decide), w_slots_disj (by decide)⟩
  rw [x_slots, w_slots]
  refine ⟨?_, ?_⟩
  · iintro ⟨Hx, Hw⟩
    ihave Hx := (Own_union (ℓ := xL c) d1).1 $$ Hx
    ihave Hw := (Own_union (ℓ := wL c) d2).1 $$ Hw
    icases Hx with ⟨Hx0, Hx⟩
    icases Hw with ⟨Hw0, Hw⟩
    ihave Hx := (Own_union (ℓ := xL c) (x_slots_disj (u := 1) (v := 2) (by decide))).1 $$ Hx
    ihave Hw := (Own_union (ℓ := wL c) (w_slots_disj (u := 1) (v := 2) (by decide))).1 $$ Hw
    icases Hx with ⟨Hx1, Hx2⟩
    icases Hw with ⟨Hw1, Hw2⟩
    isplitl [Hx0 Hw0]
    · iapply e0.1; iframe
    isplitl [Hx1 Hw1]
    · iapply e1.1; iframe
    · iapply e2.1; iframe
  · iintro ⟨H0, H1, H2⟩
    ihave H0 := e0.2 $$ H0
    ihave H1 := e1.2 $$ H1
    ihave H2 := e2.2 $$ H2
    icases H0 with ⟨Hx0, Hw0⟩
    icases H1 with ⟨Hx1, Hw1⟩
    icases H2 with ⟨Hx2, Hw2⟩
    isplitl [Hx0 Hx1 Hx2]
    · iapply (Own_union (ℓ := xL c) d1).2
      isplitl [Hx0]; · iexact Hx0
      iapply (Own_union (ℓ := xL c) (x_slots_disj (u := 1) (v := 2) (by decide))).2; iframe
    · iapply (Own_union (ℓ := wL c) d2).2
      isplitl [Hw0]; · iexact Hw0
      iapply (Own_union (ℓ := wL c) (w_slots_disj (u := 1) (v := 2) (by decide))).2; iframe

end Cert.KernelIdeal.Ring
-- ==== Proof.KernelIdealStep.lean ====
/-
# One step of the ring

A flow's state between trips of the loop, one trip of a flow and its opposite, and what a slot's loads read.
-/
module

public import proofs.«01_k».proof.Proof.KernelIdealStat
public import Idealize.ShloMosaic.Lib.ValueLayout

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix3 shapeCast_ab_1ab_apply)

variable {F : FTy → Type} [FloatOps F]

local notation "𝕄" => MT nD τ sig ℕ (Elt F) ℕ UU ℕ

section Step
variable (X : Dev nD → S4096x256.Idx → Elt F .fp8e4m3) (Y : Dev nD → S256x2048.Idx → Elt F .fp8e5m2)

/-! ## Operations by what they do -/

abbrev Op : Type := TpuEff nD τ sig (Elt F) Λ₀ .tc PUnit
/-- The rest of the program after an operation, as a goal. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The operation waits for the arrival of flow `φ`'s message of step `s`. -/
def Recvs (c : Dev nD) (φ : Fin 8) (s : ℕ) (o : Op (F := F)) : Prop :=
  ∀ {l : List (Fin 8 × ℕ)} (_ : From (s + 1) l) {α : Type} {Q : α → sProp 𝕄} {k : PUnit → Prog (TpuEff nD τ sig (Elt F) Λ₀ .tc) α},
    iprop(Rec X Y ∗ Ow c l ∗ RC c φ s ∗ RN c φ s)
      ⊢ iprop(((Ow c l ∗ RN c φ (s + 3) ∗ Landed X Y c φ s) -∗ Wp c (k ⟨⟩) Q) -∗ Wp c (.op o k) Q)
/-- The operation waits until the source of flow `φ`'s message of step `s` is free again. -/
def Frees (c : Dev nD) (φ : Fin 8) (s : ℕ) (o : Op (F := F)) : Prop :=
  ∀ {l : List (Fin 8 × ℕ)} (_ : From 0 l) {α : Type} {Q : α → sProp 𝕄} {k : PUnit → Prog (TpuEff nD τ sig (Elt F) Λ₀ .tc) α},
    iprop(Rec X Y ∗ Ow c l ∗ SC c φ s ∗ SN c φ s)
      ⊢ iprop(((Ow c l ∗ SN c φ (s + 3) ∗ Src X Y c φ s) -∗ Wp c (k ⟨⟩) Q) -∗ Wp c (.op o k) Q)
/-- The operation sends flow `φ`'s message of step `s`. -/
def Sends (c : Dev nD) (φ : Fin 8) (s : ℕ) (o : Op (F := F)) : Prop :=
  ∀ (l : List (Fin 8 × ℕ)) {α : Type} {Q : α → sProp 𝕄} {k : PUnit → Prog (TpuEff nD τ sig (Elt F) Λ₀ .tc) α},
    iprop(Rec X Y ∗ Ow c ((φ, s) :: l) ∗ SR X Y c φ s)
      ⊢ iprop(((Ow c l ∗ SC c φ s) -∗ Wp c (k ⟨⟩) Q) -∗ Wp c (.op o k) Q)

theorem recvs (c : Dev nD) (φ : Fin 8) (s : ℕ) (hs : s < lim φ) {q : DmaSem sig} (hq : q = rS φ s) {sp sp' : Space} {sh : Shape} {e : EltTy}
    {src : Memref sig .tc sp sh e} {dst : Memref sig .tc sp' sh e} {hsrc : src.view.WordExact} {hdst : dst.view.WordExact}
    (hN : dst.view.dmaCredit = NN φ) : Recvs X Y c φ s (.waitDma2 q src dst hsrc hdst) :=
  fun hl => wp_recv X Y c φ s hs hl hq hN
theorem frees (c : Dev nD) (φ : Fin 8) (s : ℕ) (hs : s < lim φ) {q : DmaSem sig} (hq : q = sS φ s) {sp sp' : Space} {sh : Shape} {e : EltTy}
    {src : Memref sig .tc sp sh e} {dst : Memref sig .tc sp' sh e} {hsrc : src.view.WordExact} {hdst : dst.view.WordExact}
    (hN : dst.view.dmaCredit = NN φ) : Frees X Y c φ s (.waitDma2 q src dst hsrc hdst) :=
  fun hl => wp_swait X Y c φ s hs hl hq hN
theorem sends_x (c : Dev nD) (φ : Fin 8) (s : ℕ) (hs : s < lim φ) (hk : kd φ = 0)
    {ss rs : DmaSem sig} (hss : ss = sS φ s) (hrs : rs = rS φ s) {n : Dev nD} (hn : n = tgt φ c) {os od : Fin 3 → ℕ} {ios iod}
    (hos : os = ![(s + 2) % 3, 2048 * hf φ, 256 * dir (srcF φ s)]) (hod : od = ![s % 3, 2048 * hf φ, 256 * dir φ])
    {hsc : (xV od iod).view.ref.isScScratch = false} {hsrc : (xV os ios).view.WordExact} {hdst : (xV od iod).view.WordExact}
    {hsem : DmaTarget.Typed (nD := nD) (τ := τ) (p := .tc) Space.vmem (.dma rs) (.remote (Dev.tc n : Thread nD τ) (xV od iod) (.dma ss) hsc)} :
    Sends X Y c φ s (.enqueueDma (xV os ios) (.remote (Dev.tc n : Thread nD τ) (xV od iod) (.dma ss) hsc) (.dma rs) hsrc hdst hsem) :=
  fun l => wp_send_x X Y c φ s hs hk l hss hrs hn hos hod
theorem sends_w (c : Dev nD) (φ : Fin 8) (s : ℕ) (hs : s < lim φ) (hk : kd φ = 1)
    {ss rs : DmaSem sig} (hss : ss = sS φ s) (hrs : rs = rS φ s) {n : Dev nD} (hn : n = tgt φ c) {os od : Fin 3 → ℕ} {ios iod}
    (hos : os = ![(s + 2) % 3, 256 * dir (srcF φ s) + 128 * hf φ, 0]) (hod : od = ![s % 3, 256 * dir φ + 128 * hf φ, 0])
    {hsc : (wV od iod).view.ref.isScScratch = false} {hsrc : (wV os ios).view.WordExact} {hdst : (wV od iod).view.WordExact}
    {hsem : DmaTarget.Typed (nD := nD) (τ := τ) (p := .tc) Space.vmem (.dma rs) (.remote (Dev.tc n : Thread nD τ) (wV od iod) (.dma ss) hsc)} :
    Sends X Y c φ s (.enqueueDma (wV os ios) (.remote (Dev.tc n : Thread nD τ) (wV od iod) (.dma ss) hsc) (.dma rs) hsrc hdst hsem) :=
  fun l => wp_send_w X Y c φ s hs hk l hss hrs hn hos hod

theorem credit_x (φ : Fin 8) (hk : kd φ = 0) (od : Fin 3 → ℕ) (iod) : (xV od iod).view.dmaCredit = NN φ := by
  unfold NN; rw [if_pos hk]; rfl
theorem credit_w (φ : Fin 8) (hk : kd φ = 1) (od : Fin 3 → ℕ) (iod) : (wV od iod).view.dmaCredit = NN φ := by
  unfold NN; rw [if_neg (by omega)]; rfl
theorem recvs_x (c : Dev nD) (φ : Fin 8) (s : ℕ) (hs : s < lim φ) (hk : kd φ = 0) {q : DmaSem sig} (hq : q = rS φ s) {os od : Fin 3 → ℕ} {ios iod}
    {hsrc : (xV os ios).view.WordExact} {hdst : (xV od iod).view.WordExact} : Recvs X Y c φ s (.waitDma2 q (xV os ios) (xV od iod) hsrc hdst) :=
  recvs X Y c φ s hs hq (credit_x φ hk od iod)
theorem recvs_w (c : Dev nD) (φ : Fin 8) (s : ℕ) (hs : s < lim φ) (hk : kd φ = 1) {q : DmaSem sig} (hq : q = rS φ s) {os od : Fin 3 → ℕ} {ios iod}
    {hsrc : (wV os ios).view.WordExact} {hdst : (wV od iod).view.WordExact} : Recvs X Y c φ s (.waitDma2 q (wV os ios) (wV od iod) hsrc hdst) :=
  recvs X Y c φ s hs hq (credit_w φ hk od iod)
theorem frees_x (c : Dev nD) (φ : Fin 8) (s : ℕ) (hs : s < lim φ) (hk : kd φ = 0) {q : DmaSem sig} (hq : q = sS φ s) {os od : Fin 3 → ℕ} {ios iod}
    {hsrc : (xV os ios).view.WordExact} {hdst : (xV od iod).view.WordExact} : Frees X Y c φ s (.waitDma2 q (xV os ios) (xV od iod) hsrc hdst) :=
  frees X Y c φ s hs hq (credit_x φ hk od iod)
theorem frees_w (c : Dev nD) (φ : Fin 8) (s : ℕ) (hs : s < lim φ) (hk : kd φ = 1) {q : DmaSem sig} (hq : q = sS φ s) {os od : Fin 3 → ℕ} {ios iod}
    {hsrc : (wV os ios).view.WordExact} {hdst : (wV od iod).view.WordExact} : Frees X Y c φ s (.waitDma2 q (wV os ios) (wV od iod) hsrc hdst) :=
  frees X Y c φ s hs hq (credit_w φ hk od iod)

/-! ## A flow's state between trips -/

/-- The tokens of a flow's messages from step `k` on, and the credit of those to arrive. -/
def Tk (c : Dev nD) (φ : Fin 8) (k : ℕ) : sProp 𝕄 := bigSep (Finset.Ico k (lim φ)) (Snd c φ)
def Rk (c : Dev nD) (φ : Fin 8) (k : ℕ) : sProp 𝕄 := bigSep (Finset.Ico k (lim φ)) (RC c φ)

theorem Ico_cut {k n : ℕ} (h : k < n) (Φ : ℕ → sProp 𝕄) : bigSep (Finset.Ico k n) Φ ⊢ iprop(Φ k ∗ bigSep (Finset.Ico (k + 1) n) Φ) := by
  rw [bigSep_erase (Finset.left_mem_Ico.mpr h)]
  rw [show (Finset.Ico k n).erase k = Finset.Ico (k + 1) n from by
    ext i; simp only [Finset.mem_erase, Finset.mem_Ico]; omega]
  exact .rfl
theorem Tk_cut (c : Dev nD) (φ : Fin 8) {k : ℕ} (h : k < lim φ) : (Tk c φ k : sProp 𝕄) ⊢ iprop(Snd c φ k ∗ Tk c φ (k + 1)) := Ico_cut h _
theorem Rk_cut (c : Dev nD) (φ : Fin 8) {k : ℕ} (h : k < lim φ) : (Rk c φ k : sProp 𝕄) ⊢ iprop(RC c φ k ∗ Rk c φ (k + 1)) := Ico_cut h _

/-- The piece of a left flow that its last step leaves unused. -/
def Lf (c : Dev nD) (φ : Fin 8) (t : ℕ) : sProp 𝕄 := if t = 6 ∧ 4 ≤ φ.val then Fr c φ 7 else iprop(emp)

/-- A flow before trip `t`: its own piece of the slot two steps on, its positions, tokens and credit. -/
def LI (c : Dev nD) (φ : Fin 8) (t : ℕ) : sProp 𝕄 :=
  iprop(Fr c φ (t + 2) ∗ RN c φ t ∗ RN c φ (t + 1) ∗ RN c φ (t + 2) ∗ SN c φ (t + 1) ∗ SN c φ (t + 2) ∗ SN c φ (t + 3)
    ∗ Tk c φ (t + 1) ∗ Rk c φ t ∗ Lf c φ t)
/-- A flow within trip `t`, between its send and the wait for the source. -/
def MI (c : Dev nD) (φ : Fin 8) (t : ℕ) : sProp 𝕄 :=
  iprop(SC c φ (t + 1) ∗ RN c φ (t + 1) ∗ RN c φ (t + 2) ∗ RN c φ (t + 3) ∗ SN c φ (t + 1) ∗ SN c φ (t + 2) ∗ SN c φ (t + 3)
    ∗ Tk c φ (t + 2) ∗ Rk c φ (t + 1) ∗ Lf c φ (t + 1))
/-- The landed piece of a flow, at the share that stays with the device while the other is being sent. -/
abbrev Kept (c : Dev nD) (φ : Fin 8) (t n : ℕ) : sProp 𝕄 := P X Y c φ t fullShare.right n

theorem opp_ge {a : Fin 8} (h : a.val < 4) : ¬ (opp a).val < 4 := by revert a; decide
theorem lim_lt {a : Fin 8} (h : a.val < 4) : lim a = 8 := if_pos h
theorem lim_opp {a : Fin 8} (h : a.val < 4) : lim (opp a) = 7 := if_neg (opp_ge h)

theorem Src_succ (c : Dev nD) (φ : Fin 8) (t : ℕ) : Src X Y c φ (t + 1) = P X Y c φ t fullShare.left (t + 1) := by
  unfold Src srcF srcQ
  rw [if_neg (Nat.succ_ne_zero t), if_neg (Nat.succ_ne_zero t)]
  exact P_mod X Y (by omega)

/-- Two arrivals give what the two next sends take. -/
theorem mk_pair (c : Dev nD) {a : Fin 8} (ha : a.val < 4) {t : ℕ} (ht : t < 6) :
    iprop((Snd c a (t + 1) ∗ Snd c (opp a) (t + 1)) ∗ Landed X Y c a t ∗ Landed X Y c (opp a) t ∗ (Fr c a (t + 2) ∗ Fr c (opp a) (t + 2))
        ∗ RN c a (t + 2) ∗ RN c (opp a) (t + 2) ∗ SN c a (t + 1) ∗ SN c (opp a) (t + 1))
      ⊢ iprop(SR X Y c a (t + 1) ∗ SR X Y c (opp a) (t + 1) ∗ Kept X Y c a t (t + 1) ∗ Kept X Y c (opp a) t (t + 1)
        ∗ RN c a (t + 2) ∗ RN c (opp a) (t + 2) ∗ SN c a (t + 1) ∗ SN c (opp a) (t + 1) ∗ Lf c (opp a) (t + 1)) := by
  have la := lim_lt ha
  have lb := lim_opp ha
  unfold SR Landed
  rw [show Back (F := F) c a t = Dst c (opp a) (t + 1) from if_pos (by rw [lb]; omega),
    show Back (F := F) c (opp a) t = Dst c a (t + 1) from by unfold Back; rw [opp_opp, la, if_pos (by omega)],
    Src_succ, Src_succ,
    show Give (F := F) c (opp a) (t + 1) = iprop(Fr c a (t + 1 + 1) ∗ reached ER (rC c a (t + 1 + 1)) ((t + 1 + 1) / 3)) from by
      unfold Give; rw [opp_opp, la, if_pos (by omega)]]
  unfold RN SN
  iintro ⟨⟨Ta, Tb⟩, ⟨Pa, Da⟩, ⟨Pb, Db⟩, ⟨Fa, Fb⟩, ⟨Ra, #Ra'⟩, ⟨Rb, #Rb'⟩, ⟨Sa, #Sa'⟩, ⟨Sb, #Sb'⟩⟩
  ihave Pa := (P_halves X Y c a t fullShare (t + 1)).1 $$ Pa
  ihave Pb := (P_halves X Y c (opp a) t fullShare (t + 1)).1 $$ Pb
  icases Pa with ⟨Pa, Ka⟩
  icases Pb with ⟨Pb, Kb⟩
  have split : iprop(Fr c (opp a) (t + 2) ∗ reached ER (rC c (opp a) (t + 2)) ((t + 2) / 3))
      ⊢ (iprop(Give c a (t + 1) ∗ Lf c (opp a) (t + 1)) : sProp 𝕄) := by
    unfold Give Lf
    rw [lb]
    by_cases h : t = 5
    · rw [if_neg (by omega), if_pos ⟨by omega, by have := opp_ge ha; omega⟩]
      subst h
      iintro ⟨H, -⟩
      isplitr; · iempintro
      iexact H
    · rw [if_pos (by omega), if_neg (by omega)]
      iintro ⟨H, H'⟩
      isplitl [H H']
      · isplitl [H]; · iexact H
        iexact H'
      iempintro
  ihave Hs := split $$ [Fb]
  · isplitl [Fb]; · iexact Fb
    iexact Rb'
  icases Hs with ⟨Ga, Lb⟩
  isplitl [Ta Pa Db Ga]
  · isplitl [Ta]; · iexact Ta
    isplitr; · iexact Sa'
    isplitl [Pa]; · iexact Pa
    isplitl [Db]; · iexact Db
    iexact Ga
  isplitl [Tb Pb Da Fa]
  · isplitl [Tb]; · iexact Tb
    isplitr; · iexact Sb'
    isplitl [Pb]; · iexact Pb
    isplitl [Da]; · iexact Da
    isplitl [Fa]; · iexact Fa
    iexact Ra'
  isplitl [Ka]; · iexact Ka
  isplitl [Kb]; · iexact Kb
  isplitl [Ra]
  · isplitl [Ra]; · iexact Ra
    iexact Ra'
  isplitl [Rb]
  · isplitl [Rb]; · iexact Rb
    iexact Rb'
  isplitl [Sa]
  · isplitl [Sa]; · iexact Sa
    iexact Sa'
  isplitl [Sb]
  · isplitl [Sb]; · iexact Sb
    iexact Sb'
  iexact Lb

/-- One trip of a flow to the right and of the opposite one: both arrivals, both sends. -/
theorem wp_pair (c : Dev nD) {a b : Fin 8} (ha : a.val < 4) (hb : b = opp a) {t : ℕ} (ht : t < 6) {l : List (Fin 8 × ℕ)} (hl : From (t + 1) l)
    {o1 o2 o3 o4 : Op (F := F)} (h1 : Recvs X Y c a t o1) (h2 : Recvs X Y c b t o2) (h3 : Sends X Y c a (t + 1) o3)
    (h4 : Sends X Y c b (t + 1) o4) {α : Type} {Q : α → sProp 𝕄} {k : PUnit → Prog (TpuEff nD τ sig (Elt F) Λ₀ .tc) α} :
    iprop(Rec X Y ∗ Ow c ((a, t + 1) :: (b, t + 1) :: l) ∗ LI c a t ∗ LI c b t)
      ⊢ iprop(((Ow c l ∗ MI c a t ∗ MI c b t ∗ Kept X Y c a t (t + 1) ∗ Kept X Y c b t (t + 1)) -∗ Wp c (k ⟨⟩) Q)
        -∗ Wp c (.op o1 fun _ => .op o2 fun _ => .op o3 fun _ => .op o4 k) Q) := by
  subst hb
  have la := lim_lt ha
  have lb := lim_opp ha
  have hl' : From (t + 1) ((a, t + 1) :: (opp a, t + 1) :: l) := (hl.cons (le_refl _) (by omega)).cons (le_refl _) (by omega)
  unfold LI MI
  iintro ⟨#HR, HO, ⟨Fa, Ra0, Ra1, Ra2, Sa1, Sa2, Sa3, Ta, Ca, -⟩, ⟨Fb, Rb0, Rb1, Rb2, Sb1, Sb2, Sb3, Tb, Cb, -⟩⟩ Hk
  ihave Ta := Tk_cut c a (k := t + 1) (by omega) $$ Ta
  icases Ta with ⟨Ta, Ta'⟩
  ihave Tb := Tk_cut c (opp a) (k := t + 1) (by omega) $$ Tb
  icases Tb with ⟨Tb, Tb'⟩
  ihave Ca := Rk_cut c a (k := t) (by omega) $$ Ca
  icases Ca with ⟨Ca, Ca'⟩
  ihave Cb := Rk_cut c (opp a) (k := t) (by omega) $$ Cb
  icases Cb with ⟨Cb, Cb'⟩
  iapply (h1 hl') $$ [HO Ca Ra0]
  · isplitl []; · iexact HR
    isplitl [HO]; · iexact HO
    isplitl [Ca]; · iexact Ca
    iexact Ra0
  iintro ⟨HO, Ra3, La⟩
  iapply (h2 hl') $$ [HO Cb Rb0]
  · isplitl []; · iexact HR
    isplitl [HO]; · iexact HO
    isplitl [Cb]; · iexact Cb
    iexact Rb0
  iintro ⟨HO, Rb3, Lb⟩
  ihave H := mk_pair X Y c ha ht $$ [Ta Tb La Lb Fa Fb Ra2 Rb2 Sa1 Sb1]
  · isplitl [Ta Tb]
    · isplitl [Ta]; · iexact Ta
      iexact Tb
    isplitl [La]; · iexact La
    isplitl [Lb]; · iexact Lb
    isplitl [Fa Fb]
    · isplitl [Fa]; · iexact Fa
      iexact Fb
    isplitl [Ra2]; · iexact Ra2
    isplitl [Rb2]; · iexact Rb2
    isplitl [Sa1]; · iexact Sa1
    iexact Sb1
  icases H with ⟨Qa, Qb, Ka, Kb, Ra2, Rb2, Sa1, Sb1, Lf⟩
  iapply (h3 _) $$ [HO Qa]
  · isplitl []; · iexact HR
    isplitl [HO]; · iexact HO
    iexact Qa
  iintro ⟨HO, Ga⟩
  iapply (h4 _) $$ [HO Qb]
  · isplitl []; · iexact HR
    isplitl [HO]; · iexact HO
    iexact Qb
  iintro ⟨HO, Gb⟩
  iapply Hk
  isplitl [HO]; · iexact HO
  isplitl [Ga Ra1 Ra2 Ra3 Sa1 Sa2 Sa3 Ta' Ca']
  · isplitl [Ga]; · iexact Ga
    isplitl [Ra1]; · iexact Ra1
    isplitl [Ra2]; · iexact Ra2
    isplitl [Ra3]; · iexact Ra3
    isplitl [Sa1]; · iexact Sa1
    isplitl [Sa2]; · iexact Sa2
    isplitl [Sa3]; · iexact Sa3
    isplitl [Ta']; · iexact Ta'
    isplitl [Ca']; · iexact Ca'
    unfold Lf; rw [if_neg (by omega)]; iempintro
  isplitl [Gb Rb1 Rb2 Rb3 Sb1 Sb2 Sb3 Tb' Cb' Lf]
  · isplitl [Gb]; · iexact Gb
    isplitl [Rb1]; · iexact Rb1
    isplitl [Rb2]; · iexact Rb2
    isplitl [Rb3]; · iexact Rb3
    isplitl [Sb1]; · iexact Sb1
    isplitl [Sb2]; · iexact Sb2
    isplitl [Sb3]; · iexact Sb3
    isplitl [Tb']; · iexact Tb'
    isplitl [Cb']; · iexact Cb'
    iexact Lf
  isplitl [Ka]; · iexact Ka
  iexact Kb

/-- The wait for the source ends the trip for a flow. -/
theorem wp_fin (c : Dev nD) (φ : Fin 8) (t : ℕ) {l : List (Fin 8 × ℕ)} (hl : From 0 l) {o : Op (F := F)} (h : Frees X Y c φ (t + 1) o)
    {α : Type} {Q : α → sProp 𝕄} {k : PUnit → Prog (TpuEff nD τ sig (Elt F) Λ₀ .tc) α} :
    iprop(Rec X Y ∗ Ow c l ∗ MI c φ t ∗ Kept X Y c φ t (t + 1))
      ⊢ iprop(((Ow c l ∗ LI c φ (t + 1)) -∗ Wp c (k ⟨⟩) Q) -∗ Wp c (.op o k) Q) := by
  unfold MI LI
  iintro ⟨#HR, HO, ⟨G, R1, R2, R3, S1, S2, S3, T, C, Lf⟩, K⟩ Hk
  iapply (h hl) $$ [HO G S1]
  · isplitl []; · iexact HR
    isplitl [HO]; · iexact HO
    isplitl [G]; · iexact G
    iexact S1
  rw [Src_succ]
  iintro ⟨HO, S4, K'⟩
  ihave K := (P_halves X Y c φ t fullShare (t + 1)).2 $$ [K K']
  · isplitl [K']; · iexact K'
    iexact K
  ihave K := P_forget X Y c φ t (t + 1) $$ K
  iapply Hk
  isplitl [HO]; · iexact HO
  isplitl [K]
  · rw [Fr_mod (s := t + 1 + 2) (s' := t) (by omega)]; iexact K
  isplitl [R1]; · iexact R1
  isplitl [R2]; · iexact R2
  isplitl [R3]; · iexact R3
  isplitl [S2]; · iexact S2
  isplitl [S3]; · iexact S3
  isplitl [S4]; · iexact S4
  isplitl [T]; · iexact T
  isplitl [C]; · iexact C
  iexact Lf

/-! ## What a slot's loads read -/

/-- A whole slot's contents; its right side's. -/
def VX (c : Dev nD) (n : ℕ) : S1x4096x512.Idx → Elt F .fp8e4m3 := fun j => bx X c n (j 1) (j 2)
def VW (c : Dev nD) (n : ℕ) : S1x512x2048.Idx → Elt F .fp8e5m2 := fun j => bw Y c n (j 1) (j 2)
def VXr (c : Dev nD) (n : ℕ) : S1x4096x256.Idx → Elt F .fp8e4m3 := fun j => X (prv^[n] c) (ix2 (j 1) (j 2))
def VWr (c : Dev nD) (n : ℕ) : S1x256x2048.Idx → Elt F .fp8e5m2 := fun j => Y (prv^[n] c) (ix2 (j 1) (j 2))

theorem P_x (c : Dev nD) {φ : Fin 8} (h : kd φ = 0) (s : ℕ) (q : PosShare TreeShare) (n : ℕ) :
    P X Y c φ s q n = (xL c ↦[xset (s % 3) (hf φ) (dir φ)]{q} (cx X c n : Buf (Elt F) (xL c)) : sProp 𝕄) := if_pos h
theorem P_w (c : Dev nD) {φ : Fin 8} (h : kd φ = 1) (s : ℕ) (q : PosShare TreeShare) (n : ℕ) :
    P X Y c φ s q n = (wL c ↦[wset (s % 3) (hf φ) (dir φ)]{q} (cw Y c n : Buf (Elt F) (wL c)) : sProp 𝕄) := if_neg (by omega)

theorem join_xr (c : Dev nD) (s : ℕ) (q : PosShare TreeShare) (n : ℕ) :
    (xL c ↦[xside (s % 3) 0]{q} (cx X c n : Buf (Elt F) (xL c)) : sProp 𝕄) ⊣⊢ iprop(P X Y c 0 s q n ∗ P X Y c 1 s q n) := by
  rw [P_x X Y c (φ := 0) rfl, P_x X Y c (φ := 1) rfl, x_halves]; exact pointsTo_union (x_halves_disj _ _)
theorem join_xl (c : Dev nD) (s : ℕ) (q : PosShare TreeShare) (n : ℕ) :
    (xL c ↦[xside (s % 3) 1]{q} (cx X c n : Buf (Elt F) (xL c)) : sProp 𝕄) ⊣⊢ iprop(P X Y c 4 s q n ∗ P X Y c 5 s q n) := by
  rw [P_x X Y c (φ := 4) rfl, P_x X Y c (φ := 5) rfl, x_halves]; exact pointsTo_union (x_halves_disj _ _)
theorem join_wr (c : Dev nD) (s : ℕ) (q : PosShare TreeShare) (n : ℕ) :
    (wL c ↦[wside (s % 3) 0]{q} (cw Y c n : Buf (Elt F) (wL c)) : sProp 𝕄) ⊣⊢ iprop(P X Y c 2 s q n ∗ P X Y c 3 s q n) := by
  rw [P_w X Y c (φ := 2) rfl, P_w X Y c (φ := 3) rfl, w_halves]; exact pointsTo_union (w_halves_disj _ _)
theorem join_wl (c : Dev nD) (s : ℕ) (q : PosShare TreeShare) (n : ℕ) :
    (wL c ↦[wside (s % 3) 1]{q} (cw Y c n : Buf (Elt F) (wL c)) : sProp 𝕄) ⊣⊢ iprop(P X Y c 6 s q n ∗ P X Y c 7 s q n) := by
  rw [P_w X Y c (φ := 6) rfl, P_w X Y c (φ := 7) rfl, w_halves]; exact pointsTo_union (w_halves_disj _ _)

/-- The load of a whole slot of the `x` buffer. -/
theorem wp_load_x (c : Dev nD) (s : ℕ) (q : PosShare TreeShare) (n : ℕ) {off : Fin 3 → ℕ} {inb : ∀ a : Fin S3x4096x512.rank, off a + S1x4096x512.size a ≤ S3x4096x512.size a}
    (ho : off = ![s % 3, 0, 0]) {hl : (Memref.whole cc0_scratch0).view.LoadsAt (Rect.unit (s := S3x4096x512) off S1x4096x512.size inb).toLoadRect}
    {α : Type} {Q : α → sProp 𝕄} {k : (S1x4096x512.Idx → Elt F .fp8e4m3) → Prog (TpuEff nD τ sig (Elt F) Λ₀ .tc) α} :
    iprop(P X Y c 0 s q n ∗ P X Y c 1 s q n ∗ P X Y c 4 s q n ∗ P X Y c 5 s q n)
      ⊢ iprop(((P X Y c 0 s q n ∗ P X Y c 1 s q n ∗ P X Y c 4 s q n ∗ P X Y c 5 s q n) -∗ Wp c (k (VX X c n)) Q)
        -∗ Wp c (.op (.load (Memref.whole cc0_scratch0) (Rect.unit (s := S3x4096x512) off S1x4096x512.size inb).toLoadRect hl) k) Q) := by
  subst ho
  have hS : (((Memref.whole cc0_scratch0).access (Rect.unit (s := S3x4096x512) ![s % 3, 0, 0] S1x4096x512.size inb)) : View sig .tc _ _ _).set ⊆ xslot (s % 3) := by
    intro i hi
    rw [show (((Memref.whole cc0_scratch0).access (Rect.unit (s := S3x4096x512) ![s % 3, 0, 0] S1x4096x512.size inb)) : View sig .tc _ _ _).set
      = _ from View.set_slice_whole _ _, Rect.mem_set_unit] at hi
    have a0 : s % 3 ≤ (i 0).val ∧ (i 0).val < s % 3 + 1 := hi 0
    exact mem_xslot.mpr (by omega)
  have hV : (((Memref.whole cc0_scratch0).access (Rect.unit (s := S3x4096x512) ![s % 3, 0, 0] S1x4096x512.size inb)) : View sig .tc _ _ _).read (Elt F)
      (cx X c n : Buf (Elt F) (xL c)) = VX X c n := by
    funext j
    have h1 : (j 1).val < 4096 := (j 1).isLt
    have h2 : (j 2).val < 512 := (j 2).isLt
    show bx X c n ⟨0 + 1 * (j 1).val, by omega⟩ ⟨0 + 1 * (j 2).val, by omega⟩ = bx X c n (j 1) (j 2)
    congr 1 <;> exact Fin.ext (by simp only; omega)
  iintro ⟨H0, H1, H4, H5⟩ Hk
  ihave HR := (join_xr X Y c s q n).2 $$ [H0 H1]
  · isplitl [H0]; · iexact H0
    iexact H1
  ihave HL := (join_xl X Y c s q n).2 $$ [H4 H5]
  · isplitl [H4]; · iexact H4
    iexact H5
  ihave H := (show _ ⊢ _ from (pointsTo_union (ℓ := xL c) (x_sides_disj (s % 3))).2) $$ [HR HL]
  · isplitl [HR]; · iexact HR
    iexact HL
  rw [← x_sides]
  iapply (wp_load_rect 𝒱₀ (c : Thread nD τ) none Set.univ hS) $$ H
  iintro H
  rw [hV]
  iapply Hk
  rw [x_sides]
  ihave H := (pointsTo_union (ℓ := xL c) (x_sides_disj (s % 3))).1 $$ H
  icases H with ⟨HR, HL⟩
  ihave HR := (join_xr X Y c s q n).1 $$ HR
  ihave HL := (join_xl X Y c s q n).1 $$ HL
  icases HR with ⟨H0, H1⟩
  icases HL with ⟨H4, H5⟩
  isplitl [H0]; · iexact H0
  isplitl [H1]; · iexact H1
  isplitl [H4]; · iexact H4
  iexact H5

/-- The load of a whole slot of the `w` buffer. -/
theorem wp_load_w (c : Dev nD) (s : ℕ) (q : PosShare TreeShare) (n : ℕ) {off : Fin 3 → ℕ} {inb : ∀ a : Fin S3x512x2048.rank, off a + S1x512x2048.size a ≤ S3x512x2048.size a}
    (ho : off = ![s % 3, 0, 0]) {hl : (Memref.whole cc0_scratch1).view.LoadsAt (Rect.unit (s := S3x512x2048) off S1x512x2048.size inb).toLoadRect}
    {α : Type} {Q : α → sProp 𝕄} {k : (S1x512x2048.Idx → Elt F .fp8e5m2) → Prog (TpuEff nD τ sig (Elt F) Λ₀ .tc) α} :
    iprop(P X Y c 2 s q n ∗ P X Y c 3 s q n ∗ P X Y c 6 s q n ∗ P X Y c 7 s q n)
      ⊢ iprop(((P X Y c 2 s q n ∗ P X Y c 3 s q n ∗ P X Y c 6 s q n ∗ P X Y c 7 s q n) -∗ Wp c (k (VW Y c n)) Q)
        -∗ Wp c (.op (.load (Memref.whole cc0_scratch1) (Rect.unit (s := S3x512x2048) off S1x512x2048.size inb).toLoadRect hl) k) Q) := by
  subst ho
  have hS : (((Memref.whole cc0_scratch1).access (Rect.unit (s := S3x512x2048) ![s % 3, 0, 0] S1x512x2048.size inb)) : View sig .tc _ _ _).set ⊆ wslot (s % 3) := by
    intro i hi
    rw [show (((Memref.whole cc0_scratch1).access (Rect.unit (s := S3x512x2048) ![s % 3, 0, 0] S1x512x2048.size inb)) : View sig .tc _ _ _).set
      = _ from View.set_slice_whole _ _, Rect.mem_set_unit] at hi
    have a0 : s % 3 ≤ (i 0).val ∧ (i 0).val < s % 3 + 1 := hi 0
    exact mem_wslot.mpr (by omega)
  have hV : (((Memref.whole cc0_scratch1).access (Rect.unit (s := S3x512x2048) ![s % 3, 0, 0] S1x512x2048.size inb)) : View sig .tc _ _ _).read (Elt F)
      (cw Y c n : Buf (Elt F) (wL c)) = VW Y c n := by
    funext j
    have h1 : (j 1).val < 512 := (j 1).isLt
    have h2 : (j 2).val < 2048 := (j 2).isLt
    show bw Y c n ⟨0 + 1 * (j 1).val, by omega⟩ ⟨0 + 1 * (j 2).val, by omega⟩ = bw Y c n (j 1) (j 2)
    congr 1 <;> exact Fin.ext (by simp only; omega)
  iintro ⟨H0, H1, H4, H5⟩ Hk
  ihave HR := (join_wr X Y c s q n).2 $$ [H0 H1]
  · isplitl [H0]; · iexact H0
    iexact H1
  ihave HL := (join_wl X Y c s q n).2 $$ [H4 H5]
  · isplitl [H4]; · iexact H4
    iexact H5
  ihave H := (show _ ⊢ _ from (pointsTo_union (ℓ := wL c) (w_sides_disj (s % 3))).2) $$ [HR HL]
  · isplitl [HR]; · iexact HR
    iexact HL
  rw [← w_sides]
  iapply (wp_load_rect 𝒱₀ (c : Thread nD τ) none Set.univ hS) $$ H
  iintro H
  rw [hV]
  iapply Hk
  rw [w_sides]
  ihave H := (pointsTo_union (ℓ := wL c) (w_sides_disj (s % 3))).1 $$ H
  icases H with ⟨HR, HL⟩
  ihave HR := (join_wr X Y c s q n).1 $$ HR
  ihave HL := (join_wl X Y c s q n).1 $$ HL
  icases HR with ⟨H0, H1⟩
  icases HL with ⟨H4, H5⟩
  isplitl [H0]; · iexact H0
  isplitl [H1]; · iexact H1
  isplitl [H4]; · iexact H4
  iexact H5

/-- The load of the right side of a slot of the `x` buffer. -/
theorem xr_access (s : ℕ) {off : Fin 3 → ℕ} (inb : ∀ a : Fin S3x4096x512.rank, off a + S1x4096x256.size a ≤ S3x4096x512.size a) (ho : off = ![s % 3, 0, 0]) :
    (((Memref.whole cc0_scratch0).access (Rect.unit (s := S3x4096x512) off S1x4096x256.size inb)) : View sig .tc _ _ _).set = xside (s % 3) 0 := by
  subst ho
  rw [show (((Memref.whole cc0_scratch0).access (Rect.unit (s := S3x4096x512) ![s % 3, 0, 0] S1x4096x256.size inb)) : View sig .tc _ _ _).set
    = _ from View.set_slice_whole _ _]
  ext i
  rw [Rect.mem_set_unit, mem_xside]
  have h1 : (i 1).val < 4096 := (i 1).isLt
  constructor
  · intro hi
    have a0 : s % 3 ≤ (i 0).val ∧ (i 0).val < s % 3 + 1 := hi 0
    have a2 : 0 ≤ (i 2).val ∧ (i 2).val < 0 + 256 := hi 2
    omega
  · rintro ⟨e0, e2⟩ a
    match a with
    | 0 => exact (show s % 3 ≤ (i 0).val ∧ (i 0).val < s % 3 + 1 from by omega)
    | 1 => exact (show 0 ≤ (i 1).val ∧ (i 1).val < 0 + 4096 from by omega)
    | 2 => exact (show 0 ≤ (i 2).val ∧ (i 2).val < 0 + 256 from by omega)

theorem wp_load_xr (c : Dev nD) (s : ℕ) (q : PosShare TreeShare) (n : ℕ) {off : Fin 3 → ℕ} {inb : ∀ a : Fin S3x4096x512.rank, off a + S1x4096x256.size a ≤ S3x4096x512.size a}
    (ho : off = ![s % 3, 0, 0]) {hl : (Memref.whole cc0_scratch0).view.LoadsAt (Rect.unit (s := S3x4096x512) off S1x4096x256.size inb).toLoadRect}
    {α : Type} {Q : α → sProp 𝕄} {k : (S1x4096x256.Idx → Elt F .fp8e4m3) → Prog (TpuEff nD τ sig (Elt F) Λ₀ .tc) α} :
    iprop(P X Y c 0 s q n ∗ P X Y c 1 s q n)
      ⊢ iprop(((P X Y c 0 s q n ∗ P X Y c 1 s q n) -∗ Wp c (k (VXr X c n)) Q)
        -∗ Wp c (.op (.load (Memref.whole cc0_scratch0) (Rect.unit (s := S3x4096x512) off S1x4096x256.size inb).toLoadRect hl) k) Q) := by
  have hS := xr_access s inb ho
  subst ho
  have hV : (((Memref.whole cc0_scratch0).access (Rect.unit (s := S3x4096x512) ![s % 3, 0, 0] S1x4096x256.size inb)) : View sig .tc _ _ _).read (Elt F)
      (cx X c n : Buf (Elt F) (xL c)) = VXr X c n := by
    funext j
    have h1 : (j 1).val < 4096 := (j 1).isLt
    have h2 : (j 2).val < 256 := (j 2).isLt
    show bx X c n ⟨0 + 1 * (j 1).val, by omega⟩ ⟨0 + 1 * (j 2).val, by omega⟩ = X (prv^[n] c) (ix2 (j 1) (j 2))
    unfold bx
    rw [dif_pos (by simp only; omega)]
    congr 2 <;> exact Fin.ext (by simp only; omega)
  iintro H Hk
  ihave H := (join_xr X Y c s q n).2 $$ H
  iapply (wp_load_rect 𝒱₀ (c : Thread nD τ) none Set.univ (le_of_eq hS)) $$ H
  iintro H
  rw [hV]
  iapply Hk
  iapply (join_xr X Y c s q n).1; iexact H

/-- A load whose value is not used, at any contents. -/
theorem wp_dead_xr (c : Dev nD) (s : ℕ) {off : Fin 3 → ℕ} {inb : ∀ a : Fin S3x4096x512.rank, off a + S1x4096x256.size a ≤ S3x4096x512.size a}
    (ho : off = ![s % 3, 0, 0]) {hl : (Memref.whole cc0_scratch0).view.LoadsAt (Rect.unit (s := S3x4096x512) off S1x4096x256.size inb).toLoadRect}
    {α : Type} {Q : α → sProp 𝕄} {k : Prog (TpuEff nD τ sig (Elt F) Λ₀ .tc) α} :
    (Own (xL c) (xside (s % 3) 0) : sProp 𝕄)
      ⊢ iprop((Own (xL c) (xside (s % 3) 0) -∗ Wp c k Q)
        -∗ Wp c (.op (.load (Memref.whole cc0_scratch0) (Rect.unit (s := S3x4096x512) off S1x4096x256.size inb).toLoadRect hl) fun _ => k) Q) := by
  have hS := xr_access s inb ho
  iintro H Hk
  unfold Own
  icases H with ⟨%f, H⟩
  iapply (wp_load_rect 𝒱₀ (c : Thread nD τ) none Set.univ (le_of_eq hS)) $$ H
  iintro H
  iapply Hk
  iexists f; iexact H

/-- The device's own block stored on the right side of slot 2. -/
theorem wp_store_xr (c : Dev nD) {off : Fin 3 → ℕ} {inb : ∀ a : Fin S3x4096x512.rank, off a + S1x4096x256.size a ≤ S3x4096x512.size a}
    (ho : off = ![2 % 3, 0, 0]) {v : S1x4096x256.Idx → Elt F .fp8e4m3} (hv : v = VXr X c 0)
    {hx : ((Memref.whole cc0_scratch0).access (Rect.unit (s := S3x4096x512) off S1x4096x256.size inb)).Stores Finset.univ} {hm}
    {α : Type} {Q : α → sProp 𝕄} {k : PUnit → Prog (TpuEff nD τ sig (Elt F) Λ₀ .tc) α} :
    (Own (xL c) (xside (2 % 3) 0) : sProp 𝕄)
      ⊢ iprop(((P X Y c 0 2 fullShare 0 ∗ P X Y c 1 2 fullShare 0) -∗ Wp c (k ⟨⟩) Q)
        -∗ Wp c (.op (.store (Memref.whole cc0_scratch0) (Rect.unit (s := S3x4096x512) off S1x4096x256.size inb) v Finset.univ hx hm) k) Q) := by
  have hS := xr_access 2 inb ho
  subst ho hv
  iintro H Hk
  unfold Own
  icases H with ⟨%f, H⟩
  iapply (wp_store 𝒱₀ (c : Thread nD τ) none Set.univ (le_of_eq hS)) $$ H
  iintro H
  iapply Hk
  iapply (join_xr X Y c 2 fullShare 0).1
  rw [← hS, pointsTo_congr (g := (cx X c 0 : Buf (Elt F) (xL c)))]
  · exact .rfl
  intro i hi
  obtain ⟨j, -, rfl⟩ := Finset.mem_map.mp hi
  rw [View.write_emb_of_mem _ _ (Finset.mem_univ j)]
  have h1 : (j 1).val < 4096 := (j 1).isLt
  have h2 : (j 2).val < 256 := (j 2).isLt
  show X (prv^[0] c) (ix2 (j 1) (j 2)) = bx X c 0 ⟨0 + 1 * (j 1).val, by omega⟩ ⟨0 + 1 * (j 2).val, by omega⟩
  unfold bx
  rw [dif_pos (by simp only; omega)]
  congr 2 <;> exact Fin.ext (by simp only; omega)

/-- The load of the right side of a slot of the `w` buffer. -/
theorem wr_access (s : ℕ) {off : Fin 3 → ℕ} (inb : ∀ a : Fin S3x512x2048.rank, off a + S1x256x2048.size a ≤ S3x512x2048.size a) (ho : off = ![s % 3, 0, 0]) :
    (((Memref.whole cc0_scratch1).access (Rect.unit (s := S3x512x2048) off S1x256x2048.size inb)) : View sig .tc _ _ _).set = wside (s % 3) 0 := by
  subst ho
  rw [show (((Memref.whole cc0_scratch1).access (Rect.unit (s := S3x512x2048) ![s % 3, 0, 0] S1x256x2048.size inb)) : View sig .tc _ _ _).set
    = _ from View.set_slice_whole _ _]
  ext i
  rw [Rect.mem_set_unit, mem_wside]
  have h1 : (i 2).val < 2048 := (i 2).isLt
  constructor
  · intro hi
    have a0 : s % 3 ≤ (i 0).val ∧ (i 0).val < s % 3 + 1 := hi 0
    have a2 : 0 ≤ (i 1).val ∧ (i 1).val < 0 + 256 := hi 1
    omega
  · rintro ⟨e0, e2⟩ a
    match a with
    | 0 => exact (show s % 3 ≤ (i 0).val ∧ (i 0).val < s % 3 + 1 from by omega)
    | 1 => exact (show 0 ≤ (i 1).val ∧ (i 1).val < 0 + 256 from by omega)
    | 2 => exact (show 0 ≤ (i 2).val ∧ (i 2).val < 0 + 2048 from by omega)

theorem wp_load_wr (c : Dev nD) (s : ℕ) (q : PosShare TreeShare) (n : ℕ) {off : Fin 3 → ℕ} {inb : ∀ a : Fin S3x512x2048.rank, off a + S1x256x2048.size a ≤ S3x512x2048.size a}
    (ho : off = ![s % 3, 0, 0]) {hl : (Memref.whole cc0_scratch1).view.LoadsAt (Rect.unit (s := S3x512x2048) off S1x256x2048.size inb).toLoadRect}
    {α : Type} {Q : α → sProp 𝕄} {k : (S1x256x2048.Idx → Elt F .fp8e5m2) → Prog (TpuEff nD τ sig (Elt F) Λ₀ .tc) α} :
    iprop(P X Y c 2 s q n ∗ P X Y c 3 s q n)
      ⊢ iprop(((P X Y c 2 s q n ∗ P X Y c 3 s q n) -∗ Wp c (k (VWr Y c n)) Q)
        -∗ Wp c (.op (.load (Memref.whole cc0_scratch1) (Rect.unit (s := S3x512x2048) off S1x256x2048.size inb).toLoadRect hl) k) Q) := by
  have hS := wr_access s inb ho
  subst ho
  have hV : (((Memref.whole cc0_scratch1).access (Rect.unit (s := S3x512x2048) ![s % 3, 0, 0] S1x256x2048.size inb)) : View sig .tc _ _ _).read (Elt F)
      (cw Y c n : Buf (Elt F) (wL c)) = VWr Y c n := by
    funext j
    have h1 : (j 1).val < 256 := (j 1).isLt
    have h2 : (j 2).val < 2048 := (j 2).isLt
    show bw Y c n ⟨0 + 1 * (j 1).val, by omega⟩ ⟨0 + 1 * (j 2).val, by omega⟩ = Y (prv^[n] c) (ix2 (j 1) (j 2))
    unfold bw
    rw [dif_pos (by simp only; omega)]
    congr 2 <;> exact Fin.ext (by simp only; omega)
  iintro H Hk
  ihave H := (join_wr X Y c s q n).2 $$ H
  iapply (wp_load_rect 𝒱₀ (c : Thread nD τ) none Set.univ (le_of_eq hS)) $$ H
  iintro H
  rw [hV]
  iapply Hk
  iapply (join_wr X Y c s q n).1; iexact H

/-- A load whose value is not used, at any contents. -/
theorem wp_dead_wr (c : Dev nD) (s : ℕ) {off : Fin 3 → ℕ} {inb : ∀ a : Fin S3x512x2048.rank, off a + S1x256x2048.size a ≤ S3x512x2048.size a}
    (ho : off = ![s % 3, 0, 0]) {hl : (Memref.whole cc0_scratch1).view.LoadsAt (Rect.unit (s := S3x512x2048) off S1x256x2048.size inb).toLoadRect}
    {α : Type} {Q : α → sProp 𝕄} {k : Prog (TpuEff nD τ sig (Elt F) Λ₀ .tc) α} :
    (Own (wL c) (wside (s % 3) 0) : sProp 𝕄)
      ⊢ iprop((Own (wL c) (wside (s % 3) 0) -∗ Wp c k Q)
        -∗ Wp c (.op (.load (Memref.whole cc0_scratch1) (Rect.unit (s := S3x512x2048) off S1x256x2048.size inb).toLoadRect hl) fun _ => k) Q) := by
  have hS := wr_access s inb ho
  iintro H Hk
  unfold Own
  icases H with ⟨%f, H⟩
  iapply (wp_load_rect 𝒱₀ (c : Thread nD τ) none Set.univ (le_of_eq hS)) $$ H
  iintro H
  iapply Hk
  iexists f; iexact H

/-- The device's own block stored on the right side of slot 2. -/
theorem wp_store_wr (c : Dev nD) {off : Fin 3 → ℕ} {inb : ∀ a : Fin S3x512x2048.rank, off a + S1x256x2048.size a ≤ S3x512x2048.size a}
    (ho : off = ![2 % 3, 0, 0]) {v : S1x256x2048.Idx → Elt F .fp8e5m2} (hv : v = VWr Y c 0)
    {hx : ((Memref.whole cc0_scratch1).access (Rect.unit (s := S3x512x2048) off S1x256x2048.size inb)).Stores Finset.univ} {hm}
    {α : Type} {Q : α → sProp 𝕄} {k : PUnit → Prog (TpuEff nD τ sig (Elt F) Λ₀ .tc) α} :
    (Own (wL c) (wside (2 % 3) 0) : sProp 𝕄)
      ⊢ iprop(((P X Y c 2 2 fullShare 0 ∗ P X Y c 3 2 fullShare 0) -∗ Wp c (k ⟨⟩) Q)
        -∗ Wp c (.op (.store (Memref.whole cc0_scratch1) (Rect.unit (s := S3x512x2048) off S1x256x2048.size inb) v Finset.univ hx hm) k) Q) := by
  have hS := wr_access 2 inb ho
  subst ho hv
  iintro H Hk
  unfold Own
  icases H with ⟨%f, H⟩
  iapply (wp_store 𝒱₀ (c : Thread nD τ) none Set.univ (le_of_eq hS)) $$ H
  iintro H
  iapply Hk
  iapply (join_wr X Y c 2 fullShare 0).1
  rw [← hS, pointsTo_congr (g := (cw Y c 0 : Buf (Elt F) (wL c)))]
  · exact .rfl
  intro i hi
  obtain ⟨j, -, rfl⟩ := Finset.mem_map.mp hi
  rw [View.write_emb_of_mem _ _ (Finset.mem_univ j)]
  have h1 : (j 1).val < 256 := (j 1).isLt
  have h2 : (j 2).val < 2048 := (j 2).isLt
  show Y (prv^[0] c) (ix2 (j 1) (j 2)) = bw Y c 0 ⟨0 + 1 * (j 1).val, by omega⟩ ⟨0 + 1 * (j 2).val, by omega⟩
  unfold bw
  rw [dif_pos (by simp only; omega)]
  congr 2 <;> exact Fin.ext (by simp only; omega)

/-- The stored blocks are the device's own. -/
theorem pay3_eq (c : Dev nD) : k0_pay3 (X c) = VXr X c 0 := by
  funext j
  obtain ⟨u, a, b, rfl⟩ : ∃ (u : Fin 1) (a : Fin 4096) (b : Fin 256), j = ix3 u a b := ⟨j 0, j 1, j 2, eq_ix3 j⟩
  unfold k0_pay3
  rw [shapeCast_self, shapeCast_ab_1ab_apply]
  rfl
theorem pay4_eq (c : Dev nD) : k0_pay4 (Y c) = VWr Y c 0 := by
  funext j
  obtain ⟨u, a, b, rfl⟩ : ∃ (u : Fin 1) (a : Fin 256) (b : Fin 2048), j = ix3 u a b := ⟨j 0, j 1, j 2, eq_ix3 j⟩
  unfold k0_pay4
  rw [shapeCast_self, shapeCast_ab_1ab_apply]
  rfl

end Step
end Cert.KernelIdeal.Ring
-- ==== Proof.KernelIdealEnds.lean ====
/-
# The ring's first and last steps

The barrier, the first sends of the device's own block, and the last two steps, in which only the flows to the right
have a message left to send.
-/
module

public import proofs.«01_k».proof.Proof.KernelIdealStep

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig ℕ (Elt F) ℕ UU ℕ

section Ends
variable (X : Dev nD → S4096x256.Idx → Elt F .fp8e4m3) (Y : Dev nD → S256x2048.Idx → Elt F .fp8e5m2)

/-! ## The barrier -/

/-- What a device holds of its barrier cell and its neighbours'. -/
def Bar0 (c : Dev nD) : sProp 𝕄 :=
  iprop(dutyTok ER (barC (prv c)) 0 true ∗ dutyTok ER (barC (nxt c)) 0 false ∗ reached ER (barC (prv c)) 0 ∗ reached ER (barC (nxt c)) 0
    ∗ atPos ER (barC c) 0 ∅ 0 ∗ cred (tallyAt (barC c) 0 2))

theorem wp_bar (c : Dev nD) {l : List (Fin 8 × ℕ)} (hl : From 0 l) {n1 n2 : Dev nD} (h1 : n1 = prv c) (h2 : n2 = nxt c)
    {α : Type} {Q : α → sProp 𝕄} {k : PUnit → Prog (TpuEff nD τ sig (Elt F) Λ₀ .tc) α} :
    iprop(Rec X Y ∗ (∃ W, owes (c : Thread nD τ) (oweL c l + tallyAt (barC (nxt c)) 0 1 + tallyAt (barC (prv c)) 0 1) W)
        ∗ Bar0 c ∗ (Fr c 0 0 ∗ Fr c 1 0 ∗ Fr c 2 0 ∗ Fr c 3 0) ∗ (Fr c 4 0 ∗ Fr c 5 0 ∗ Fr c 6 0 ∗ Fr c 7 0)
        ∗ (reached ER (rC c 0 0) 0 ∗ reached ER (rC c 1 0) 0 ∗ reached ER (rC c 2 0) 0 ∗ reached ER (rC c 3 0) 0)
        ∗ (reached ER (rC c 4 0) 0 ∗ reached ER (rC c 5 0) 0 ∗ reached ER (rC c 6 0) 0 ∗ reached ER (rC c 7 0) 0))
      ⊢ iprop(((Ow c l ∗ atPos ER (barC c) 1 ∅ 0 ∗ (Dst c 0 0 ∗ Dst c 1 0 ∗ Dst c 2 0 ∗ Dst c 3 0) ∗ (Dst c 4 0 ∗ Dst c 5 0 ∗ Dst c 6 0 ∗ Dst c 7 0))
            -∗ Wp c (k ⟨⟩) Q)
        -∗ Wp c (.op (.semSignal ((n1 : Dev nD), .tc) bar (1#32).toInt) fun _ => .op (.semSignal ((n2 : Dev nD), .tc) bar (1#32).toInt) fun _ =>
          .op (.semWait bar (2#32).toInt) k) Q) := by
  subst h1 h2
  unfold Rec Bar0 Ow
  iintro ⟨⟨#HI, #HL⟩, ⟨%W, HO⟩, ⟨T1, T2, R1, R2, Hat, Hc⟩, ⟨F0, F1, F2, F3⟩, ⟨F4, F5, F6, F7⟩, ⟨r0, r1, r2, r3⟩, ⟨r4, r5, r6, r7⟩⟩ Hk
  ihave Hi1 := Recs_bar X Y (prv c) $$ HI
  icases Hi1 with ⟨%κ₁, #Hi1⟩
  ihave Hi2 := Recs_bar X Y (nxt c) $$ HI
  icases Hi2 with ⟨%κ₂, #Hi2⟩
  ihave Hi := Recs_bar X Y c $$ HI
  icases Hi with ⟨%κ, #Hi⟩
  have p1 : (ringRd X Y).payload (barC (prv c)) 0 true
      = (iprop((Fr c 0 0 ∗ reached ER (rC c 0 0) 0) ∗ (Fr c 1 0 ∗ reached ER (rC c 1 0) 0) ∗ (Fr c 2 0 ∗ reached ER (rC c 2 0) 0)
        ∗ Fr c 3 0 ∗ reached ER (rC c 3 0) 0) : sProp 𝕄) := by
    show barPay (prv c) true = _
    unfold barPay Dst
    rw [if_pos rfl, show tgt 0 (prv c) = c from nxt_prv c, show tgt 1 (prv c) = c from nxt_prv c, show tgt 2 (prv c) = c from nxt_prv c,
      show tgt 3 (prv c) = c from nxt_prv c]
  have p2 : (ringRd X Y).payload (barC (nxt c)) 0 false
      = (iprop((Fr c 4 0 ∗ reached ER (rC c 4 0) 0) ∗ (Fr c 5 0 ∗ reached ER (rC c 5 0) 0) ∗ (Fr c 6 0 ∗ reached ER (rC c 6 0) 0)
        ∗ Fr c 7 0 ∗ reached ER (rC c 7 0) 0) : sProp 𝕄) := by
    show barPay (nxt c) false = _
    unfold barPay Dst
    rw [if_neg (by decide), show tgt 4 (nxt c) = c from prv_nxt c, show tgt 5 (nxt c) = c from prv_nxt c, show tgt 6 (nxt c) = c from prv_nxt c,
      show tgt 7 (nxt c) = c from prv_nxt c]
  iapply (Rounds.wp_signal 𝒱₀ ER (ringRd X Y) (c : Thread nD τ) none (dst := (prv c : Thread nD τ)) (κ := κ₁)
      (d := true) (by rw [duties_bar]; exact Finset.mem_univ _) ((amount_bar X Y (prv c) true).trans (by decide)) 0
      (oweL c l + tallyAt (barC (nxt c)) 0 1) rfl) $$ [HO T1 R1 F0 F1 F2 F3 r0 r1 r2 r3]
  · isplitr; · iexact Hi1
    isplitl [HO]; · iexact HO
    isplitl [T1]; · iexact T1
    isplitl [F0 F1 F2 F3 r0 r1 r2 r3]
    · rw [p1]; iframe
    iexact R1
  iintro HO
  iapply (Rounds.wp_signal 𝒱₀ ER (ringRd X Y) (c : Thread nD τ) none (dst := (nxt c : Thread nD τ)) (κ := κ₂)
      (d := false) (by rw [duties_bar]; exact Finset.mem_univ _) ((amount_bar X Y (nxt c) false).trans (by decide)) 0
      (oweL c l) rfl) $$ [HO T2 R2 F4 F5 F6 F7 r4 r5 r6 r7]
  · isplitr; · iexact Hi2
    isplitl [HO]; · iexact HO
    isplitl [T2]; · iexact T2
    isplitl [F4 F5 F6 F7 r4 r5 r6 r7]
    · rw [p2]; iframe
    iexact R2
  iintro HO
  ihave HM := mayWait_cut c (.reg bar) 0 1 (by decide) (le_refl 1) (k := 0) (by decide) hl $$ HL
  iapply (Rounds.wp_wait_rest_token 𝒱₀ ER (ringRd X Y) (c : Thread nD τ) none (κ := κ)
      (wpE_semWait_eq 𝒱₀ (c : Thread nD τ) none Set.univ) (Set.mem_univ _) 0 (O := oweL c l) (W := W) (R := 0) (m := 0) (T := ∅)
      (by rw [expect_bar]; decide)) $$ [HO Hc Hat HM]
  · isplitl []; · iexact Hi
    isplitl [Hc]; · iexact Hc
    isplitl [HO]; · iexact HO
    isplitl [HM]; · iexact HM
    iexact Hat
  rw [rest_bar]
  unfold barPay
  rw [if_pos rfl, if_neg (by decide)]
  iintro ⟨HO, Hat, -, Hl, Hr⟩
  iapply Hk
  isplitl [HO]; · iexists _; iexact HO
  isplitl [Hat]; · iexact Hat
  isplitl [Hr]; · iexact Hr
  iexact Hl

/-! ## Step 0 -/

/-- A flow at the start, and after its first send. -/
def St (c : Dev nD) (φ : Fin 8) : sProp 𝕄 :=
  iprop(RN c φ 0 ∗ RN c φ 1 ∗ RN c φ 2 ∗ SN c φ 0 ∗ SN c φ 1 ∗ SN c φ 2 ∗ Tk c φ 0 ∗ Rk c φ 0)
def M0 (c : Dev nD) (φ : Fin 8) : sProp 𝕄 :=
  iprop(SC c φ 0 ∗ RN c φ 0 ∗ RN c φ 1 ∗ RN c φ 2 ∗ SN c φ 0 ∗ SN c φ 1 ∗ SN c φ 2 ∗ Tk c φ 1 ∗ Rk c φ 0)

theorem St_reached (c : Dev nD) (φ : Fin 8) : (St c φ : sProp 𝕄) ⊢ iprop(St c φ ∗ reached ER (rC c φ 0) 0 ∗ reached ER (rC c φ 1) 0) := by
  unfold St RN
  iintro ⟨⟨A, #B⟩, ⟨C, #D⟩, H⟩
  isplitl [A C H]
  · isplitl [A]
    · isplitl [A]; · iexact A
      iexact B
    isplitl [C]
    · isplitl [C]; · iexact C
      iexact D
    iexact H
  isplitr; · iexact B
  iexact D

theorem wp_first (c : Dev nD) (φ : Fin 8) {l : List (Fin 8 × ℕ)} {o : Op (F := F)} (h : Sends X Y c φ 0 o)
    {α : Type} {Q : α → sProp 𝕄} {k : PUnit → Prog (TpuEff nD τ sig (Elt F) Λ₀ .tc) α} :
    iprop(Rec X Y ∗ Ow c ((φ, 0) :: l) ∗ St c φ ∗ Src X Y c φ 0 ∗ Dst c φ 0 ∗ Fr c (opp φ) 1 ∗ reached ER (rC c (opp φ) 1) 0)
      ⊢ iprop(((Ow c l ∗ M0 c φ) -∗ Wp c (k ⟨⟩) Q) -∗ Wp c (.op o k) Q) := by
  have h0 : 0 < lim φ := by unfold lim; split <;> decide
  have h1 : 0 + 1 < lim (opp φ) := by unfold lim; split <;> decide
  unfold St M0
  iintro ⟨#HR, HO, ⟨R0, R1, R2, S0, S1, S2, T, C⟩, Hs, Hd, Hf, Hr⟩ Hk
  ihave T := Tk_cut c φ h0 $$ T
  icases T with ⟨T, T'⟩
  unfold SN
  icases S0 with ⟨S0, #S0'⟩
  iapply (h l) $$ [HO T Hs Hd Hf Hr]
  · isplitl []; · iexact HR
    isplitl [HO]; · iexact HO
    unfold SR Give
    rw [if_pos h1]
    isplitl [T]; · iexact T
    isplitl []; · iexact S0'
    isplitl [Hs]; · iexact Hs
    isplitl [Hd]; · iexact Hd
    isplitl [Hf]; · iexact Hf
    iexact Hr
  iintro ⟨HO, G⟩
  iapply Hk
  isplitl [HO]; · iexact HO
  isplitl [G]; · iexact G
  isplitl [R0]; · iexact R0
  isplitl [R1]; · iexact R1
  isplitl [R2]; · iexact R2
  isplitl [S0]
  · isplitl [S0]; · iexact S0
    iexact S0'
  isplitl [S1]; · iexact S1
  isplitl [S2]; · iexact S2
  isplitl [T']; · iexact T'
  iexact C

/-- The first wait for the source. -/
theorem wp_fin0 (c : Dev nD) (φ : Fin 8) {l : List (Fin 8 × ℕ)} (hl : From 0 l) {o : Op (F := F)} (h : Frees X Y c φ 0 o)
    {α : Type} {Q : α → sProp 𝕄} {k : PUnit → Prog (TpuEff nD τ sig (Elt F) Λ₀ .tc) α} :
    iprop(Rec X Y ∗ Ow c l ∗ M0 c φ)
      ⊢ iprop(((Ow c l ∗ (Fr c φ 2 -∗ LI c φ 0) ∗ Src X Y c φ 0) -∗ Wp c (k ⟨⟩) Q) -∗ Wp c (.op o k) Q) := by
  unfold M0 LI
  iintro ⟨#HR, HO, ⟨G, R0, R1, R2, S0, S1, S2, T, C⟩⟩ Hk
  iapply (h hl) $$ [HO G S0]
  · isplitl []; · iexact HR
    isplitl [HO]; · iexact HO
    isplitl [G]; · iexact G
    iexact S0
  iintro ⟨HO, S3, K⟩
  iapply Hk
  isplitl [HO]; · iexact HO
  isplitr [K]
  · iintro Hf
    isplitl [Hf]; · iexact Hf
    isplitl [R0]; · iexact R0
    isplitl [R1]; · iexact R1
    isplitl [R2]; · iexact R2
    isplitl [S1]; · iexact S1
    isplitl [S2]; · iexact S2
    isplitl [S3]; · iexact S3
    isplitl [T]; · iexact T
    isplitl [C]; · iexact C
    unfold Lf; rw [if_neg (by omega)]; iempintro
  iexact K

/-- The own block's pieces at the shares the two directions' first sends read through, and the share kept. -/
theorem own_cut (c : Dev nD) {a : Fin 8} (ha : a.val < 4) :
    P X Y c a 2 fullShare 0 ⊣⊢ iprop((Src X Y c a 0 ∗ Src X Y c (opp a) 0) ∗ P X Y c a 2 fullShare.right 0) := by
  have e1 : srcF a 0 = a := by revert a; decide
  have e2 : srcF (opp a) 0 = a := by revert a; decide
  have h1 : Src X Y c a 0 = P X Y c a 2 fullShare.left.left 0 := by unfold Src srcQ; rw [e1, if_pos rfl, if_pos ha]
  have h2 : Src X Y c (opp a) 0 = P X Y c a 2 fullShare.left.right 0 := by unfold Src srcQ; rw [e2, if_pos rfl, if_neg (opp_ge ha)]
  rw [h1, h2]
  refine ⟨?_, ?_⟩
  · iintro H
    ihave H := (P_halves X Y c a 2 fullShare 0).1 $$ H
    icases H with ⟨H, K⟩
    ihave H := (P_halves X Y c a 2 fullShare.left 0).1 $$ H
    icases H with ⟨H1, H2⟩
    isplitl [H1 H2]
    · isplitl [H1]; · iexact H1
      iexact H2
    iexact K
  · iintro ⟨⟨H1, H2⟩, K⟩
    iapply (P_halves X Y c a 2 fullShare 0).2
    isplitl [H1 H2]
    · iapply (P_halves X Y c a 2 fullShare.left 0).2
      isplitl [H1]; · iexact H1
      iexact H2
    iexact K

/-! ## The last two steps -/

/-- A flow at the end: its three pieces and its positions past the last message. -/
def Done (c : Dev nD) (φ : Fin 8) : sProp 𝕄 :=
  iprop((Fr c φ 6 ∗ Fr c φ 7 ∗ Fr c φ 8) ∗ (RN c φ (lim φ) ∗ RN c φ (lim φ + 1) ∗ RN c φ (lim φ + 2))
    ∗ SN c φ (lim φ) ∗ SN c φ (lim φ + 1) ∗ SN c φ (lim φ + 2))
/-- A flow to the right after its last send, and after the source is free. -/
def EI (c : Dev nD) (a : Fin 8) : sProp 𝕄 :=
  iprop(SC c a 7 ∗ Fr c a 8 ∗ (RN c a 7 ∗ RN c a 8 ∗ RN c a 9) ∗ (SN c a 7 ∗ SN c a 8 ∗ SN c a 9) ∗ Rk c a 7)
def EJ (c : Dev nD) (a : Fin 8) : sProp 𝕄 :=
  iprop(Fr c a 6 ∗ Fr c a 8 ∗ (RN c a 7 ∗ RN c a 8 ∗ RN c a 9) ∗ (SN c a 8 ∗ SN c a 9 ∗ SN c a 10) ∗ Rk c a 7)

/-- The last arrivals of a flow to the left, with those of the opposite one, and the last send to the right. -/
theorem wp_last (c : Dev nD) {a b : Fin 8} (ha : a.val < 4) (hb : b = opp a) {l : List (Fin 8 × ℕ)} (hl : From 7 l)
    {o1 o2 o3 : Op (F := F)} (h1 : Recvs X Y c a 6 o1) (h2 : Recvs X Y c b 6 o2) (h3 : Sends X Y c a 7 o3)
    {α : Type} {Q : α → sProp 𝕄} {k : PUnit → Prog (TpuEff nD τ sig (Elt F) Λ₀ .tc) α} :
    iprop(Rec X Y ∗ Ow c ((a, 7) :: l) ∗ LI c a 6 ∗ LI c b 6)
      ⊢ iprop(((Ow c l ∗ EI c a ∗ (Fr c b 6 -∗ Done c b) ∗ Kept X Y c a 6 7 ∗ P X Y c b 6 fullShare 7) -∗ Wp c (k ⟨⟩) Q)
        -∗ Wp c (.op o1 fun _ => .op o2 fun _ => .op o3 k) Q) := by
  subst hb
  have la := lim_lt ha
  have lb := lim_opp ha
  have hl' : From (6 + 1) ((a, 7) :: l) := hl.cons (le_refl _) (by omega)
  unfold LI EI Done
  rw [lb]
  iintro ⟨#HR, HO, ⟨Fa, Ra0, Ra1, Ra2, Sa1, Sa2, Sa3, Ta, Ca, -⟩, ⟨Fb, Rb0, Rb1, Rb2, Sb1, Sb2, Sb3, Tb, Cb, Lb⟩⟩ Hk
  ihave Ta := Tk_cut c a (k := 7) (by omega) $$ Ta
  icases Ta with ⟨Ta, -⟩
  ihave Ca := Rk_cut c a (k := 6) (by omega) $$ Ca
  icases Ca with ⟨Ca, Ca'⟩
  ihave Cb := Rk_cut c (opp a) (k := 6) (by omega) $$ Cb
  icases Cb with ⟨Cb, -⟩
  iapply (h1 hl') $$ [HO Ca Ra0]
  · isplitl []; · iexact HR
    isplitl [HO]; · iexact HO
    isplitl [Ca]; · iexact Ca
    iexact Ra0
  iintro ⟨HO, Ra3, La⟩
  iapply (h2 hl') $$ [HO Cb Rb0]
  · isplitl []; · iexact HR
    isplitl [HO]; · iexact HO
    isplitl [Cb]; · iexact Cb
    iexact Rb0
  iintro ⟨HO, Rb3, Lb'⟩
  unfold Landed
  rw [show Back (F := F) c a 6 = iprop(emp) from if_neg (by rw [lb]; omega),
    show Back (F := F) c (opp a) 6 = Dst c a 7 from by unfold Back; rw [opp_opp, la, if_pos (by omega)]]
  icases La with ⟨Pa, -⟩
  icases Lb' with ⟨Pb, Da⟩
  ihave Pa := (P_halves X Y c a 6 fullShare 7).1 $$ Pa
  icases Pa with ⟨Pa, Ka⟩
  unfold SN
  icases Sa1 with ⟨Sa1, #Sa1'⟩
  iapply (h3 _) $$ [HO Ta Pa Da]
  · isplitl []; · iexact HR
    isplitl [HO]; · iexact HO
    unfold SR
    rw [show Give (F := F) c a 7 = iprop(emp) from if_neg (by rw [lb]; omega), Src_succ X Y c a 6]
    isplitl [Ta]; · iexact Ta
    isplitl []; · iexact Sa1'
    isplitl [Pa]; · iexact Pa
    isplitl [Da]; · iexact Da
    iempintro
  iintro ⟨HO, Ga⟩
  iapply Hk
  isplitl [HO]; · iexact HO
  isplitl [Ga Fa Ra1 Ra2 Ra3 Sa1 Sa2 Sa3 Ca']
  · isplitl [Ga]; · iexact Ga
    isplitl [Fa]; · iexact Fa
    isplitl [Ra1 Ra2 Ra3]
    · isplitl [Ra1]; · iexact Ra1
      isplitl [Ra2]; · iexact Ra2
      iexact Ra3
    isplitl [Sa1 Sa2 Sa3]
    · isplitl [Sa1]
      · isplitl [Sa1]; · iexact Sa1
        iexact Sa1'
      isplitl [Sa2]; · iexact Sa2
      iexact Sa3
    iexact Ca'
  isplitl [Fb Rb1 Rb2 Rb3 Sb1 Sb2 Sb3 Lb]
  · iintro Hf
    isplitl [Hf Fb Lb]
    · isplitl [Hf]; · iexact Hf
      isplitl [Lb]
      · iapply (show (Lf c (opp a) 6 : sProp 𝕄) ⊢ Fr c (opp a) 7 from by unfold Lf; rw [if_pos ⟨rfl, by have := opp_ge ha; omega⟩])
        iexact Lb
      iexact Fb
    isplitl [Rb1 Rb2 Rb3]
    · isplitl [Rb1]; · iexact Rb1
      isplitl [Rb2]; · iexact Rb2
      iexact Rb3
    isplitl [Sb1]; · iexact Sb1
    isplitl [Sb2]; · iexact Sb2
    iexact Sb3
  isplitl [Ka]; · iexact Ka
  iexact Pb

theorem wp_last_free (c : Dev nD) (a : Fin 8) {l : List (Fin 8 × ℕ)} (hl : From 0 l) {o : Op (F := F)} (h : Frees X Y c a 7 o)
    {α : Type} {Q : α → sProp 𝕄} {k : PUnit → Prog (TpuEff nD τ sig (Elt F) Λ₀ .tc) α} :
    iprop(Rec X Y ∗ Ow c l ∗ EI c a ∗ Kept X Y c a 6 7) ⊢ iprop(((Ow c l ∗ EJ c a) -∗ Wp c (k ⟨⟩) Q) -∗ Wp c (.op o k) Q) := by
  unfold EI EJ
  iintro ⟨#HR, HO, ⟨G, Fa, R, ⟨S1, S2, S3⟩, C⟩, K⟩ Hk
  iapply (h hl) $$ [HO G S1]
  · isplitl []; · iexact HR
    isplitl [HO]; · iexact HO
    isplitl [G]; · iexact G
    iexact S1
  rw [Src_succ X Y c a 6]
  iintro ⟨HO, S4, K'⟩
  ihave K := (P_halves X Y c a 6 fullShare 7).2 $$ [K K']
  · isplitl [K']; · iexact K'
    iexact K
  ihave K := P_forget X Y c a 6 7 $$ K
  iapply Hk
  isplitl [HO]; · iexact HO
  isplitl [K]; · iexact K
  isplitl [Fa]; · iexact Fa
  isplitl [R]; · iexact R
  isplitl [S2 S3 S4]
  · isplitl [S2]; · iexact S2
    isplitl [S3]; · iexact S3
    iexact S4
  iexact C

theorem wp_last_recv (c : Dev nD) {a : Fin 8} (ha : a.val < 4) {l : List (Fin 8 × ℕ)} (hl : From 8 l) {o : Op (F := F)} (h : Recvs X Y c a 7 o)
    {α : Type} {Q : α → sProp 𝕄} {k : PUnit → Prog (TpuEff nD τ sig (Elt F) Λ₀ .tc) α} :
    iprop(Rec X Y ∗ Ow c l ∗ EJ c a)
      ⊢ iprop(((Ow c l ∗ (P X Y c a 7 fullShare 8 -∗ Done c a) ∗ P X Y c a 7 fullShare 8) -∗ Wp c (k ⟨⟩) Q) -∗ Wp c (.op o k) Q) := by
  have la := lim_lt ha
  have lb := lim_opp ha
  unfold EJ Done
  rw [la]
  iintro ⟨#HR, HO, F6, F8, ⟨R1, R2, R3⟩, S, C⟩ Hk
  ihave C := Rk_cut c a (k := 7) (by omega) $$ C
  icases C with ⟨C, -⟩
  iapply (h hl) $$ [HO C R1]
  · isplitl []; · iexact HR
    isplitl [HO]; · iexact HO
    isplitl [C]; · iexact C
    iexact R1
  unfold Landed
  iintro ⟨HO, R4, Pa, -⟩
  iapply Hk
  isplitl [HO]; · iexact HO
  isplitr [Pa]
  · iintro Pa
    ihave Pa := P_forget X Y c a 7 8 $$ Pa
    isplitl [F6 F8 Pa]
    · isplitl [F6]; · iexact F6
      isplitl [Pa]; · iexact Pa
      iexact F8
    isplitl [R2 R3 R4]
    · isplitl [R2]; · iexact R2
      isplitl [R3]; · iexact R3
      iexact R4
    iexact S
  iexact Pa

end Ends
end Cert.KernelIdeal.Ring
-- ==== Proof.KernelIdealTrip.lean ====
/-
# The loop

One trip: the four flows to the right with their opposites, the slot's product added to the result, the sources free
again.
-/
module

public import proofs.«01_k».proof.Proof.KernelIdealEnds

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig ℕ (Elt F) ℕ UU ℕ

section Trip
variable (X : Dev nD → S4096x256.Idx → Elt F .fp8e4m3) (Y : Dev nD → S256x2048.Idx → Elt F .fp8e5m2)

/-- The messages still to send before the last `j` trips of the loop: from the last trip back, with the last sends to
    the right after them. -/
def sendsR : ℕ → List (Fin 8 × ℕ)
  | 0 => [(0, 7), (1, 7), (2, 7), (3, 7)]
  | j + 1 => (0, 6 - j) :: (4, 6 - j) :: (1, 6 - j) :: (5, 6 - j) :: (2, 6 - j) :: (6, 6 - j) :: (3, 6 - j) :: (7, 6 - j) :: sendsR j

theorem sendsR_from : ∀ j, j ≤ 6 → From (7 - j) (sendsR j)
  | 0, _ => by
    intro μ hμ
    simp only [sendsR, List.mem_cons, List.not_mem_nil, or_false] at hμ
    rcases hμ with rfl | rfl | rfl | rfl <;> decide
  | j + 1, h => by
    have e := (sendsR_from j (by omega)).mono (k' := 7 - (j + 1)) (by omega)
    unfold sendsR
    refine (((((((e.cons ?_ ?_).cons ?_ ?_).cons ?_ ?_).cons ?_ ?_).cons ?_ ?_).cons ?_ ?_).cons ?_ ?_).cons ?_ ?_ <;> omega

theorem sendsR_succ {t : ℕ} (ht : t < 6) :
    sendsR (6 - t) = (0, t + 1) :: (4, t + 1) :: (1, t + 1) :: (5, t + 1) :: (2, t + 1) :: (6, t + 1) :: (3, t + 1) :: (7, t + 1) :: sendsR (6 - (t + 1)) := by
  interval_cases t <;> rfl

/-- The result buffer, and its contents after `t` trips. -/
abbrev oL (c : Dev nD) : Loc nD τ sig := (c : Thread nD τ).loc cc0_stg4_0
def acc (c : Dev nD) : ℕ → S4096x2048.Idx → Elt F .f32
  | 0 => k0_pay7 (k0_pay5 (VXr X c 0)) (k0_pay6 (VWr Y c 0))
  | t + 1 => k0_pay2 (acc c t) (VX X c (t + 1)) (VW Y c (t + 1))

/-- A load of the whole result buffer, and a store. -/
theorem wp_load_o (c : Dev nD) (f : S4096x2048.Idx → Elt F .f32)
    {inb : ∀ a : Fin S4096x2048.rank, (![0, 0] : Fin 2 → ℕ) a + S4096x2048.size a ≤ S4096x2048.size a}
    {hl : (Memref.whole cc0_stg4_0).view.LoadsAt (Rect.unit (s := S4096x2048) ![0, 0] S4096x2048.size inb).toLoadRect}
    {α : Type} {Q : α → sProp 𝕄} {k : (S4096x2048.Idx → Elt F .f32) → Prog (TpuEff nD τ sig (Elt F) Λ₀ .tc) α} :
    (oL c ↦{fullShare} (f : Buf (Elt F) (oL c)))
      ⊢ iprop(((oL c ↦{fullShare} (f : Buf (Elt F) (oL c))) -∗ Wp c (k f) Q)
        -∗ Wp c (.op (.load (Memref.whole cc0_stg4_0) (Rect.unit (s := S4096x2048) ![0, 0] S4096x2048.size inb).toLoadRect hl) k) Q) := by
  have e : (Memref.whole cc0_stg4_0).view.readAt (Elt F) (Rect.unit (s := S4096x2048) ![0, 0] S4096x2048.size inb).toLoadRect (f : Buf (Elt F) (oL c)) = f :=
    Memref.readAt_unit_zero (Elt F) cc0_stg4_0 (by funext a; fin_cases a <;> rfl) inb f
  iintro H Hk
  iapply (wp_load 𝒱₀ (c : Thread nD τ) none Set.univ (m := Memref.whole cc0_stg4_0) (S := Finset.univ) (Finset.subset_univ _)) $$ H
  iintro H
  rw [e]
  iapply Hk; iexact H

theorem wp_store_o (c : Dev nD) (f w : S4096x2048.Idx → Elt F .f32)
    {inb : ∀ a : Fin S4096x2048.rank, (![0, 0] : Fin 2 → ℕ) a + S4096x2048.size a ≤ S4096x2048.size a}
    {hx : ((Memref.whole cc0_stg4_0).access (Rect.unit (s := S4096x2048) ![0, 0] S4096x2048.size inb)).Stores Finset.univ} {hm}
    {α : Type} {Q : α → sProp 𝕄} {k : PUnit → Prog (TpuEff nD τ sig (Elt F) Λ₀ .tc) α} :
    (oL c ↦{fullShare} (f : Buf (Elt F) (oL c)))
      ⊢ iprop(((oL c ↦{fullShare} (w : Buf (Elt F) (oL c))) -∗ Wp c (k ⟨⟩) Q)
        -∗ Wp c (.op (.store (Memref.whole cc0_stg4_0) (Rect.unit (s := S4096x2048) ![0, 0] S4096x2048.size inb) w Finset.univ hx hm) k) Q) := by
  have e : ((Memref.whole cc0_stg4_0).access (Rect.unit (s := S4096x2048) ![0, 0] S4096x2048.size inb) : View sig .tc _ _ _).write (Elt F)
      (f : Buf (Elt F) (oL c)) w Finset.univ = w :=
    Memref.write_access_unit_zero_univ (Elt F) cc0_stg4_0 (by funext a; fin_cases a <;> rfl) inb f w
  iintro H Hk
  iapply (wp_store 𝒱₀ (c : Thread nD τ) none Set.univ (m := Memref.whole cc0_stg4_0) (r := Rect.unit (s := S4096x2048) ![0, 0] S4096x2048.size inb) (S := Finset.univ)
    (Finset.subset_univ _)) $$ H
  iintro H
  rw [e]
  iapply Hk; iexact H

/-- The state before trip `t`. -/
def Inv (c : Dev nD) (t : ℕ) : sProp 𝕄 :=
  iprop(Rec X Y ∗ Ow c (sendsR (6 - t)) ∗ (LI c 0 t ∗ LI c 4 t) ∗ (LI c 1 t ∗ LI c 5 t) ∗ (LI c 2 t ∗ LI c 6 t) ∗ (LI c 3 t ∗ LI c 7 t)
    ∗ (oL c ↦{fullShare} (acc X Y c t : Buf (Elt F) (oL c))))

theorem trip (c : Dev nD) (v60 v62 : BitVec 32) (t : Trip) :
    Inv X Y c t.val ⊢ Wp c (k0_t1_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7 cc0_scratch8 cc0_scratch9 c v60 v62 t ⟨⟩)
      (fun _ => Inv X Y c (t.val + 1)) := by
  have ht := trip_lt t
  have hl : From (t.val + 1) (sendsR (6 - (t.val + 1))) := (sendsR_from (6 - (t.val + 1)) (by omega)).mono (by omega)
  have hl0 := hl
  have hl1 := (hl0.cons (φ := 7) (s := t.val + 1) (le_refl _) (by omega)).cons (φ := 3) (s := t.val + 1) (le_refl _) (by omega)
  have hl2 := (hl1.cons (φ := 6) (s := t.val + 1) (le_refl _) (by omega)).cons (φ := 2) (s := t.val + 1) (le_refl _) (by omega)
  have hl3 := (hl2.cons (φ := 5) (s := t.val + 1) (le_refl _) (by omega)).cons (φ := 1) (s := t.val + 1) (le_refl _) (by omega)
  unfold k0_t1_body
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, Prog.bind_assoc]
  unfold Inv
  rw [sendsR_succ ht]
  iintro ⟨#HR, HO, ⟨H0, H4⟩, ⟨H1, H5⟩, ⟨H2, H6⟩, ⟨H3, H7⟩, Ho⟩
  iapply (wp_pair X Y c (a := 0) (b := 4) (by decide) rfl ht
      hl3
      (recvs_x X Y c 0 t.val (by unfold lim; simp; omega) rfl (qR 0 t.val 11 rfl (k0_off1_inb t) (off1_eq t)))
      (recvs_x X Y c 4 t.val (by unfold lim; simp; omega) rfl (qR 4 t.val 35 rfl (k0_off1_inb t) (off1_eq t)))
      (sends_x X Y c 0 (t.val + 1) (by unfold lim; simp; omega) rfl (qS 0 (t.val + 1) 5 rfl (k0_off4_inb t) (off4_eq t))
        (qR 0 (t.val + 1) 11 rfl (k0_off4_inb t) (off4_eq t)) (dev11_eq c) (off2_eq t) (off5_eq t))
      (sends_x X Y c 4 (t.val + 1) (by unfold lim; simp; omega) rfl (qS 4 (t.val + 1) 29 rfl (k0_off4_inb t) (off4_eq t))
        (qR 4 (t.val + 1) 35 rfl (k0_off4_inb t) (off4_eq t)) (dev12_eq c) (off3_eq t) (off6_eq t)))
    $$ [HO H0 H4]
  · isplitl []; · iexact HR
    isplitl [HO]; · iexact HO
    isplitl [H0]; · iexact H0
    iexact H4
  iintro ⟨HO, M0, M4, K0, K4⟩
  iapply (wp_pair X Y c (a := 1) (b := 5) (by decide) rfl ht
      hl2
      (recvs_x X Y c 1 t.val (by unfold lim; simp; omega) rfl (qR 1 t.val 11 rfl (k0_off7_inb t) (off7_eq t)))
      (recvs_x X Y c 5 t.val (by unfold lim; simp; omega) rfl (qR 5 t.val 35 rfl (k0_off7_inb t) (off7_eq t)))
      (sends_x X Y c 1 (t.val + 1) (by unfold lim; simp; omega) rfl (qS 1 (t.val + 1) 5 rfl (k0_off10_inb t) (off10_eq t))
        (qR 1 (t.val + 1) 11 rfl (k0_off10_inb t) (off10_eq t)) (dev13_eq c) (off8_eq t) (off11_eq t))
      (sends_x X Y c 5 (t.val + 1) (by unfold lim; simp; omega) rfl (qS 5 (t.val + 1) 29 rfl (k0_off10_inb t) (off10_eq t))
        (qR 5 (t.val + 1) 35 rfl (k0_off10_inb t) (off10_eq t)) (dev14_eq c) (off9_eq t) (off12_eq t)))
    $$ [HO H1 H5]
  · isplitl []; · iexact HR
    isplitl [HO]; · iexact HO
    isplitl [H1]; · iexact H1
    iexact H5
  iintro ⟨HO, M1, M5, K1, K5⟩
  iapply (wp_pair X Y c (a := 2) (b := 6) (by decide) rfl ht
      hl1
      (recvs_w X Y c 2 t.val (by unfold lim; simp; omega) rfl (qR 2 t.val 23 rfl (k0_off1_inb t) (off1_eq t)))
      (recvs_w X Y c 6 t.val (by unfold lim; simp; omega) rfl (qR 6 t.val 47 rfl (k0_off1_inb t) (off1_eq t)))
      (sends_w X Y c 2 (t.val + 1) (by unfold lim; simp; omega) rfl (qS 2 (t.val + 1) 17 rfl (k0_off4_inb t) (off4_eq t))
        (qR 2 (t.val + 1) 23 rfl (k0_off4_inb t) (off4_eq t)) (dev15_eq c) (off13_eq t) (off15_eq t))
      (sends_w X Y c 6 (t.val + 1) (by unfold lim; simp; omega) rfl (qS 6 (t.val + 1) 41 rfl (k0_off4_inb t) (off4_eq t))
        (qR 6 (t.val + 1) 47 rfl (k0_off4_inb t) (off4_eq t)) (dev16_eq c) (off14_eq t) (off16_eq t)))
    $$ [HO H2 H6]
  · isplitl []; · iexact HR
    isplitl [HO]; · iexact HO
    isplitl [H2]; · iexact H2
    iexact H6
  iintro ⟨HO, M2, M6, K2, K6⟩
  iapply (wp_pair X Y c (a := 3) (b := 7) (by decide) rfl ht
      hl0
      (recvs_w X Y c 3 t.val (by unfold lim; simp; omega) rfl (qR 3 t.val 23 rfl (k0_off7_inb t) (off7_eq t)))
      (recvs_w X Y c 7 t.val (by unfold lim; simp; omega) rfl (qR 7 t.val 47 rfl (k0_off7_inb t) (off7_eq t)))
      (sends_w X Y c 3 (t.val + 1) (by unfold lim; simp; omega) rfl (qS 3 (t.val + 1) 17 rfl (k0_off10_inb t) (off10_eq t))
        (qR 3 (t.val + 1) 23 rfl (k0_off10_inb t) (off10_eq t)) (dev17_eq c) (off17_eq t) (off19_eq t))
      (sends_w X Y c 7 (t.val + 1) (by unfold lim; simp; omega) rfl (qS 7 (t.val + 1) 41 rfl (k0_off10_inb t) (off10_eq t))
        (qR 7 (t.val + 1) 47 rfl (k0_off10_inb t) (off10_eq t)) (dev18_eq c) (off18_eq t) (off20_eq t)))
    $$ [HO H3 H7]
  · isplitl []; · iexact HR
    isplitl [HO]; · iexact HO
    isplitl [H3]; · iexact H3
    iexact H7
  iintro ⟨HO, M3, M7, K3, K7⟩
  iapply (wp_load_o c (acc X Y c t.val)) $$ Ho
  iintro Ho
  iapply (wp_load_x X Y c t.val fullShare.right (t.val + 1) (off21_eq t)) $$ [K0 K1 K4 K5]
  · isplitl [K0]; · iexact K0
    isplitl [K1]; · iexact K1
    isplitl [K4]; · iexact K4
    iexact K5
  iintro ⟨K0, K1, K4, K5⟩
  iapply (wp_load_w X Y c t.val fullShare.right (t.val + 1) (off22_eq t)) $$ [K2 K3 K6 K7]
  · isplitl [K2]; · iexact K2
    isplitl [K3]; · iexact K3
    isplitl [K6]; · iexact K6
    iexact K7
  iintro ⟨K2, K3, K6, K7⟩
  iapply (wp_load_o c (acc X Y c t.val)) $$ Ho
  iintro Ho
  iapply (wp_store_o c (acc X Y c t.val) (acc X Y c (t.val + 1))) $$ Ho
  iintro Ho
  iapply (wp_fin X Y c 0 t.val (hl.mono (Nat.zero_le _)) (frees_x X Y c 0 (t.val + 1) (by unfold lim; simp; omega) rfl (qS 0 (t.val + 1) 5 rfl (k0_off4_inb t) (off4_eq t)))) $$ [HO M0 K0]
  · isplitl []; · iexact HR
    isplitl [HO]; · iexact HO
    isplitl [M0]; · iexact M0
    iexact K0
  iintro ⟨HO, H0⟩
  iapply (wp_fin X Y c 1 t.val (hl.mono (Nat.zero_le _)) (frees_x X Y c 1 (t.val + 1) (by unfold lim; simp; omega) rfl (qS 1 (t.val + 1) 5 rfl (k0_off10_inb t) (off10_eq t)))) $$ [HO M1 K1]
  · isplitl []; · iexact HR
    isplitl [HO]; · iexact HO
    isplitl [M1]; · iexact M1
    iexact K1
  iintro ⟨HO, H1⟩
  iapply (wp_fin X Y c 2 t.val (hl.mono (Nat.zero_le _)) (frees_w X Y c 2 (t.val + 1) (by unfold lim; simp; omega) rfl (qS 2 (t.val + 1) 17 rfl (k0_off4_inb t) (off4_eq t)))) $$ [HO M2 K2]
  · isplitl []; · iexact HR
    isplitl [HO]; · iexact HO
    isplitl [M2]; · iexact M2
    iexact K2
  iintro ⟨HO, H2⟩
  iapply (wp_fin X Y c 3 t.val (hl.mono (Nat.zero_le _)) (frees_w X Y c 3 (t.val + 1) (by unfold lim; simp; omega) rfl (qS 3 (t.val + 1) 17 rfl (k0_off10_inb t) (off10_eq t)))) $$ [HO M3 K3]
  · isplitl []; · iexact HR
    isplitl [HO]; · iexact HO
    isplitl [M3]; · iexact M3
    iexact K3
  iintro ⟨HO, H3⟩
  iapply (wp_fin X Y c 4 t.val (hl.mono (Nat.zero_le _)) (frees_x X Y c 4 (t.val + 1) (by unfold lim; simp; omega) rfl (qS 4 (t.val + 1) 29 rfl (k0_off4_inb t) (off4_eq t)))) $$ [HO M4 K4]
  · isplitl []; · iexact HR
    isplitl [HO]; · iexact HO
    isplitl [M4]; · iexact M4
    iexact K4
  iintro ⟨HO, H4⟩
  iapply (wp_fin X Y c 5 t.val (hl.mono (Nat.zero_le _)) (frees_x X Y c 5 (t.val + 1) (by unfold lim; simp; omega) rfl (qS 5 (t.val + 1) 29 rfl (k0_off10_inb t) (off10_eq t)))) $$ [HO M5 K5]
  · isplitl []; · iexact HR
    isplitl [HO]; · iexact HO
    isplitl [M5]; · iexact M5
    iexact K5
  iintro ⟨HO, H5⟩
  iapply (wp_fin X Y c 6 t.val (hl.mono (Nat.zero_le _)) (frees_w X Y c 6 (t.val + 1) (by unfold lim; simp; omega) rfl (qS 6 (t.val + 1) 41 rfl (k0_off4_inb t) (off4_eq t)))) $$ [HO M6 K6]
  · isplitl []; · iexact HR
    isplitl [HO]; · iexact HO
    isplitl [M6]; · iexact M6
    iexact K6
  iintro ⟨HO, H6⟩
  iapply (wp_fin X Y c 7 t.val (hl.mono (Nat.zero_le _)) (frees_w X Y c 7 (t.val + 1) (by unfold lim; simp; omega) rfl (qS 7 (t.val + 1) 41 rfl (k0_off10_inb t) (off10_eq t)))) $$ [HO M7 K7]
  · isplitl []; · iexact HR
    isplitl [HO]; · iexact HO
    isplitl [M7]; · iexact M7
    iexact K7
  iintro ⟨HO, H7⟩
  unfold Wp; rw [wp_ret]; imodintro
  isplitl []; · iexact HR
  isplitl [HO]; · iexact HO
  isplitl [H0 H4]
  · isplitl [H0]; · iexact H0
    iexact H4
  isplitl [H1 H5]
  · isplitl [H1]; · iexact H1
    iexact H5
  isplitl [H2 H6]
  · isplitl [H2]; · iexact H2
    iexact H6
  isplitl [H3 H7]
  · isplitl [H3]; · iexact H3
    iexact H7
  iexact Ho

end Trip
end Cert.KernelIdeal.Ring
-- ==== Proof.KernelIdealSends.lean ====
/-
# The first sends

Every flow's message of step 0 leaves the own slot; then the own slot's two sides are loaded.
-/
module

public import proofs.«01_k».proof.Proof.KernelIdealTrip

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig ℕ (Elt F) ℕ UU ℕ

section Sends
variable (X : Dev nD → S4096x256.Idx → Elt F .fp8e4m3) (Y : Dev nD → S256x2048.Idx → Elt F .fp8e5m2)

/-- All the messages, in the order of their sends. -/
def sendsAll : List (Fin 8 × ℕ) := (0, 0) :: (1, 0) :: (2, 0) :: (3, 0) :: (4, 0) :: (5, 0) :: (6, 0) :: (7, 0) :: sendsR 6

theorem sendsAll_from : From 0 sendsAll :=
  have e := (sendsR_from 6 (by omega)).mono (Nat.zero_le _)
  (((((((e.cons (le_refl _) (by omega)).cons (le_refl _) (by omega)).cons (le_refl _) (by omega)).cons (le_refl _) (by omega)).cons (le_refl _)
    (by omega)).cons (le_refl _) (by omega)).cons (le_refl _) (by omega)).cons (le_refl _) (by omega)

theorem run_sends (c : Dev nD) (v60 v62 : BitVec 32) {α : Type} {Q : α → sProp 𝕄}
    {k : (Σ' (v159 : FVec F S4096x256 .fp8e4m3), FVec F S256x2048 .fp8e5m2) → Prog (TpuEff nD τ sig (Elt F) Λ₀ .tc) α} :
    iprop(Rec X Y ∗ Ow c sendsAll ∗ (St c 0 ∗ St c 1 ∗ St c 2 ∗ St c 3)
        ∗ (St c 4 ∗ St c 5 ∗ St c 6 ∗ St c 7)
        ∗ (Dst c 0 0 ∗ Dst c 1 0 ∗ Dst c 2 0 ∗ Dst c 3 0)
        ∗ (Dst c 4 0 ∗ Dst c 5 0 ∗ Dst c 6 0 ∗ Dst c 7 0)
        ∗ (Fr c 0 1 ∗ Fr c 1 1 ∗ Fr c 2 1 ∗ Fr c 3 1)
        ∗ (Fr c 4 1 ∗ Fr c 5 1 ∗ Fr c 6 1 ∗ Fr c 7 1)
        ∗ (P X Y c 0 2 fullShare 0 ∗ P X Y c 1 2 fullShare 0 ∗ P X Y c 2 2 fullShare 0 ∗ P X Y c 3 2 fullShare 0))
      ⊢ iprop(((Ow c (sendsR 6) ∗ (M0 c 0 ∗ M0 c 1 ∗ M0 c 2 ∗ M0 c 3)
        ∗ (M0 c 4 ∗ M0 c 5 ∗ M0 c 6 ∗ M0 c 7)
          ∗ (P X Y c 0 2 fullShare.right 0 ∗ P X Y c 1 2 fullShare.right 0 ∗ P X Y c 2 2 fullShare.right 0 ∗ P X Y c 3 2 fullShare.right 0)) -∗ Wp c (k ⟨k0_pay5 (VXr X c 0), k0_pay6 (VWr Y c 0)⟩) Q)
        -∗ Wp c (k0_part11 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9
    c v60 >>= fun _ =>
            k0_part12 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9
    c v60 v62 >>= fun _ => k0_part13 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9
    c v62 >>= k) Q) := by
  simp only [k0_part11_eq_skeleton, k0_part12_eq_skeleton, k0_part13_eq_skeleton]
  unfold k0_part11_skel k0_part12_skel k0_part13_skel
  simp only [Prog.lift, Prog.bind_op, Prog.bind_ret, Prog.pure_eq_ret, Prog.bind_assoc]
  unfold sendsAll
  iintro ⟨#HR, HO, ⟨T0, T1, T2, T3⟩, ⟨T4, T5, T6, T7⟩, ⟨D0, D1, D2, D3⟩, ⟨D4, D5, D6, D7⟩, ⟨F0, F1, F2, F3⟩, ⟨F4, F5, F6, F7⟩, ⟨P0, P1, P2, P3⟩⟩ Hk
  ihave T0 := St_reached c 0 $$ T0
  icases T0 with ⟨T0, #Ra0, #Rb0⟩
  ihave T1 := St_reached c 1 $$ T1
  icases T1 with ⟨T1, #Ra1, #Rb1⟩
  ihave T2 := St_reached c 2 $$ T2
  icases T2 with ⟨T2, #Ra2, #Rb2⟩
  ihave T3 := St_reached c 3 $$ T3
  icases T3 with ⟨T3, #Ra3, #Rb3⟩
  ihave T4 := St_reached c 4 $$ T4
  icases T4 with ⟨T4, #Ra4, #Rb4⟩
  ihave T5 := St_reached c 5 $$ T5
  icases T5 with ⟨T5, #Ra5, #Rb5⟩
  ihave T6 := St_reached c 6 $$ T6
  icases T6 with ⟨T6, #Ra6, #Rb6⟩
  ihave T7 := St_reached c 7 $$ T7
  icases T7 with ⟨T7, #Ra7, #Rb7⟩
  ihave P0 := (own_cut X Y c (a := 0) (by decide)).1 $$ P0
  icases P0 with ⟨⟨S0, S4⟩, P0⟩
  ihave P1 := (own_cut X Y c (a := 1) (by decide)).1 $$ P1
  icases P1 with ⟨⟨S1, S5⟩, P1⟩
  ihave P2 := (own_cut X Y c (a := 2) (by decide)).1 $$ P2
  icases P2 with ⟨⟨S2, S6⟩, P2⟩
  ihave P3 := (own_cut X Y c (a := 3) (by decide)).1 $$ P3
  icases P3 with ⟨⟨S3, S7⟩, P3⟩
  iapply (wp_first X Y c 0 (sends_x X Y c 0 0 (by decide) rfl (qS 0 0 5 rfl inb_S3x2_S1x1_0_0 rfl)
      (qR 0 0 11 rfl inb_S3x2_S1x1_0_0 rfl) (dev3_eq c) (os := ![2, 0, 0]) (od := ![0, 0, 0]) rfl rfl)) $$ [HO T0 S0 D0 F4]
  · isplitl []; · iexact HR
    isplitl [HO]; · iexact HO
    isplitl [T0]; · iexact T0
    isplitl [S0]; · iexact S0
    isplitl [D0]; · iexact D0
    isplitl [F4]; · iexact F4
    iexact Rb4
  iintro ⟨HO, T0⟩
  iapply (wp_first X Y c 1 (sends_x X Y c 1 0 (by decide) rfl (qS 1 0 5 rfl inb_S3x2_S1x1_0_1 rfl)
      (qR 1 0 11 rfl inb_S3x2_S1x1_0_1 rfl) (dev4_eq c) (os := ![2, 2048, 0]) (od := ![0, 2048, 0]) rfl rfl)) $$ [HO T1 S1 D1 F5]
  · isplitl []; · iexact HR
    isplitl [HO]; · iexact HO
    isplitl [T1]; · iexact T1
    isplitl [S1]; · iexact S1
    isplitl [D1]; · iexact D1
    isplitl [F5]; · iexact F5
    iexact Rb5
  iintro ⟨HO, T1⟩
  iapply (wp_first X Y c 2 (sends_w X Y c 2 0 (by decide) rfl (qS 2 0 17 rfl inb_S3x2_S1x1_0_0 rfl)
      (qR 2 0 23 rfl inb_S3x2_S1x1_0_0 rfl) (dev5_eq c) (os := ![2, 0, 0]) (od := ![0, 0, 0]) rfl rfl)) $$ [HO T2 S2 D2 F6]
  · isplitl []; · iexact HR
    isplitl [HO]; · iexact HO
    isplitl [T2]; · iexact T2
    isplitl [S2]; · iexact S2
    isplitl [D2]; · iexact D2
    isplitl [F6]; · iexact F6
    iexact Rb6
  iintro ⟨HO, T2⟩
  iapply (wp_first X Y c 3 (sends_w X Y c 3 0 (by decide) rfl (qS 3 0 17 rfl inb_S3x2_S1x1_0_1 rfl)
      (qR 3 0 23 rfl inb_S3x2_S1x1_0_1 rfl) (dev6_eq c) (os := ![2, 128, 0]) (od := ![0, 128, 0]) rfl rfl)) $$ [HO T3 S3 D3 F7]
  · isplitl []; · iexact HR
    isplitl [HO]; · iexact HO
    isplitl [T3]; · iexact T3
    isplitl [S3]; · iexact S3
    isplitl [D3]; · iexact D3
    isplitl [F7]; · iexact F7
    iexact Rb7
  iintro ⟨HO, T3⟩
  iapply (wp_first X Y c 4 (sends_x X Y c 4 0 (by decide) rfl (qS 4 0 29 rfl inb_S3x2_S1x1_0_0 rfl)
      (qR 4 0 35 rfl inb_S3x2_S1x1_0_0 rfl) (dev7_eq c) (os := ![2, 0, 0]) (od := ![0, 0, 256]) rfl rfl)) $$ [HO T4 S4 D4 F0]
  · isplitl []; · iexact HR
    isplitl [HO]; · iexact HO
    isplitl [T4]; · iexact T4
    isplitl [S4]; · iexact S4
    isplitl [D4]; · iexact D4
    isplitl [F0]; · iexact F0
    iexact Rb0
  iintro ⟨HO, T4⟩
  iapply (wp_first X Y c 5 (sends_x X Y c 5 0 (by decide) rfl (qS 5 0 29 rfl inb_S3x2_S1x1_0_1 rfl)
      (qR 5 0 35 rfl inb_S3x2_S1x1_0_1 rfl) (dev8_eq c) (os := ![2, 2048, 0]) (od := ![0, 2048, 256]) rfl rfl)) $$ [HO T5 S5 D5 F1]
  · isplitl []; · iexact HR
    isplitl [HO]; · iexact HO
    isplitl [T5]; · iexact T5
    isplitl [S5]; · iexact S5
    isplitl [D5]; · iexact D5
    isplitl [F1]; · iexact F1
    iexact Rb1
  iintro ⟨HO, T5⟩
  iapply (wp_first X Y c 6 (sends_w X Y c 6 0 (by decide) rfl (qS 6 0 41 rfl inb_S3x2_S1x1_0_0 rfl)
      (qR 6 0 47 rfl inb_S3x2_S1x1_0_0 rfl) (dev9_eq c) (os := ![2, 0, 0]) (od := ![0, 256, 0]) rfl rfl)) $$ [HO T6 S6 D6 F2]
  · isplitl []; · iexact HR
    isplitl [HO]; · iexact HO
    isplitl [T6]; · iexact T6
    isplitl [S6]; · iexact S6
    isplitl [D6]; · iexact D6
    isplitl [F2]; · iexact F2
    iexact Rb2
  iintro ⟨HO, T6⟩
  iapply (wp_first X Y c 7 (sends_w X Y c 7 0 (by decide) rfl (qS 7 0 41 rfl inb_S3x2_S1x1_0_1 rfl)
      (qR 7 0 47 rfl inb_S3x2_S1x1_0_1 rfl) (dev10_eq c) (os := ![2, 128, 0]) (od := ![0, 384, 0]) rfl rfl)) $$ [HO T7 S7 D7 F3]
  · isplitl []; · iexact HR
    isplitl [HO]; · iexact HO
    isplitl [T7]; · iexact T7
    isplitl [S7]; · iexact S7
    isplitl [D7]; · iexact D7
    isplitl [F3]; · iexact F3
    iexact Rb3
  iintro ⟨HO, T7⟩
  iapply (wp_load_xr X Y c 2 fullShare.right 0 rfl) $$ [P0 P1]
  · isplitl [P0]; · iexact P0
    iexact P1
  iintro ⟨P0, P1⟩
  iapply (wp_load_wr X Y c 2 fullShare.right 0 rfl) $$ [P2 P3]
  · isplitl [P2]; · iexact P2
    iexact P3
  iintro ⟨P2, P3⟩
  iapply Hk
  isplitl [HO]; · iexact HO
  isplitl [T0 T1 T2 T3]
  · isplitl [T0]; · iexact T0
    isplitl [T1]; · iexact T1
    isplitl [T2]; · iexact T2
    iexact T3
  isplitl [T4 T5 T6 T7]
  · isplitl [T4]; · iexact T4
    isplitl [T5]; · iexact T5
    isplitl [T6]; · iexact T6
    iexact T7
  isplitl [P0]; · iexact P0
  isplitl [P1]; · iexact P1
  isplitl [P2]; · iexact P2
  iexact P3

end Sends
end Cert.KernelIdeal.Ring
-- ==== Proof.KernelIdealFinish.lean ====
/-
# From the first product to the result

The own product, the messages of step 0 free again, the loop, the last arrivals, and the last two products.
-/
module

public import proofs.«01_k».proof.Proof.KernelIdealSends

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig ℕ (Elt F) ℕ UU ℕ

section Finish
variable (X : Dev nD → S4096x256.Idx → Elt F .fp8e4m3) (Y : Dev nD → S256x2048.Idx → Elt F .fp8e5m2)

abbrev s2L (c : Dev nD) : Loc nD τ sig := (c : Thread nD τ).loc cc0_stg2_0
abbrev s3L (c : Dev nD) : Loc nD τ sig := (c : Thread nD τ).loc cc0_stg3_0

/-- The one index of a scale. -/
abbrev s0 : S1.Idx := ValueIdx.ix1 (0 : Fin 1)

/-- The result of device `c`. -/
def outV (c : Dev nD) (sx sw : S1.Idx → Elt F .f32) : S4096x2048.Idx → Elt F .f32 :=
  k0_pay1 (k0_pay10 (sx s0) (sw s0)) (k0_pay9 (k0_pay8 (acc X Y c 6)) (VX X c 7) (VW Y c 7)) (VXr X c 8) (VWr Y c 8)

theorem S1_idx (i j : S1.Idx) : i = j := by
  funext a
  have h1 : (i a).val < 1 := by have := (i a).isLt; fin_cases a; exact this
  have h2 : (j a).val < 1 := by have := (j a).isLt; fin_cases a; exact this
  exact Fin.ext (by omega)

/-- The loads of the two scales. -/
theorem wp_scale_x (c : Dev nD) (f : S1.Idx → Elt F .f32) {inb} {hw x}
    {α : Type} {Q : α → sProp 𝕄} {k : Elt F .f32 → Prog (TpuEff nD τ sig (Elt F) Λ₀ .tc) α} :
    (s2L c ↦{fullShare} (f : Buf (Elt F) (s2L c)))
      ⊢ iprop(((s2L c ↦{fullShare} (f : Buf (Elt F) (s2L c))) -∗ Wp c (k (f s0)) Q)
        -∗ Wp c (smemLoadElt (p := .tc) (Memref.whole cc0_stg2_0) (Rect.unit (s := S1) ![0] S1.size inb) hw x k) Q) := by
  iintro H Hk
  iapply (wp_smemLoadElt (m := (Memref.whole cc0_stg2_0 : Memref sig ((c : Thread nD τ).2.kind) _ _ _)) 𝒱₀ (c : Thread nD τ) none Set.univ
    (r := Rect.unit (s := S1) ![0] S1.size inb) (S := Finset.univ) (Finset.subset_univ _)) $$ H
  iintro H
  rw [show ((Memref.whole cc0_stg2_0).access (Rect.unit (s := S1) ![0] S1.size inb) : View sig .tc _ _ _).read (Elt F) (f : Buf (Elt F) (s2L c)) x
      = f s0 from congrArg f (S1_idx _ _)]
  iapply Hk; iexact H
theorem wp_scale_w (c : Dev nD) (f : S1.Idx → Elt F .f32) {inb} {hw x}
    {α : Type} {Q : α → sProp 𝕄} {k : Elt F .f32 → Prog (TpuEff nD τ sig (Elt F) Λ₀ .tc) α} :
    (s3L c ↦{fullShare} (f : Buf (Elt F) (s3L c)))
      ⊢ iprop(((s3L c ↦{fullShare} (f : Buf (Elt F) (s3L c))) -∗ Wp c (k (f s0)) Q)
        -∗ Wp c (smemLoadElt (p := .tc) (Memref.whole cc0_stg3_0) (Rect.unit (s := S1) ![0] S1.size inb) hw x k) Q) := by
  iintro H Hk
  iapply (wp_smemLoadElt (m := (Memref.whole cc0_stg3_0 : Memref sig ((c : Thread nD τ).2.kind) _ _ _)) 𝒱₀ (c : Thread nD τ) none Set.univ
    (r := Rect.unit (s := S1) ![0] S1.size inb) (S := Finset.univ) (Finset.subset_univ _)) $$ H
  iintro H
  rw [show ((Memref.whole cc0_stg3_0).access (Rect.unit (s := S1) ![0] S1.size inb) : View sig .tc _ _ _).read (Elt F) (f : Buf (Elt F) (s3L c)) x
      = f s0 from congrArg f (S1_idx _ _)]
  iapply Hk; iexact H

theorem From.tail {k : ℕ} {μ} {l} (h : From k (μ :: l)) : From k l := fun ν hν => h ν (List.mem_cons_of_mem _ hν)

/-- The own slot's pieces, whole again once both their messages have left. -/
theorem own_back (c : Dev nD) {a b : Fin 8} (ha : a.val < 4) (hb : b = opp a) :
    iprop(Src X Y c a 0 ∗ Src X Y c b 0 ∗ P X Y c a 2 fullShare.right 0) ⊢ Fr c a 2 := by
  subst hb
  iintro ⟨A, B, C⟩
  iapply (P_forget X Y c a 2 0)
  iapply (own_cut X Y c ha).2
  isplitl [A B]
  · isplitl [A]; · iexact A
    iexact B
  iexact C

/-- A landed piece in two halves, and whole again. -/
theorem half_cut (c : Dev nD) (φ : Fin 8) (s n : ℕ) :
    P X Y c φ s fullShare n ⊢ iprop(P X Y c φ s fullShare.left n ∗ Kept X Y c φ s n) := (P_halves X Y c φ s fullShare n).1
theorem half_back (c : Dev nD) (φ : Fin 8) (s n : ℕ) :
    iprop(P X Y c φ s fullShare.left n ∗ Kept X Y c φ s n) ⊢ Fr c φ s :=
  (P_halves X Y c φ s fullShare n).2.trans (P_forget X Y c φ s n)

theorem run_finish (c : Dev nD) (sx sw : S1.Idx → Elt F .f32) (v60 v62 : BitVec 32) {α : Type} {Q : α → sProp 𝕄}
    {k : F .f32 → Prog (TpuEff nD τ sig (Elt F) Λ₀ .tc) α} :
    iprop(Rec X Y ∗ Ow c (sendsR 6) ∗ (M0 c 0 ∗ M0 c 1 ∗ M0 c 2 ∗ M0 c 3)
        ∗ (M0 c 4 ∗ M0 c 5 ∗ M0 c 6 ∗ M0 c 7)
        ∗ (Fr c 4 2 ∗ Fr c 5 2 ∗ Fr c 6 2 ∗ Fr c 7 2)
        ∗ (P X Y c 0 2 fullShare.right 0 ∗ P X Y c 1 2 fullShare.right 0 ∗ P X Y c 2 2 fullShare.right 0 ∗ P X Y c 3 2 fullShare.right 0)
        ∗ (∃ f : S4096x2048.Idx → Elt F .f32, oL c ↦{fullShare} (f : Buf (Elt F) (oL c)))
        ∗ (s2L c ↦{fullShare} (sx : Buf (Elt F) (s2L c))) ∗ (s3L c ↦{fullShare} (sw : Buf (Elt F) (s3L c))))
      ⊢ iprop(((Ow c [] ∗ (Done c 4 ∗ Done c 5 ∗ Done c 6 ∗ Done c 7)
          ∗ ((P X Y c 0 7 fullShare 8 -∗ Done c 0) ∗ (P X Y c 1 7 fullShare 8 -∗ Done c 1) ∗ (P X Y c 2 7 fullShare 8 -∗ Done c 2) ∗ (P X Y c 3 7 fullShare 8 -∗ Done c 3))
          ∗ (P X Y c 0 7 fullShare 8 ∗ P X Y c 1 7 fullShare 8 ∗ P X Y c 2 7 fullShare 8 ∗ P X Y c 3 7 fullShare 8)
          ∗ (oL c ↦{fullShare} ((k0_pay9 (k0_pay8 (acc X Y c 6)) (VX X c 7) (VW Y c 7)) : Buf (Elt F) (oL c)))
          ∗ (s2L c ↦{fullShare} (sx : Buf (Elt F) (s2L c))) ∗ (s3L c ↦{fullShare} (sw : Buf (Elt F) (s3L c))))
          -∗ Wp c (k (k0_pay10 (sx s0) (sw s0))) Q)
        -∗ Wp c (k0_part14 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9
    (k0_pay5 (VXr X c 0)) (k0_pay6 (VWr Y c 0)) >>= fun _ =>
  k0_part15 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9
     >>= fun _ => k0_part16 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9
    c v60 v62 >>= fun _ => k0_part17 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9
    c v60 v62 >>= fun _ =>
  k0_part18 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9
    c v60 v62 >>= fun _ => k0_part19 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9
    c v60 v62 >>= fun r =>
  k0_part20 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9
    c v60 v62 r.1 r.2 >>= fun v318 => k0_part21 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9
    v318 >>= fun _ =>
  k0_part22 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9
    v60 >>= fun _ => k0_part23 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9
    v60 >>= k) Q) := by
  have hl := sendsR_from 6 (by omega)
  have hl7 : From 7 (sendsR 0) := sendsR_from 0 (by omega)
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold k0_part14_skel k0_part15_skel k0_part16_skel k0_part17_skel k0_part18_skel k0_part19_skel k0_part20_skel k0_part21_skel k0_part22_skel k0_part23_skel
  simp only [Prog.lift, Prog.bind_op, Prog.bind_ret, Prog.pure_eq_ret, Prog.bind_assoc]
  simp only [smemLoad, smemLoadElt_bind, Prog.bind_ret]
  iintro ⟨#HR, HO, ⟨M0, M1, M2, M3⟩, ⟨M4, M5, M6, M7⟩, ⟨F4, F5, F6, F7⟩, ⟨P0, P1, P2, P3⟩, ⟨%f0, Ho⟩, Hsx, Hsw⟩ Hk
  iapply (wp_load_o c f0) $$ Ho
  iintro Ho
  iapply (wp_store_o c f0 (acc X Y c 0)) $$ Ho
  iintro Ho
  iapply (wp_fin0 X Y c 0 (hl.mono (Nat.zero_le _)) (frees_x X Y c 0 0 (by decide) rfl (qS 0 0 5 rfl inb_S3x2_S1x1_0_0 rfl))) $$ [HO M0]
  · isplitl []; · iexact HR
    isplitl [HO]; · iexact HO
    iexact M0
  iintro ⟨HO, L0, S0⟩
  iapply (wp_fin0 X Y c 1 (hl.mono (Nat.zero_le _)) (frees_x X Y c 1 0 (by decide) rfl (qS 1 0 5 rfl inb_S3x2_S1x1_0_1 rfl))) $$ [HO M1]
  · isplitl []; · iexact HR
    isplitl [HO]; · iexact HO
    iexact M1
  iintro ⟨HO, L1, S1⟩
  iapply (wp_fin0 X Y c 2 (hl.mono (Nat.zero_le _)) (frees_w X Y c 2 0 (by decide) rfl (qS 2 0 17 rfl inb_S3x2_S1x1_0_0 rfl))) $$ [HO M2]
  · isplitl []; · iexact HR
    isplitl [HO]; · iexact HO
    iexact M2
  iintro ⟨HO, L2, S2⟩
  iapply (wp_fin0 X Y c 3 (hl.mono (Nat.zero_le _)) (frees_w X Y c 3 0 (by decide) rfl (qS 3 0 17 rfl inb_S3x2_S1x1_0_1 rfl))) $$ [HO M3]
  · isplitl []; · iexact HR
    isplitl [HO]; · iexact HO
    iexact M3
  iintro ⟨HO, L3, S3⟩
  iapply (wp_fin0 X Y c 4 (hl.mono (Nat.zero_le _)) (frees_x X Y c 4 0 (by decide) rfl (qS 4 0 29 rfl inb_S3x2_S1x1_0_0 rfl))) $$ [HO M4]
  · isplitl []; · iexact HR
    isplitl [HO]; · iexact HO
    iexact M4
  iintro ⟨HO, L4, S4⟩
  iapply (wp_fin0 X Y c 5 (hl.mono (Nat.zero_le _)) (frees_x X Y c 5 0 (by decide) rfl (qS 5 0 29 rfl inb_S3x2_S1x1_0_1 rfl))) $$ [HO M5]
  · isplitl []; · iexact HR
    isplitl [HO]; · iexact HO
    iexact M5
  iintro ⟨HO, L5, S5⟩
  iapply (wp_fin0 X Y c 6 (hl.mono (Nat.zero_le _)) (frees_w X Y c 6 0 (by decide) rfl (qS 6 0 41 rfl inb_S3x2_S1x1_0_0 rfl))) $$ [HO M6]
  · isplitl []; · iexact HR
    isplitl [HO]; · iexact HO
    iexact M6
  iintro ⟨HO, L6, S6⟩
  iapply (wp_fin0 X Y c 7 (hl.mono (Nat.zero_le _)) (frees_w X Y c 7 0 (by decide) rfl (qS 7 0 41 rfl inb_S3x2_S1x1_0_1 rfl))) $$ [HO M7]
  · isplitl []; · iexact HR
    isplitl [HO]; · iexact HO
    iexact M7
  iintro ⟨HO, L7, S7⟩
  ihave F0 := own_back X Y c (a := 0) (b := 4) (by decide) rfl $$ [S0 S4 P0]
  · isplitl [S0]; · iexact S0
    isplitl [S4]; · iexact S4
    iexact P0
  ihave F1 := own_back X Y c (a := 1) (b := 5) (by decide) rfl $$ [S1 S5 P1]
  · isplitl [S1]; · iexact S1
    isplitl [S5]; · iexact S5
    iexact P1
  ihave F2 := own_back X Y c (a := 2) (b := 6) (by decide) rfl $$ [S2 S6 P2]
  · isplitl [S2]; · iexact S2
    isplitl [S6]; · iexact S6
    iexact P2
  ihave F3 := own_back X Y c (a := 3) (b := 7) (by decide) rfl $$ [S3 S7 P3]
  · isplitl [S3]; · iexact S3
    isplitl [S7]; · iexact S7
    iexact P3
  ihave L0 := L0 $$ F0
  ihave L1 := L1 $$ F1
  ihave L2 := L2 $$ F2
  ihave L3 := L3 $$ F3
  ihave L4 := L4 $$ F4
  ihave L5 := L5 $$ F5
  ihave L6 := L6 $$ F6
  ihave L7 := L7 $$ F7
  iapply (Scf.wp_for_bind frame (wpE (defs₀ (F := F)) 𝒱₀ (c : Thread nD τ) none) Set.univ k0_t1_loop.lb k0_t1_loop.ub k0_t1_loop.st k0_t1_ok _ _
    (fun t _ => Inv X Y c t) (fun t _ => trip X Y c v60 v62 t)) $$ [HO L0 L1 L2 L3 L4 L5 L6 L7 Ho]
  · unfold Inv
    isplitl []; · iexact HR
    isplitl [HO]; · iexact HO
    isplitl [L0 L4]
    · isplitl [L0]; · iexact L0
      iexact L4
    isplitl [L1 L5]
    · isplitl [L1]; · iexact L1
      iexact L5
    isplitl [L2 L6]
    · isplitl [L2]; · iexact L2
      iexact L6
    isplitl [L3 L7]
    · isplitl [L3]; · iexact L3
      iexact L7
    iexact Ho
  iintro %_ HI
  rw [show Scf.trips k0_t1_loop.lb k0_t1_loop.ub k0_t1_loop.st = 6 from trips_eq]
  unfold Inv
  icases HI with ⟨-, HO, ⟨L0, L4⟩, ⟨L1, L5⟩, ⟨L2, L6⟩, ⟨L3, L7⟩, Ho⟩
  rw [show sendsR (6 - 6) = [(0, 7), (1, 7), (2, 7), (3, 7)] from rfl]
  have hl7 : From 7 [(0, 7), (1, 7), (2, 7), (3, 7)] := sendsR_from 0 (by omega)
  simp only [Prog.lift, Prog.bind_op, Prog.bind_ret, Prog.pure_eq_ret, Prog.bind_assoc]
  iapply (wp_last X Y c (a := 0) (b := 4) (by decide) rfl hl7.tail (recvs_x X Y c 0 6 (by decide) rfl (qR 0 6 11 rfl inb_S3x2_S1x1_0_0 rfl))
    (recvs_x X Y c 4 6 (by decide) rfl (qR 4 6 35 rfl inb_S3x2_S1x1_0_0 rfl))
    (sends_x X Y c 0 7 (by decide) rfl (qS 0 7 5 rfl inb_S3x2_S1x1_1_0 rfl)
      (qR 0 7 11 rfl inb_S3x2_S1x1_1_0 rfl) (dev19_eq c) (os := ![0, 0, 0]) (od := ![1, 0, 0]) rfl rfl)) $$ [HO L0 L4]
  · isplitl []; · iexact HR
    isplitl [HO]; · iexact HO
    isplitl [L0]; · iexact L0
    iexact L4
  iintro ⟨HO, E0, D4, K0, Q4⟩
  ihave Q4 := half_cut X Y c 4 6 7 $$ Q4
  icases Q4 with ⟨Q4, K4⟩
  iapply (wp_last X Y c (a := 1) (b := 5) (by decide) rfl hl7.tail.tail (recvs_x X Y c 1 6 (by decide) rfl (qR 1 6 11 rfl inb_S3x2_S1x1_0_1 rfl))
    (recvs_x X Y c 5 6 (by decide) rfl (qR 5 6 35 rfl inb_S3x2_S1x1_0_1 rfl))
    (sends_x X Y c 1 7 (by decide) rfl (qS 1 7 5 rfl inb_S3x2_S1x1_1_1 rfl)
      (qR 1 7 11 rfl inb_S3x2_S1x1_1_1 rfl) (dev20_eq c) (os := ![0, 2048, 0]) (od := ![1, 2048, 0]) rfl rfl)) $$ [HO L1 L5]
  · isplitl []; · iexact HR
    isplitl [HO]; · iexact HO
    isplitl [L1]; · iexact L1
    iexact L5
  iintro ⟨HO, E1, D5, K1, Q5⟩
  ihave Q5 := half_cut X Y c 5 6 7 $$ Q5
  icases Q5 with ⟨Q5, K5⟩
  iapply (wp_last X Y c (a := 2) (b := 6) (by decide) rfl hl7.tail.tail.tail (recvs_w X Y c 2 6 (by decide) rfl (qR 2 6 23 rfl inb_S3x2_S1x1_0_0 rfl))
    (recvs_w X Y c 6 6 (by decide) rfl (qR 6 6 47 rfl inb_S3x2_S1x1_0_0 rfl))
    (sends_w X Y c 2 7 (by decide) rfl (qS 2 7 17 rfl inb_S3x2_S1x1_1_0 rfl)
      (qR 2 7 23 rfl inb_S3x2_S1x1_1_0 rfl) (dev21_eq c) (os := ![0, 0, 0]) (od := ![1, 0, 0]) rfl rfl)) $$ [HO L2 L6]
  · isplitl []; · iexact HR
    isplitl [HO]; · iexact HO
    isplitl [L2]; · iexact L2
    iexact L6
  iintro ⟨HO, E2, D6, K2, Q6⟩
  ihave Q6 := half_cut X Y c 6 6 7 $$ Q6
  icases Q6 with ⟨Q6, K6⟩
  iapply (wp_last X Y c (a := 3) (b := 7) (by decide) rfl From.nil (recvs_w X Y c 3 6 (by decide) rfl (qR 3 6 23 rfl inb_S3x2_S1x1_0_1 rfl))
    (recvs_w X Y c 7 6 (by decide) rfl (qR 7 6 47 rfl inb_S3x2_S1x1_0_1 rfl))
    (sends_w X Y c 3 7 (by decide) rfl (qS 3 7 17 rfl inb_S3x2_S1x1_1_1 rfl)
      (qR 3 7 23 rfl inb_S3x2_S1x1_1_1 rfl) (dev22_eq c) (os := ![0, 128, 0]) (od := ![1, 128, 0]) rfl rfl)) $$ [HO L3 L7]
  · isplitl []; · iexact HR
    isplitl [HO]; · iexact HO
    isplitl [L3]; · iexact L3
    iexact L7
  iintro ⟨HO, E3, D7, K3, Q7⟩
  ihave Q7 := half_cut X Y c 7 6 7 $$ Q7
  icases Q7 with ⟨Q7, K7⟩
  iapply (wp_load_o c (acc X Y c 6)) $$ Ho
  iintro Ho
  iapply (wp_load_x X Y c 6 fullShare.right 7 rfl) $$ [K0 K1 K4 K5]
  · isplitl [K0]; · iexact K0
    isplitl [K1]; · iexact K1
    isplitl [K4]; · iexact K4
    iexact K5
  iintro ⟨K0, K1, K4, K5⟩
  iapply (wp_load_w X Y c 6 fullShare.right 7 rfl) $$ [K2 K3 K6 K7]
  · isplitl [K2]; · iexact K2
    isplitl [K3]; · iexact K3
    isplitl [K6]; · iexact K6
    iexact K7
  iintro ⟨K2, K3, K6, K7⟩
  iapply (wp_load_o c (acc X Y c 6)) $$ Ho
  iintro Ho
  iapply (wp_store_o c (acc X Y c 6) (k0_pay9 (k0_pay8 (acc X Y c 6)) (VX X c 7) (VW Y c 7))) $$ Ho
  iintro Ho
  iapply (wp_last_free X Y c 0 From.nil (frees_x X Y c 0 7 (by decide) rfl (qS 0 7 5 rfl inb_S3x2_S1x1_1_0 rfl))) $$ [HO E0 K0]
  · isplitl []; · iexact HR
    isplitl [HO]; · iexact HO
    isplitl [E0]; · iexact E0
    iexact K0
  iintro ⟨HO, E0⟩
  iapply (wp_last_free X Y c 1 From.nil (frees_x X Y c 1 7 (by decide) rfl (qS 1 7 5 rfl inb_S3x2_S1x1_1_1 rfl))) $$ [HO E1 K1]
  · isplitl []; · iexact HR
    isplitl [HO]; · iexact HO
    isplitl [E1]; · iexact E1
    iexact K1
  iintro ⟨HO, E1⟩
  iapply (wp_last_free X Y c 2 From.nil (frees_w X Y c 2 7 (by decide) rfl (qS 2 7 17 rfl inb_S3x2_S1x1_1_0 rfl))) $$ [HO E2 K2]
  · isplitl []; · iexact HR
    isplitl [HO]; · iexact HO
    isplitl [E2]; · iexact E2
    iexact K2
  iintro ⟨HO, E2⟩
  iapply (wp_last_free X Y c 3 From.nil (frees_w X Y c 3 7 (by decide) rfl (qS 3 7 17 rfl inb_S3x2_S1x1_1_1 rfl))) $$ [HO E3 K3]
  · isplitl []; · iexact HR
    isplitl [HO]; · iexact HO
    isplitl [E3]; · iexact E3
    iexact K3
  iintro ⟨HO, E3⟩
  iapply (wp_last_recv X Y c (a := 0) (by decide) From.nil (recvs_x X Y c 0 7 (by decide) rfl (qR 0 7 11 rfl inb_S3x2_S1x1_1_0 rfl))) $$ [HO E0]
  · isplitl []; · iexact HR
    isplitl [HO]; · iexact HO
    iexact E0
  iintro ⟨HO, E0, Q0⟩
  iapply (wp_last_recv X Y c (a := 1) (by decide) From.nil (recvs_x X Y c 1 7 (by decide) rfl (qR 1 7 11 rfl inb_S3x2_S1x1_1_1 rfl))) $$ [HO E1]
  · isplitl []; · iexact HR
    isplitl [HO]; · iexact HO
    iexact E1
  iintro ⟨HO, E1, Q1⟩
  iapply (wp_last_recv X Y c (a := 2) (by decide) From.nil (recvs_w X Y c 2 7 (by decide) rfl (qR 2 7 23 rfl inb_S3x2_S1x1_1_0 rfl))) $$ [HO E2]
  · isplitl []; · iexact HR
    isplitl [HO]; · iexact HO
    iexact E2
  iintro ⟨HO, E2, Q2⟩
  iapply (wp_last_recv X Y c (a := 3) (by decide) From.nil (recvs_w X Y c 3 7 (by decide) rfl (qR 3 7 23 rfl inb_S3x2_S1x1_1_1 rfl))) $$ [HO E3]
  · isplitl []; · iexact HR
    isplitl [HO]; · iexact HO
    iexact E3
  iintro ⟨HO, E3, Q3⟩
  iapply (wp_scale_x c sx) $$ Hsx
  iintro Hsx
  iapply (wp_scale_w c sw) $$ Hsw
  iintro Hsw
  ihave F4 := half_back X Y c 4 6 7 $$ [Q4 K4]
  · isplitl [Q4]; · iexact Q4
    iexact K4
  ihave D4 := D4 $$ F4
  ihave F5 := half_back X Y c 5 6 7 $$ [Q5 K5]
  · isplitl [Q5]; · iexact Q5
    iexact K5
  ihave D5 := D5 $$ F5
  ihave F6 := half_back X Y c 6 6 7 $$ [Q6 K6]
  · isplitl [Q6]; · iexact Q6
    iexact K6
  ihave D6 := D6 $$ F6
  ihave F7 := half_back X Y c 7 6 7 $$ [Q7 K7]
  · isplitl [Q7]; · iexact Q7
    iexact K7
  ihave D7 := D7 $$ F7
  iapply Hk
  isplitl [HO]; · iexact HO
  isplitl [D4 D5 D6 D7]
  · isplitl [D4]; · iexact D4
    isplitl [D5]; · iexact D5
    isplitl [D6]; · iexact D6
    iexact D7
  isplitl [E0 E1 E2 E3]
  · isplitl [E0]; · iexact E0
    isplitl [E1]; · iexact E1
    isplitl [E2]; · iexact E2
    iexact E3
  isplitl [Q0 Q1 Q2 Q3]
  · isplitl [Q0]; · iexact Q0
    isplitl [Q1]; · iexact Q1
    isplitl [Q2]; · iexact Q2
    iexact Q3
  isplitl [Ho]; · iexact Ho
  isplitl [Hsx]; · iexact Hsx
  iexact Hsw

end Finish
end Cert.KernelIdeal.Ring
-- ==== Proof.KernelIdealBody.lean ====
/-
# The whole body

From the buffers, the tokens and the positions of the start to the result, with every buffer and every cell's position
given back.
-/
module

public import proofs.«01_k».proof.Proof.KernelIdealFinish

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig ℕ (Elt F) ℕ UU ℕ

section Body
variable (X : Dev nD → S4096x256.Idx → Elt F .fp8e4m3) (Y : Dev nD → S256x2048.Idx → Elt F .fp8e5m2)

abbrev x0L (c : Dev nD) : Loc nD τ sig := (c : Thread nD τ).loc cc0_stg0_0
abbrev w0L (c : Dev nD) : Loc nD τ sig := (c : Thread nD τ).loc cc0_stg1_0

/-- Loads of the whole operands. -/
theorem wp_load_x0 (c : Dev nD) (f : S4096x256.Idx → Elt F .fp8e4m3)
    {inb : ∀ a : Fin S4096x256.rank, (![0, 0] : Fin 2 → ℕ) a + S4096x256.size a ≤ S4096x256.size a}
    {hl : (Memref.whole cc0_stg0_0).view.LoadsAt (Rect.unit (s := S4096x256) ![0, 0] S4096x256.size inb).toLoadRect}
    {α : Type} {Q : α → sProp 𝕄} {k : (S4096x256.Idx → Elt F .fp8e4m3) → Prog (TpuEff nD τ sig (Elt F) Λ₀ .tc) α} :
    (x0L c ↦{fullShare} (f : Buf (Elt F) (x0L c)))
      ⊢ iprop(((x0L c ↦{fullShare} (f : Buf (Elt F) (x0L c))) -∗ Wp c (k f) Q)
        -∗ Wp c (.op (.load (Memref.whole cc0_stg0_0) (Rect.unit (s := S4096x256) ![0, 0] S4096x256.size inb).toLoadRect hl) k) Q) := by
  have e : (Memref.whole cc0_stg0_0).view.readAt (Elt F) (Rect.unit (s := S4096x256) ![0, 0] S4096x256.size inb).toLoadRect (f : Buf (Elt F) (x0L c)) = f :=
    Memref.readAt_unit_zero (Elt F) cc0_stg0_0 (by funext a; fin_cases a <;> rfl) inb f
  iintro H Hk
  iapply (wp_load 𝒱₀ (c : Thread nD τ) none Set.univ (m := Memref.whole cc0_stg0_0) (S := Finset.univ) (Finset.subset_univ _)) $$ H
  iintro H
  rw [e]
  iapply Hk; iexact H
theorem wp_load_w0 (c : Dev nD) (f : S256x2048.Idx → Elt F .fp8e5m2)
    {inb : ∀ a : Fin S256x2048.rank, (![0, 0] : Fin 2 → ℕ) a + S256x2048.size a ≤ S256x2048.size a}
    {hl : (Memref.whole cc0_stg1_0).view.LoadsAt (Rect.unit (s := S256x2048) ![0, 0] S256x2048.size inb).toLoadRect}
    {α : Type} {Q : α → sProp 𝕄} {k : (S256x2048.Idx → Elt F .fp8e5m2) → Prog (TpuEff nD τ sig (Elt F) Λ₀ .tc) α} :
    (w0L c ↦{fullShare} (f : Buf (Elt F) (w0L c)))
      ⊢ iprop(((w0L c ↦{fullShare} (f : Buf (Elt F) (w0L c))) -∗ Wp c (k f) Q)
        -∗ Wp c (.op (.load (Memref.whole cc0_stg1_0) (Rect.unit (s := S256x2048) ![0, 0] S256x2048.size inb).toLoadRect hl) k) Q) := by
  have e : (Memref.whole cc0_stg1_0).view.readAt (Elt F) (Rect.unit (s := S256x2048) ![0, 0] S256x2048.size inb).toLoadRect (f : Buf (Elt F) (w0L c)) = f :=
    Memref.readAt_unit_zero (Elt F) cc0_stg1_0 (by funext a; fin_cases a <;> rfl) inb f
  iintro H Hk
  iapply (wp_load 𝒱₀ (c : Thread nD τ) none Set.univ (m := Memref.whole cc0_stg1_0) (S := Finset.univ) (Finset.subset_univ _)) $$ H
  iintro H
  rw [e]
  iapply Hk; iexact H

/-- The positions of a flow's cells at the end. -/
def Pos (c : Dev nD) (φ : Fin 8) : sProp 𝕄 :=
  iprop((RN c φ (lim φ) ∗ RN c φ (lim φ + 1) ∗ RN c φ (lim φ + 2)) ∗ SN c φ (lim φ) ∗ SN c φ (lim φ + 1) ∗ SN c φ (lim φ + 2))

theorem Done_cut (c : Dev nD) (φ : Fin 8) : (Done c φ : sProp 𝕄) ⊢ iprop(Fr c φ 0 ∗ Fr c φ 1 ∗ Fr c φ 2 ∗ Pos c φ) := by
  unfold Done Pos
  rw [Fr_mod (show 6 % 3 = 0 % 3 from rfl), Fr_mod (show 7 % 3 = 1 % 3 from rfl), Fr_mod (show 8 % 3 = 2 % 3 from rfl)]
  iintro ⟨⟨A, B, C⟩, D⟩
  isplitl [A]; · iexact A
  isplitl [B]; · iexact B
  isplitl [C]; · iexact C
  iexact D

/-- The two scratch buffers, at any contents. -/
def Scr (c : Dev nD) : sProp 𝕄 :=
  iprop((∃ f : Buf (Elt F) (xL c), xL c ↦{fullShare} f) ∗ (∃ f : Buf (Elt F) (wL c), wL c ↦{fullShare} f))

/-- What the body starts from, and ends with. -/
def Start (c : Dev nD) (sx sw : S1.Idx → Elt F .f32) : sProp 𝕄 :=
  iprop(Rec X Y ∗ (∃ W, owes (c : Thread nD τ) (oweL c sendsAll + tallyAt (barC (nxt c)) 0 1 + tallyAt (barC (prv c)) 0 1) W)
        ∗ Bar0 c ∗ (St c 0 ∗ St c 1 ∗ St c 2 ∗ St c 3)
        ∗ (St c 4 ∗ St c 5 ∗ St c 6 ∗ St c 7)
        ∗ Scr c ∗ (x0L c ↦{fullShare} (X c : Buf (Elt F) (x0L c))) ∗ (w0L c ↦{fullShare} (Y c : Buf (Elt F) (w0L c)))
        ∗ (s2L c ↦{fullShare} (sx : Buf (Elt F) (s2L c))) ∗ (s3L c ↦{fullShare} (sw : Buf (Elt F) (s3L c)))
        ∗ (∃ f : S4096x2048.Idx → Elt F .f32, oL c ↦{fullShare} (f : Buf (Elt F) (oL c))))
def End (c : Dev nD) (sx sw : S1.Idx → Elt F .f32) : sProp 𝕄 :=
  iprop(Ow c [] ∗ atPos ER (barC c) 1 ∅ 0 ∗ (Pos c 0 ∗ Pos c 1 ∗ Pos c 2 ∗ Pos c 3)
        ∗ (Pos c 4 ∗ Pos c 5 ∗ Pos c 6 ∗ Pos c 7)
        ∗ Scr c ∗ (x0L c ↦{fullShare} (X c : Buf (Elt F) (x0L c))) ∗ (w0L c ↦{fullShare} (Y c : Buf (Elt F) (w0L c)))
        ∗ (s2L c ↦{fullShare} (sx : Buf (Elt F) (s2L c))) ∗ (s3L c ↦{fullShare} (sw : Buf (Elt F) (s3L c)))
        ∗ (oL c ↦{fullShare} (outV X Y c sx sw : Buf (Elt F) (oL c))))

theorem run_body (c : Dev nD) (sx sw : S1.Idx → Elt F .f32) :
    Start X Y c sx sw ⊢ Wp c (cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9) (fun _ => End X Y c sx sw) := by
  rw [cc0_body_eq_skeleton]
  unfold cc0_body_skel
  simp only [k0_part8_eq_skeleton, k0_part9_eq_skeleton, k0_part10_eq_skeleton]
  unfold k0_part8_skel k0_part9_skel k0_part10_skel
  simp only [semSignalWord, semWaitWord, Prog.lift, Prog.bind_op, Prog.bind_ret, Prog.pure_eq_ret, Prog.bind_assoc, wp_deviceId]
  unfold Start End Scr
  iintro ⟨#HR, HO, HB, ⟨T0, T1, T2, T3⟩, ⟨T4, T5, T6, T7⟩, Hscr, Hx, Hw, Hsx, Hsw, Hout⟩
  ihave T0 := St_reached c 0 $$ T0
  icases T0 with ⟨T0, #Ra0, #Rb0⟩
  ihave T1 := St_reached c 1 $$ T1
  icases T1 with ⟨T1, #Ra1, #Rb1⟩
  ihave T2 := St_reached c 2 $$ T2
  icases T2 with ⟨T2, #Ra2, #Rb2⟩
  ihave T3 := St_reached c 3 $$ T3
  icases T3 with ⟨T3, #Ra3, #Rb3⟩
  ihave T4 := St_reached c 4 $$ T4
  icases T4 with ⟨T4, #Ra4, #Rb4⟩
  ihave T5 := St_reached c 5 $$ T5
  icases T5 with ⟨T5, #Ra5, #Rb5⟩
  ihave T6 := St_reached c 6 $$ T6
  icases T6 with ⟨T6, #Ra6, #Rb6⟩
  ihave T7 := St_reached c 7 $$ T7
  icases T7 with ⟨T7, #Ra7, #Rb7⟩
  ihave Hscr := (own_scratch c).1 $$ Hscr
  unfold Slot
  icases Hscr with ⟨⟨⟨G0_0, G1_0, G2_0, G3_0⟩, G4_0, G5_0, G6_0, G7_0⟩, ⟨⟨G0_1, G1_1, G2_1, G3_1⟩, G4_1, G5_1, G6_1, G7_1⟩, ⟨⟨G0_2, G1_2, G2_2, G3_2⟩, G4_2, G5_2, G6_2, G7_2⟩⟩
  iapply (wp_bar X Y c sendsAll_from (dev1_eq c) (dev2_eq c)) $$ [HO HB G0_0 G1_0 G2_0 G3_0 G4_0 G5_0 G6_0 G7_0]
  · isplitl []; · iexact HR
    isplitl [HO]; · iexact HO
    isplitl [HB]; · iexact HB
    isplitl [G0_0 G1_0 G2_0 G3_0]
    · isplitl [G0_0]; · iexact G0_0
      isplitl [G1_0]; · iexact G1_0
      isplitl [G2_0]; · iexact G2_0
      iexact G3_0
    isplitl [G4_0 G5_0 G6_0 G7_0]
    · isplitl [G4_0]; · iexact G4_0
      isplitl [G5_0]; · iexact G5_0
      isplitl [G6_0]; · iexact G6_0
      iexact G7_0
    isplitl []
    · isplitl []; · iexact Ra0
      isplitl []; · iexact Ra1
      isplitl []; · iexact Ra2
      iexact Ra3
    isplitl []; · iexact Ra4
    isplitl []; · iexact Ra5
    isplitl []; · iexact Ra6
    iexact Ra7
  iintro ⟨HO, Hb, ⟨D0, D1, D2, D3⟩, ⟨D4, D5, D6, D7⟩⟩
  iapply (wp_load_x0 c (X c)) $$ Hx
  iintro Hx
  ihave Hr := (own_xr c 2).2 $$ [G0_2 G1_2]
  · isplitl [G0_2]; · iexact G0_2
    iexact G1_2
  iapply (wp_dead_xr c 2 rfl) $$ Hr
  iintro Hr
  iapply (wp_store_xr X Y c rfl (pay3_eq X c)) $$ Hr
  iintro ⟨P0, P1⟩
  iapply (wp_load_w0 c (Y c)) $$ Hw
  iintro Hw
  ihave Hr := (own_wr c 2).2 $$ [G2_2 G3_2]
  · isplitl [G2_2]; · iexact G2_2
    iexact G3_2
  iapply (wp_dead_wr c 2 rfl) $$ Hr
  iintro Hr
  iapply (wp_store_wr X Y c rfl (pay4_eq Y c)) $$ Hr
  iintro ⟨P2, P3⟩
  iapply (run_sends X Y c _ _) $$ [HO T0 T1 T2 T3 T4 T5 T6 T7 D0 D1 D2 D3 D4 D5 D6 D7 G0_1 G1_1 G2_1 G3_1 G4_1 G5_1 G6_1 G7_1 P0 P1 P2 P3]
  · isplitl []; · iexact HR
    isplitl [HO]; · iexact HO
    isplitl [T0 T1 T2 T3]
    · isplitl [T0]; · iexact T0
      isplitl [T1]; · iexact T1
      isplitl [T2]; · iexact T2
      iexact T3
    isplitl [T4 T5 T6 T7]
    · isplitl [T4]; · iexact T4
      isplitl [T5]; · iexact T5
      isplitl [T6]; · iexact T6
      iexact T7
    isplitl [D0 D1 D2 D3]
    · isplitl [D0]; · iexact D0
      isplitl [D1]; · iexact D1
      isplitl [D2]; · iexact D2
      iexact D3
    isplitl [D4 D5 D6 D7]
    · isplitl [D4]; · iexact D4
      isplitl [D5]; · iexact D5
      isplitl [D6]; · iexact D6
      iexact D7
    isplitl [G0_1 G1_1 G2_1 G3_1]
    · isplitl [G0_1]; · iexact G0_1
      isplitl [G1_1]; · iexact G1_1
      isplitl [G2_1]; · iexact G2_1
      iexact G3_1
    isplitl [G4_1 G5_1 G6_1 G7_1]
    · isplitl [G4_1]; · iexact G4_1
      isplitl [G5_1]; · iexact G5_1
      isplitl [G6_1]; · iexact G6_1
      iexact G7_1
    isplitl [P0]; · iexact P0
    isplitl [P1]; · iexact P1
    isplitl [P2]; · iexact P2
    iexact P3
  iintro ⟨HO, ⟨T0, T1, T2, T3⟩, ⟨T4, T5, T6, T7⟩, ⟨P0, P1, P2, P3⟩⟩
  iapply (run_finish X Y c sx sw _ _) $$ [HO T0 T1 T2 T3 T4 T5 T6 T7 G4_2 G5_2 G6_2 G7_2 P0 P1 P2 P3 Hout Hsx Hsw]
  · isplitl []; · iexact HR
    isplitl [HO]; · iexact HO
    isplitl [T0 T1 T2 T3]
    · isplitl [T0]; · iexact T0
      isplitl [T1]; · iexact T1
      isplitl [T2]; · iexact T2
      iexact T3
    isplitl [T4 T5 T6 T7]
    · isplitl [T4]; · iexact T4
      isplitl [T5]; · iexact T5
      isplitl [T6]; · iexact T6
      iexact T7
    isplitl [G4_2 G5_2 G6_2 G7_2]
    · isplitl [G4_2]; · iexact G4_2
      isplitl [G5_2]; · iexact G5_2
      isplitl [G6_2]; · iexact G6_2
      iexact G7_2
    isplitl [P0 P1 P2 P3]
    · isplitl [P0]; · iexact P0
      isplitl [P1]; · iexact P1
      isplitl [P2]; · iexact P2
      iexact P3
    isplitl [Hout]; · iexact Hout
    isplitl [Hsx]; · iexact Hsx
    iexact Hsw
  iintro ⟨HO, ⟨D4, D5, D6, D7⟩, ⟨D0, D1, D2, D3⟩, ⟨P0, P1, P2, P3⟩, Ho, Hsx, Hsw⟩
  iapply (wp_load_o c (k0_pay9 (k0_pay8 (acc X Y c 6)) (VX X c 7) (VW Y c 7))) $$ Ho
  iintro Ho
  iapply (wp_load_xr X Y c 7 fullShare 8 rfl) $$ [P0 P1]
  · isplitl [P0]; · iexact P0
    iexact P1
  iintro ⟨P0, P1⟩
  iapply (wp_load_wr X Y c 7 fullShare 8 rfl) $$ [P2 P3]
  · isplitl [P2]; · iexact P2
    iexact P3
  iintro ⟨P2, P3⟩
  iapply (wp_load_o c (k0_pay9 (k0_pay8 (acc X Y c 6)) (VX X c 7) (VW Y c 7))) $$ Ho
  iintro Ho
  iapply (wp_store_o c (k0_pay9 (k0_pay8 (acc X Y c 6)) (VX X c 7) (VW Y c 7)) (outV X Y c sx sw)) $$ Ho
  iintro Ho
  ihave D0 := D0 $$ P0
  ihave D1 := D1 $$ P1
  ihave D2 := D2 $$ P2
  ihave D3 := D3 $$ P3
  ihave D0 := Done_cut c 0 $$ D0
  icases D0 with ⟨G0_0, G0_1, G0_2, D0⟩
  ihave D1 := Done_cut c 1 $$ D1
  icases D1 with ⟨G1_0, G1_1, G1_2, D1⟩
  ihave D2 := Done_cut c 2 $$ D2
  icases D2 with ⟨G2_0, G2_1, G2_2, D2⟩
  ihave D3 := Done_cut c 3 $$ D3
  icases D3 with ⟨G3_0, G3_1, G3_2, D3⟩
  ihave D4 := Done_cut c 4 $$ D4
  icases D4 with ⟨G4_0, G4_1, G4_2, D4⟩
  ihave D5 := Done_cut c 5 $$ D5
  icases D5 with ⟨G5_0, G5_1, G5_2, D5⟩
  ihave D6 := Done_cut c 6 $$ D6
  icases D6 with ⟨G6_0, G6_1, G6_2, D6⟩
  ihave D7 := Done_cut c 7 $$ D7
  icases D7 with ⟨G7_0, G7_1, G7_2, D7⟩
  ihave Hscr := (own_scratch c).2 $$ [G0_0 G1_0 G2_0 G3_0 G4_0 G5_0 G6_0 G7_0 G0_1 G1_1 G2_1 G3_1 G4_1 G5_1 G6_1 G7_1 G0_2 G1_2 G2_2 G3_2 G4_2 G5_2 G6_2 G7_2]
  · unfold Slot
    isplitl [G0_0 G1_0 G2_0 G3_0 G4_0 G5_0 G6_0 G7_0]
    · isplitl [G0_0 G1_0 G2_0 G3_0]
      · isplitl [G0_0]; · iexact G0_0
        isplitl [G1_0]; · iexact G1_0
        isplitl [G2_0]; · iexact G2_0
        iexact G3_0
      isplitl [G4_0]; · iexact G4_0
      isplitl [G5_0]; · iexact G5_0
      isplitl [G6_0]; · iexact G6_0
      iexact G7_0
    isplitl [G0_1 G1_1 G2_1 G3_1 G4_1 G5_1 G6_1 G7_1]
    · isplitl [G0_1 G1_1 G2_1 G3_1]
      · isplitl [G0_1]; · iexact G0_1
        isplitl [G1_1]; · iexact G1_1
        isplitl [G2_1]; · iexact G2_1
        iexact G3_1
      isplitl [G4_1]; · iexact G4_1
      isplitl [G5_1]; · iexact G5_1
      isplitl [G6_1]; · iexact G6_1
      iexact G7_1
    isplitl [G0_2 G1_2 G2_2 G3_2]
    · isplitl [G0_2]; · iexact G0_2
      isplitl [G1_2]; · iexact G1_2
      isplitl [G2_2]; · iexact G2_2
      iexact G3_2
    isplitl [G4_2]; · iexact G4_2
    isplitl [G5_2]; · iexact G5_2
    isplitl [G6_2]; · iexact G6_2
    iexact G7_2
  unfold Wp; rw [wp_ret]; imodintro
  isplitl [HO]; · iexact HO
  isplitl [Hb]; · iexact Hb
  isplitl [D0 D1 D2 D3]
  · isplitl [D0]; · iexact D0
    isplitl [D1]; · iexact D1
    isplitl [D2]; · iexact D2
    iexact D3
  isplitl [D4 D5 D6 D7]
  · isplitl [D4]; · iexact D4
    isplitl [D5]; · iexact D5
    isplitl [D6]; · iexact D6
    iexact D7
  isplitl [Hscr]; · iexact Hscr
  isplitl [Hx]; · iexact Hx
  isplitl [Hw]; · iexact Hw
  isplitl [Hsx]; · iexact Hsx
  isplitl [Hsw]; · iexact Hsw
  iexact Ho

end Body
end Cert.KernelIdeal.Ring
-- ==== Proof.KernelIdealDeal.lean ====
/-
# The ghost state at the launch

The cells and the duty tokens of every device, made at once and dealt around the ring, and the credit each device's
arrivals start with.
-/
module

public import proofs.«01_k».proof.Proof.KernelIdealBody
public import Idealize.ShloMosaic.Lib.Pipeline.Launch
public import Idealize.ShloMosaic.Lib.Pipeline.Kit

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig ℕ (Elt F) ℕ UU ℕ

section Deal
variable (X : Dev nD → S4096x256.Idx → Elt F .fp8e4m3) (Y : Dev nD → S256x2048.Idx → Elt F .fp8e5m2)

/-! ## The cells, numbered and by flow -/

/-- The kernel's own semaphores by number. -/
abbrev osem (k : Fin 48) : SemLoc sig := .dma ⟨5 + k.val, by show 5 + k.val < 53; omega⟩
abbrev dC (c : Dev nD) (k : Fin 48) : GSem nD τ sig := ((c : Thread nD τ), osem k)
/-- The semaphore of a flow by role. -/
def roleS (r : Fin 2) (φ : Fin 8) (s : ℕ) : DmaSem sig := ⟨semN r.val φ s, semN_lt r.isLt φ s⟩
abbrev roleC (c : Dev nD) (r : Fin 2) (φ : Fin 8) (s : ℕ) : GSem nD τ sig := ((c : Thread nD τ), .dma (roleS r φ s))

/-- The numbers, as flow, role and slot. -/
def enum : Fin 8 × Fin 2 × Fin 3 ≃ Fin 48 where
  toFun p := ⟨semN p.2.1.val p.1 p.2.2.val - 5, by have := semN_lt p.2.1.isLt p.1 p.2.2.val; omega⟩
  invFun k := (flowOf (5 + k.val), ⟨roleOf (5 + k.val), Nat.mod_lt _ (by decide)⟩, ⟨slotOf (5 + k.val), by unfold slotOf; omega⟩)
  left_inv p := by
    obtain ⟨φ, r, u⟩ := p
    have e : 5 + (semN r.val φ u.val - 5) = semN r.val φ u.val := by unfold semN; omega
    refine Prod.ext ?_ (Prod.ext (Fin.ext ?_) (Fin.ext ?_))
    · show flowOf (5 + (semN r.val φ u.val - 5)) = φ; rw [e, flowOf_semN r.isLt]
    · show roleOf (5 + (semN r.val φ u.val - 5)) = r.val; rw [e, roleOf_semN r.isLt]
    · show slotOf (5 + (semN r.val φ u.val - 5)) = u.val; rw [e, slotOf_semN r.isLt, Nat.mod_eq_of_lt u.isLt]
  right_inv k := by
    have h : ∀ k : Fin 48, semN (roleOf (5 + k.val)) (flowOf (5 + k.val)) (slotOf (5 + k.val)) - 5 = k.val := by decide
    exact Fin.ext (h k)

theorem osem_enum (φ : Fin 8) (r : Fin 2) (u : Fin 3) : osem (enum (φ, r, u)) = .dma (roleS r φ u.val) := by
  refine congrArg SemLoc.dma (Fin.ext ?_)
  show 5 + (semN r.val φ u.val - 5) = semN r.val φ u.val
  unfold semN; omega

theorem bigSep_fin2 (Φ : Fin 2 → sProp 𝕄) : bigSep Finset.univ Φ = iprop(Φ 0 ∗ Φ 1) := bigSep_univ_eq_bigSepL [0, 1] (by decide) (by decide) Φ
theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_tf (Φ : Bool → sProp 𝕄) : bigSep Finset.univ Φ = iprop(Φ false ∗ Φ true) := bigSep_univ_eq_bigSepL [false, true] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A fact about all of the kernel's own semaphores, flow by flow. -/
theorem by_flow (Φ : SemLoc sig → sProp 𝕄) :
    bigSep Finset.univ (fun k : Fin 48 => Φ (osem k)) = bigSep Finset.univ fun φ : Fin 8 =>
      iprop((Φ (.dma (sS φ 0)) ∗ Φ (.dma (sS φ 1)) ∗ Φ (.dma (sS φ 2))) ∗ Φ (.dma (rS φ 0)) ∗ Φ (.dma (rS φ 1)) ∗ Φ (.dma (rS φ 2))) := by
  rw [BI.bigSep_univ_equiv enum, BI.bigSep_univ_prod]
  refine BI.bigSep_congr fun φ _ => ?_
  rw [BI.bigSep_univ_prod, bigSep_fin2, bigSep_fin3, bigSep_fin3]
  simp only [osem_enum]
  rfl

theorem dC_inj : Function.Injective fun p : Dev nD × Fin 48 => dC p.1 p.2 := by
  rintro ⟨c, k⟩ ⟨c', k'⟩ h
  have h1 : c = c' := congrArg (fun g : GSem nD τ sig => g.1.1) h
  have h2 : osem k = osem k' := congrArg Prod.snd h
  have h3 := congrArg Fin.val (SemLoc.dma.inj h2)
  have h4 : k = k' := Fin.ext (by simp only at h3; omega)
  rw [h1, h4]
theorem barC_inj : Function.Injective (barC : Dev nD → GSem nD τ sig) := fun c c' h => congrArg (fun g : GSem nD τ sig => g.1.1) h

def dmaCells : Finset (GSem nD τ sig) := Finset.univ.map ⟨fun p : Dev nD × Fin 48 => dC p.1 p.2, dC_inj⟩
def barCells : Finset (GSem nD τ sig) := Finset.univ.map ⟨barC, barC_inj⟩
theorem cells_disj : Disjoint dmaCells barCells := by
  rw [Finset.disjoint_left]
  intro g h1 h2
  obtain ⟨p, -, hp⟩ := Finset.mem_map.mp h1
  obtain ⟨c, -, hc⟩ := Finset.mem_map.mp h2
  have := congrArg Prod.snd (hp.trans hc.symm)
  cases this
def ringCells : Finset (GSem nD τ sig) := dmaCells ∪ barCells

/-! ## The duty tokens -/

def dTok (p : Dev nD × Fin 8 × Fin 8 × Fin 2) : GSem nD τ sig × ℕ × Bool := (roleC p.1 p.2.2.2 p.2.1 p.2.2.1.val, p.2.2.1.val / 3, false)
def bTok (p : Dev nD × Bool) : GSem nD τ sig × ℕ × Bool := (barC p.1, 0, p.2)
theorem dTok_inj : Function.Injective dTok := by
  rintro ⟨c, φ, s, r⟩ ⟨c', φ', s', r'⟩ h
  have h1 : c = c' := congrArg (fun g : GSem nD τ sig × ℕ × Bool => g.1.1.1) h
  have h2 : roleS r φ s.val = roleS r' φ' s'.val := SemLoc.dma.inj (congrArg (fun g : GSem nD τ sig × ℕ × Bool => g.1.2) h)
  have h3 : semN r.val φ s.val = semN r'.val φ' s'.val := congrArg Fin.val h2
  have h4 : s.val / 3 = s'.val / 3 := congrArg (fun g : GSem nD τ sig × ℕ × Bool => g.2.1) h
  have e1 : φ = φ' := by have := congrArg flowOf h3; rwa [flowOf_semN r.isLt, flowOf_semN r'.isLt] at this
  have e2 : r = r' := by have := congrArg roleOf h3; rw [roleOf_semN r.isLt, roleOf_semN r'.isLt] at this; exact Fin.ext this
  have e3 : s = s' := by
    have := congrArg slotOf h3; rw [slotOf_semN r.isLt, slotOf_semN r'.isLt] at this; exact Fin.ext (by omega)
  rw [h1, e1, e2, e3]
theorem bTok_inj : Function.Injective bTok := by
  rintro ⟨c, b⟩ ⟨c', b'⟩ h
  have h1 : c = c' := congrArg (fun g : GSem nD τ sig × ℕ × Bool => g.1.1.1) h
  have h2 : b = b' := congrArg (fun g : GSem nD τ sig × ℕ × Bool => g.2.2) h
  rw [h1, h2]
def dToks : Finset (GSem nD τ sig × ℕ × Bool) := Finset.univ.map ⟨dTok, dTok_inj⟩
def bToks : Finset (GSem nD τ sig × ℕ × Bool) := Finset.univ.map ⟨bTok, bTok_inj⟩
theorem toks_disj : Disjoint dToks bToks := by
  rw [Finset.disjoint_left]
  intro g h1 h2
  obtain ⟨p, -, hp⟩ := Finset.mem_map.mp h1
  obtain ⟨c, -, hc⟩ := Finset.mem_map.mp h2
  have := congrArg (fun g : GSem nD τ sig × ℕ × Bool => g.1.2) (hp.trans hc.symm)
  cases this
def ringToks : Finset (GSem nD τ sig × ℕ × Bool) := dToks ∪ bToks

/-- The launch's ghost state: the staging protocol's and the ring's. -/
def u₀ : UU := (initOf (Pipeline.cells cfgs cellOf_inj) (Pipeline.launchToks cfgs cellOf_inj), initOf ringCells ringToks)

/-- The tokens of a device's own cells. -/
def toks (c : Dev nD) : sProp 𝕄 :=
  iprop((dutyTok ER (barC c) 0 false ∗ dutyTok ER (barC c) 0 true)
    ∗ bigSep Finset.univ fun φ : Fin 8 => bigSep Finset.univ fun s : Fin 8 =>
        iprop(dutyTok ER (sC c φ s.val) (s.val / 3) false ∗ dutyTok ER (rC c φ s.val) (s.val / 3) false))
/-- The tokens a device pays with. -/
def payToks (c : Dev nD) : sProp 𝕄 :=
  iprop((dutyTok ER (barC (nxt c)) 0 false ∗ dutyTok ER (barC (prv c)) 0 true)
    ∗ bigSep Finset.univ fun φ : Fin 8 => bigSep Finset.univ fun s : Fin 8 => Snd c φ s.val)

/-- The position at a cell at the start. -/
def pos (g : GSem nD τ sig) : sProp 𝕄 := iprop(atPos ER g 0 ∅ 0 ∗ reached ER g 0)

/-- What the launch deals a device. -/
def G (c : Dev nD) : sProp 𝕄 :=
  iprop(((bigSep Finset.univ fun k : Fin 48 => roundState ER (ringRd X Y) (dC c k) 0) ∗ roundState ER (ringRd X Y) (barC c) 0)
    ∗ ((bigSep Finset.univ fun k : Fin 48 => pos (dC c k)) ∗ pos (barC c)) ∗ toks c)

theorem over_cells (Φ : GSem nD τ sig → sProp 𝕄) : bigSep ringCells Φ
      = bigSep Finset.univ fun c : Dev nD => iprop((bigSep Finset.univ fun k : Fin 48 => Φ (dC c k)) ∗ Φ (barC c)) := by
  have h := BI.bigSep_union cells_disj (Φ := Φ)
  unfold ringCells
  rw [h]
  unfold dmaCells barCells
  rw [BI.bigSep_map, BI.bigSep_map, BI.bigSep_univ_prod, BI.bigSep_sep']; rfl
theorem over_toks : bigSep ringToks (fun x => (dutyTok ER x.1 x.2.1 x.2.2 : sProp 𝕄)) = bigSep Finset.univ fun c : Dev nD => toks c := by
  have h := BI.bigSep_union toks_disj (Φ := fun x => (dutyTok ER x.1 x.2.1 x.2.2 : sProp 𝕄))
  have h1 : bigSep bToks (fun x => (dutyTok ER x.1 x.2.1 x.2.2 : sProp 𝕄))
      = bigSep Finset.univ fun c : Dev nD => iprop(dutyTok ER (barC c) 0 false ∗ dutyTok ER (barC c) 0 true) := by
    unfold bToks
    rw [BI.bigSep_map, BI.bigSep_univ_prod]
    exact BI.bigSep_congr fun c _ => bigSep_tf _
  have h2 : bigSep dToks (fun x => (dutyTok ER x.1 x.2.1 x.2.2 : sProp 𝕄))
      = bigSep Finset.univ fun c : Dev nD => bigSep Finset.univ fun φ : Fin 8 => bigSep Finset.univ fun s : Fin 8 =>
        iprop(dutyTok ER (sC c φ s.val) (s.val / 3) false ∗ dutyTok ER (rC c φ s.val) (s.val / 3) false) := by
    unfold dToks
    rw [BI.bigSep_map, BI.bigSep_univ_prod]
    refine BI.bigSep_congr fun c _ => ?_
    rw [BI.bigSep_univ_prod]
    refine BI.bigSep_congr fun φ _ => ?_
    rw [BI.bigSep_univ_prod]
    exact BI.bigSep_congr fun s _ => bigSep_fin2 _
  unfold ringToks toks
  rw [h, h1, h2]
  exact (BI.Entails.antisymm BI.sep_comm BI.sep_comm).trans (BI.bigSep_sep' _ _ _).symm

theorem sep3 (A B C : Dev nD → sProp 𝕄) :
    bigSep Finset.univ (fun c => iprop(A c ∗ B c ∗ C c)) = iprop(bigSep Finset.univ A ∗ bigSep Finset.univ B ∗ bigSep Finset.univ C) := by
  rw [BI.bigSep_sep', BI.bigSep_sep']

theorem G_intro :
    iprop((bigSep Finset.univ fun c : Dev nD => iprop((bigSep Finset.univ fun k : Fin 48 => roundState ER (ringRd X Y) (dC c k) 0) ∗ roundState ER (ringRd X Y) (barC c) 0))
      ∗ (bigSep Finset.univ fun c : Dev nD => iprop((bigSep Finset.univ fun k : Fin 48 => pos (dC c k)) ∗ pos (barC c)))
      ∗ bigSep Finset.univ fun c : Dev nD => toks c) ⊢ (bigSep Finset.univ (G X Y) : sProp 𝕄) :=
  Entails.of_eq (sep3 _ _ _).symm

theorem fund_ring : BI.own (ER (initOf ringCells ringToks)) ⊢ (|==> bigSep Finset.univ (G X Y) : sProp 𝕄) := by
  have e1 := Entails.of_eq (over_cells (F := F) fun g => roundState ER (ringRd X Y) g 0)
  have e2 := Entails.of_eq ((BI.bigSep_sep' ringCells (fun g => (atPos ER g 0 ∅ 0 : sProp 𝕄)) (fun g => reached ER g 0)).symm.trans (over_cells pos))
  have e3 := Entails.of_eq (over_toks (F := F))
  iintro HX
  imod (Rounds.fund ER (ringRd X Y) ringCells ringToks) $$ HX with ⟨Hst, Hr, Hat, Htok⟩
  imodintro
  ihave Hst' := e1 $$ Hst
  ihave Hpos := e2 $$ [Hat Hr]
  · isplitl [Hat]; · iexact Hat
    iexact Hr
  ihave Htok' := e3 $$ Htok
  iapply (G_intro X Y)
  isplitl [Hst']; · iexact Hst'
  isplitl [Hpos]; · iexact Hpos
  iexact Htok'

/-! ## The cells' invariants -/

/-- The barrier semaphore is the launch's one unscoped semaphore. -/
theorem unscopedSems0_eq (c : Dev nD) : (unscopedSems0 c : sProp 𝕄) = semVal (barC c) 0 := by
  unfold unscopedSems0; rw [bigSep_eq_bigSepL_of_eq [SemLoc.reg bar] (by decide) (by decide)]; rfl

def Invs (c : Dev nD) : sProp 𝕄 :=
  iprop((bigSep Finset.univ fun k : Fin 48 => iprop(∃ κ : ℕ, cellInv ER (ringRd X Y) κ (dC c k))) ∗ ∃ κ : ℕ, cellInv ER (ringRd X Y) κ (barC c))
instance Invs_persistent (c : Dev nD) : BI.Persistent (Invs X Y c) := by unfold Invs; infer_instance

theorem cell_alloc (g : GSem nD τ sig) :
    iprop(semVal g 0 ∗ roundState ER (ringRd X Y) g 0) ⊢ (|={Set.univ}=> ∃ κ : ℕ, cellInv ER (ringRd X Y) κ g : sProp 𝕄) :=
  (Rounds.body_intro ER (ringRd X Y) g).trans inv_alloc

theorem core_alloc (c : Dev nD) :
    iprop(Pipeline.ownSems0 (Ix := ℕ) (Name := ℕ) (U := UU) (Lvl := ℕ) (Val := Elt F) (τ := τ) osem c ∗ unscopedSems0 c ∗ G X Y c)
      ⊢ |={Set.univ}=> iprop(Invs X Y c ∗ ((bigSep Finset.univ fun k : Fin 48 => pos (dC c k)) ∗ pos (barC c)) ∗ toks c) := by
  unfold G Pipeline.ownSems0
  rw [unscopedSems0_eq]
  iintro ⟨Hos, Hus, ⟨Hst, Hsb⟩, Hat, Htok⟩
  imod (show iprop((bigSep Finset.univ fun k : Fin 48 => semVal (dC c k) 0) ∗ bigSep Finset.univ fun k : Fin 48 => roundState ER (ringRd X Y) (dC c k) 0)
      ⊢ (|={Set.univ}=> bigSep Finset.univ fun k => iprop(∃ κ : ℕ, cellInv ER (ringRd X Y) κ (dC c k)) : sProp 𝕄) from by
        rw [← BI.bigSep_sep']
        exact (BI.bigSep_mono fun k _ => cell_alloc X Y (dC c k)).trans (bigSep_fupd _ _)) $$ [Hos Hst] with Hinv
  · isplitl [Hos]; · iexact Hos
    iexact Hst
  imod (cell_alloc X Y (barC c)) $$ [Hus Hsb] with Hib
  · isplitl [Hus] <;> iassumption
  imodintro
  unfold Invs
  isplitl [Hinv Hib]
  · isplitl [Hinv]; · iexact Hinv
    iexact Hib
  isplitl [Hat]; · iexact Hat
  iexact Htok

theorem Recs_intro : (bigSep Finset.univ fun c : Dev nD => Invs X Y c) ⊢ Recs X Y := by
  unfold Recs
  refine (BI.bigSep_of_persistent Finset.univ _).trans (BI.bigSep_mono fun p _ => ?_)
  refine (BI.bigSep_elim (Finset.mem_univ p.1)).trans ?_
  unfold Invs cellAt
  show iprop((bigSep Finset.univ fun k : Fin 48 => iprop(∃ κ : ℕ, cellInv ER (ringRd X Y) κ (dC p.1 k))) ∗ ∃ κ : ℕ, cellInv ER (ringRd X Y) κ (barC p.1)) ⊢ _
  iintro ⟨HA, HB⟩
  by_cases h : p.2.val < 48
  · rw [dif_pos h]
    iapply (show (bigSep Finset.univ fun k : Fin 48 => iprop(∃ κ : ℕ, cellInv ER (ringRd X Y) κ (dC p.1 k))) ⊢ iprop(∃ κ : ℕ, cellInv ER (ringRd X Y) κ (dC p.1 ⟨p.2.val, h⟩)) from
      BI.bigSep_elim (Finset.mem_univ (⟨p.2.val, h⟩ : Fin 48))) $$ HA
  · rw [dif_neg h]; iexact HB

/-! ## Dealing -/

/-- A device and a flow, to the flow's target and the flow. -/
def tgtE : Dev nD × Fin 8 ≃ Dev nD × Fin 8 where
  toFun p := (tgt p.2 p.1, p.2)
  invFun p := (tgt (opp p.2) p.1, p.2)
  left_inv p := Prod.ext (tgt_opp p.2 p.1) rfl
  right_inv p := Prod.ext (by have := tgt_opp (opp p.2) p.1; rwa [opp_opp] at this) rfl

theorem around (Φ : Dev nD → Fin 8 → sProp 𝕄) :
    (bigSep Finset.univ fun c : Dev nD => bigSep Finset.univ fun φ : Fin 8 => Φ c φ)
      = bigSep Finset.univ fun c : Dev nD => bigSep Finset.univ fun φ : Fin 8 => Φ (tgt φ c) φ := by
  rw [← BI.bigSep_univ_prod (fun p : Dev nD × Fin 8 => Φ p.1 p.2), BI.bigSep_univ_equiv tgtE, BI.bigSep_univ_prod]; rfl

theorem toks_around : (bigSep Finset.univ fun c : Dev nD => (toks c : sProp 𝕄)) ⊢ bigSep Finset.univ fun c : Dev nD => payToks c := by
  have e (f : Dev nD → Dev nD) (g : Dev nD → Dev nD) (h : Fin 8 → Dev nD → Dev nD) :
      (bigSep Finset.univ fun c : Dev nD => (iprop((dutyTok ER (barC (f c)) 0 false ∗ dutyTok ER (barC (g c)) 0 true)
        ∗ bigSep Finset.univ fun φ : Fin 8 => bigSep Finset.univ fun s : Fin 8 =>
            iprop(dutyTok ER (sC c φ s.val) (s.val / 3) false ∗ dutyTok ER (rC (h φ c) φ s.val) (s.val / 3) false)) : sProp 𝕄))
      = iprop(((bigSep Finset.univ fun c : Dev nD => dutyTok ER (barC (f c)) 0 false) ∗ (bigSep Finset.univ fun c : Dev nD => dutyTok ER (barC (g c)) 0 true))
        ∗ (bigSep Finset.univ fun c : Dev nD => bigSep Finset.univ fun φ : Fin 8 => bigSep Finset.univ fun s : Fin 8 => dutyTok ER (sC c φ s.val) (s.val / 3) false)
        ∗ bigSep Finset.univ fun c : Dev nD => bigSep Finset.univ fun φ : Fin 8 => bigSep Finset.univ fun s : Fin 8 => dutyTok ER (rC (h φ c) φ s.val) (s.val / 3) false) := by
    rw [BI.bigSep_sep', BI.bigSep_sep', ← BI.bigSep_sep' Finset.univ (fun c : Dev nD => bigSep Finset.univ fun φ : Fin 8 => bigSep Finset.univ fun s : Fin 8 => dutyTok ER (sC c φ s.val) (s.val / 3) false)]
    congr 1
    refine BI.bigSep_congr fun c _ => ?_
    rw [← BI.bigSep_sep']
    exact BI.bigSep_congr fun φ _ => BI.bigSep_sep' _ _ _
  have e0 := e id id fun _ => id
  have e1 := e nxt prv tgt
  have p1 := BI.bigSep_univ_equiv ring (fun c : Dev nD => (dutyTok ER (barC c) 0 false : sProp 𝕄))
  have p2 := BI.bigSep_univ_equiv ring.symm (fun c : Dev nD => (dutyTok ER (barC c) 0 true : sProp 𝕄))
  have p3 := around (fun c φ => bigSep Finset.univ fun s : Fin 8 => (dutyTok ER (rC c φ s.val) (s.val / 3) false : sProp 𝕄))
  refine (Entails.of_eq e0).trans (BI.BIBase.Entails.trans ?_ (Entails.of_eq e1.symm))
  exact BI.sep_mono (BI.sep_mono (Entails.of_eq p1) (Entails.of_eq p2)) (BI.sep_mono (BI.Entails.refl _) (Entails.of_eq p3))

/-- A flow's messages among its first eight. -/
theorem fin8_Ico (φ : Fin 8) (Φ : ℕ → sProp 𝕄) : (bigSep Finset.univ fun s : Fin 8 => Φ s.val) ⊢ bigSep (Finset.Ico 0 (lim φ)) Φ := by
  have e : (bigSep Finset.univ fun s : Fin 8 => Φ s.val) = bigSep ((Finset.univ : Finset (Fin 8)).map ⟨Fin.val, Fin.val_injective⟩) Φ := by
    rw [BI.bigSep_map]; rfl
  rw [e]
  refine BI.bigSep_subset fun s hs => ?_
  have h8 : s < 8 := by have := (Finset.mem_Ico.mp hs).2; unfold lim at this; split at this <;> omega
  exact Finset.mem_map.mpr ⟨⟨s, h8⟩, Finset.mem_univ _, rfl⟩

/-- The barrier's state without its credit, and a flow's without its arrivals' credit. -/
def Bar1 (c : Dev nD) : sProp 𝕄 :=
  iprop(dutyTok ER (barC (prv c)) 0 true ∗ dutyTok ER (barC (nxt c)) 0 false ∗ reached ER (barC (prv c)) 0 ∗ reached ER (barC (nxt c)) 0
    ∗ atPos ER (barC c) 0 ∅ 0)
def St1 (c : Dev nD) (φ : Fin 8) : sProp 𝕄 :=
  iprop(((SN c φ 0 ∗ SN c φ 1 ∗ SN c φ 2) ∗ RN c φ 0 ∗ RN c φ 1 ∗ RN c φ 2) ∗ Tk c φ 0)
def G' (c : Dev nD) : sProp 𝕄 := iprop(Recs X Y ∗ Bar1 c ∗ bigSep Finset.univ fun φ : Fin 8 => St1 c φ)

def Known : sProp 𝕄 := iprop(Recs X Y ∗ bigSep Finset.univ fun c : Dev nD => reached ER (barC c) 0)
instance Known_persistent : BI.Persistent (Known X Y) := by unfold Known; infer_instance

theorem reached_at (c : Dev nD) : (bigSep Finset.univ fun c : Dev nD => (reached ER (barC c) 0 : sProp 𝕄)) ⊢ reached ER (barC c) 0 :=
  BI.bigSep_elim (Finset.mem_univ c)

theorem flows_intro (c : Dev nD) :
    iprop((bigSep Finset.univ fun k : Fin 48 => pos (dC c k)) ∗ bigSep Finset.univ fun φ : Fin 8 => bigSep Finset.univ fun s : Fin 8 => Snd c φ s.val)
      ⊢ (bigSep Finset.univ fun φ : Fin 8 => St1 c φ : sProp 𝕄) := by
  have e := by_flow (fun sm => (pos ((c : Thread nD τ), sm) : sProp 𝕄))
  refine (sep_mono_left (Entails.of_eq e)).trans (BI.BIBase.Entails.trans (Entails.of_eq (BI.bigSep_sep' _ _ _).symm) ?_)
  refine BI.bigSep_mono fun φ _ => ?_
  unfold St1 Tk
  exact BI.sep_mono (BI.Entails.refl _) (fin8_Ico φ (Snd c φ))

theorem ghost_intro (c : Dev nD) :
    iprop(Known X Y ∗ (atPos ER (barC c) 0 ∅ 0 ∗ (bigSep Finset.univ fun k : Fin 48 => pos (dC c k)) ∗ payToks c)) ⊢ G' X Y c := by
  unfold Known G' Bar1 payToks
  iintro ⟨⟨#HI, #HR⟩, Hb, Hat, ⟨HtN, HtP⟩, Hs⟩
  isplitr; · iexact HI
  isplitl [Hb HtN HtP]
  · isplitl [HtP]; · iexact HtP
    isplitl [HtN]; · iexact HtN
    isplitr; · iapply (reached_at (F := F) (prv c)); iexact HR
    isplitr; · iapply (reached_at (F := F) (nxt c)); iexact HR
    iexact Hb
  iapply (flows_intro c)
  isplitl [Hat] <;> iassumption

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← BI.bigSep_sep']; exact BI.bigSep_mono h)

theorem regroup :
    (bigSep Finset.univ fun c : Dev nD => iprop(Invs X Y c ∗ ((bigSep Finset.univ fun k : Fin 48 => pos (dC c k)) ∗ pos (barC c)) ∗ toks c) : sProp 𝕄)
      ⊢ bigSep Finset.univ (G' X Y) := by
  have e1 := sep3 (Invs X Y) (fun c => iprop((bigSep Finset.univ fun k : Fin 48 => pos (dC c k)) ∗ pos (barC c))) toks
  have e2 := BI.bigSep_sep' (Finset.univ : Finset (Dev nD)) (fun c => (bigSep Finset.univ fun k : Fin 48 => pos (dC c k) : sProp 𝕄)) (fun c => pos (barC c))
  have e3 := BI.bigSep_sep' (Finset.univ : Finset (Dev nD)) (fun c => (atPos ER (barC c) 0 ∅ 0 : sProp 𝕄)) (fun c => reached ER (barC c) 0)
  have e4 := sep3 (fun c => (atPos ER (barC c) 0 ∅ 0 : sProp 𝕄)) (fun c => bigSep Finset.univ fun k : Fin 48 => pos (dC c k)) payToks
  rw [e1, e2]
  iintro ⟨HI, ⟨Hat, Hp⟩, Htok⟩
  ihave Hp' := (show (bigSep Finset.univ fun c : Dev nD => (pos (barC c) : sProp 𝕄)) ⊢ _ from Entails.of_eq e3) $$ Hp
  icases Hp' with ⟨Hb, #HR⟩
  ihave HI' := (Recs_intro X Y) $$ HI
  icases HI' with #HI
  ihave Htk := (toks_around (F := F)) $$ Htok
  iapply (with_known (R := Known X Y) fun c _ => ghost_intro X Y c)
  isplitr
  · unfold Known; isplitl; · iexact HI
    iexact HR
  iapply (Entails.of_eq e4.symm)
  isplitl [Hb]; · iexact Hb
  isplitl [Hat]; · iexact Hat
  iexact Htk

/-- The cells made at once on every device. -/
theorem glob : (bigSep Finset.univ fun c => iprop(Pipeline.ownSems0 (Ix := ℕ) (Name := ℕ) (U := UU) (Lvl := ℕ) (Val := Elt F) (τ := τ) osem c ∗ unscopedSems0 c ∗ G X Y c) : sProp 𝕄)
    ⊢ |={Set.univ}=> bigSep Finset.univ (G' X Y) :=
  ((BI.bigSep_mono fun c _ => core_alloc X Y c).trans (bigSep_fupd _ _)).trans (BI.fupd_mono (regroup X Y))

end Deal
end Cert.KernelIdeal.Ring
-- ==== Proof.KernelIdealCredit.lean ====
/-
# The credit at the launch

Every device starts with the credit of its arrivals: what all the devices owe, summed at the cells owed to.
-/
module

public import proofs.«01_k».proof.Proof.KernelIdealBody
public import Idealize.ShloMosaic.Lib.Pipeline.Launch

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig ℕ (Elt F) ℕ UU ℕ

section Credit
/-! ## The launch's credit -/

/-- What a device owes at the start. -/
def O₀ (c : Dev nD) : CellTallies nD τ sig ℕ := oweL c sendsAll + tallyAt (barC (nxt c)) 0 1 + tallyAt (barC (prv c)) 0 1

/-- The arrivals of a list of messages, at a device. -/
def dueL (c : Dev nD) (l : List (Fin 8 × ℕ)) : CellTallies nD τ sig ℕ := (l.map fun μ => tallyAt (rC c μ.1 μ.2) μ.2 (NN μ.1)).sum

theorem cred_dueL (c : Dev nD) : ∀ l : List (Fin 8 × ℕ), (Pipeline.launchCred (fun d => oweL d l) c : sProp 𝕄) ⊢ cred (dueL c l)
  | [] => by
    unfold oweL dueL
    rw [Pipeline.launchCred_zero, List.map_nil, List.sum_nil]
    exact Entails.of_eq cred_zero.symm
  | μ :: l => by
    have e := Pipeline.launchCred_tallyAt (τ := τ) (Val := Elt F) (Name := ℕ) (U := UU) (Lvl := ℕ) (.dma (rS μ.1 μ.2)) (tgt μ.1) (tgt (opp μ.1))
      (fun c => by have := tgt_opp (opp μ.1) c; rwa [opp_opp] at this) (fun c => tgt_opp μ.1 c) μ.2 (NN μ.1) c
    unfold oweL dueL
    rw [Pipeline.launchCred_add, List.map_cons, List.sum_cons]
    refine (BI.sep_mono (cred_dueL c l) e).trans ?_
    exact BI.BIBase.Entails.trans BI.sep_comm (cred_add _ _).2

theorem dueL_all (c : Dev nD) :
    dueL c sendsAll = ∑ φ : Fin 8, ∑ s ∈ Finset.Ico 0 (lim φ), tallyAt (rC c φ s) s (NN φ) := by
  have hnd : sendsAll.Nodup := by decide
  have hm : ∀ p : Fin 8 × ℕ, p ∈ sendsAll.toFinset ↔ p.1 ∈ (Finset.univ : Finset (Fin 8)) ∧ p.2 ∈ Finset.Ico 0 (lim p.1) := by
    have h8 : ∀ φ : Fin 8, ∀ s : Fin 8, (φ, s.val) ∈ sendsAll ↔ s.val < lim φ := by decide
    rintro ⟨φ, s⟩
    rw [List.mem_toFinset, Finset.mem_Ico]
    constructor
    · intro h
      exact ⟨Finset.mem_univ _, Nat.zero_le _, (h8 φ ⟨s, (sendsAll_from _ h).2⟩).mp h⟩
    · rintro ⟨-, -, h⟩
      dsimp only at h
      have : s < 8 := by unfold lim at h; split at h <;> omega
      exact (h8 φ ⟨s, this⟩).mpr h
  unfold dueL
  rw [← List.sum_toFinset _ hnd]
  exact Finset.sum_finset_product _ _ _ hm

theorem creds (c : Dev nD) :
    (Pipeline.launchCred O₀ c : sProp 𝕄) ⊢ iprop(cred (tallyAt (barC c) 0 2) ∗ bigSep Finset.univ fun φ : Fin 8 => Rk c φ 0) := by
  have e1 := Pipeline.launchCred_tallyAt (τ := τ) (Val := Elt F) (Name := ℕ) (U := UU) (Lvl := ℕ) (.reg bar) nxt prv nxt_prv prv_nxt (0 : ℕ) 1 c
  have e2 := Pipeline.launchCred_tallyAt (τ := τ) (Val := Elt F) (Name := ℕ) (U := UU) (Lvl := ℕ) (.reg bar) prv nxt prv_nxt nxt_prv (0 : ℕ) 1 c
  have e3 : (cred (dueL c sendsAll) : sProp 𝕄) = bigSep Finset.univ fun φ : Fin 8 => Rk c φ 0 := by
    rw [dueL_all, Pipeline.cred_finsetSum]
    exact BI.bigSep_congr fun φ _ => by rw [Pipeline.cred_finsetSum]; rfl
  unfold O₀
  rw [Pipeline.launchCred_add, Pipeline.launchCred_add]
  refine (BI.sep_mono (BI.sep_mono ((cred_dueL c sendsAll).trans (Entails.of_eq e3)) e1) e2).trans ?_
  show iprop(((bigSep Finset.univ fun φ : Fin 8 => Rk c φ 0) ∗ cred (tallyAt (barC c) 0 1)) ∗ cred (tallyAt (barC c) 0 1)) ⊢ _
  iintro ⟨⟨A, B⟩, C⟩
  isplitl [B C]
  · rw [show (2 : ℕ) = 1 + 1 from rfl, ← tallyAt_add]
    iapply (cred_add _ _).2
    isplitl [B] <;> iassumption
  iexact A

end Credit
end Cert.KernelIdeal.Ring
-- ==== Proof.KernelIdealPoint.lean ====
/-
# The kernel's one grid point

The cells closed at the end of the body, and the body as the obligation the launch asks of each device.
-/
module

public import proofs.«01_k».proof.Proof.KernelIdealDeal
public import proofs.«01_k».proof.Proof.KernelIdealCredit

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)
variable {F : FTy → Type} [FloatOps F]

local notation "𝕄" => MT nD τ sig ℕ (Elt F) ℕ UU ℕ

section Close
variable (X : Dev nD → S4096x256.Idx → Elt F .fp8e4m3) (Y : Dev nD → S256x2048.Idx → Elt F .fp8e5m2)

/-! ## The cells closed -/

theorem close_cell (g : GSem nD τ sig) (R : ℕ) (hR : ∀ r, R ≤ r → (ringRd X Y).duties g r = ∅) :
    iprop((∃ κ, cellInv ER (ringRd X Y) κ g) ∗ atPos ER g R ∅ 0) ⊢ (|={Set.univ}=> semVal g 0 : sProp 𝕄) := by
  iintro ⟨⟨%κ, HI⟩, Hat⟩
  iapply (Rounds.cell_close ER (ringRd X Y) (Set.mem_univ κ) (fun h => h) (R := R) hR)
  isplitl [HI] <;> iassumption

theorem later_dma (c : Dev nD) {ro : ℕ} (hr : ro < 2) {φ : Fin 8} {s : ℕ} (hs : lim φ ≤ s) (q : DmaSem sig) (hq : q.val = semN ro φ s) :
    ∀ r, s / 3 ≤ r → (ringRd X Y).duties ((c : Thread nD τ), .dma q) r = ∅ := fun r h => by
  rw [duties_dma X Y c ro hr φ s r q hq, if_neg (by omega)]

theorem close_r (c : Dev nD) {φ : Fin 8} {s : ℕ} (hs : lim φ ≤ s) :
    iprop(Recs X Y ∗ RN c φ s) ⊢ (|={Set.univ}=> semVal (rC c φ s) 0 : sProp 𝕄) := by
  unfold RN
  iintro ⟨#HI, Hat, -⟩
  ihave Hi := Recs_r X Y c φ s $$ HI
  iapply (close_cell X Y (rC c φ s) (s / 3) (later_dma X Y c (by decide) hs _ rfl))
  isplitl [Hi] <;> iassumption
theorem close_s (c : Dev nD) {φ : Fin 8} {s : ℕ} (hs : lim φ ≤ s) :
    iprop(Recs X Y ∗ SN c φ s) ⊢ (|={Set.univ}=> semVal (sC c φ s) 0 : sProp 𝕄) := by
  unfold SN
  iintro ⟨#HI, Hat, -⟩
  ihave Hi := Recs_s X Y c φ s $$ HI
  iapply (close_cell X Y (sC c φ s) (s / 3) (later_dma X Y c (by decide) hs _ rfl))
  isplitl [Hi] <;> iassumption

/-- A flow's six semaphores at zero. -/
def Zero (c : Dev nD) (φ : Fin 8) : sProp 𝕄 :=
  iprop((semVal (sC c φ 0) 0 ∗ semVal (sC c φ 1) 0 ∗ semVal (sC c φ 2) 0) ∗ semVal (rC c φ 0) 0 ∗ semVal (rC c φ 1) 0 ∗ semVal (rC c φ 2) 0)

theorem turn (c : Dev nD) (φ : Fin 8) (f : ℕ → DmaSem sig) (hf : ∀ s s', s % 3 = s' % 3 → f s = f s') :
    iprop(semVal ((c : Thread nD τ), .dma (f (lim φ))) 0 ∗ semVal ((c : Thread nD τ), .dma (f (lim φ + 1))) 0 ∗ semVal ((c : Thread nD τ), .dma (f (lim φ + 2))) 0)
      ⊢ (iprop(semVal ((c : Thread nD τ), .dma (f 0)) 0 ∗ semVal ((c : Thread nD τ), .dma (f 1)) 0 ∗ semVal ((c : Thread nD τ), .dma (f 2)) 0) : sProp 𝕄) := by
  by_cases h : φ.val < 4
  · have e : lim φ = 8 := if_pos h
    rw [e, hf 8 2 rfl, hf (8 + 1) 0 rfl, hf (8 + 2) 1 rfl]
    iintro ⟨A, B, C⟩
    isplitl [B]; · iexact B
    isplitl [C] <;> iassumption
  · have e : lim φ = 7 := if_neg h
    rw [e, hf 7 1 rfl, hf (7 + 1) 2 rfl, hf (7 + 2) 0 rfl]
    iintro ⟨A, B, C⟩
    isplitl [C]; · iexact C
    isplitl [A] <;> iassumption

theorem close_flow (c : Dev nD) (φ : Fin 8) : iprop(Recs X Y ∗ Pos c φ) ⊢ (|={Set.univ}=> Zero c φ : sProp 𝕄) := by
  unfold Pos Zero
  iintro ⟨#HI, ⟨R0, R1, R2⟩, S0, S1, S2⟩
  imod (close_r X Y c (φ := φ) (s := lim φ) (le_refl _)) $$ [R0] with R0
  · isplitr; · iexact HI
    iexact R0
  imod (close_r X Y c (φ := φ) (s := lim φ + 1) (Nat.le_add_right _ _)) $$ [R1] with R1
  · isplitr; · iexact HI
    iexact R1
  imod (close_r X Y c (φ := φ) (s := lim φ + 2) (Nat.le_add_right _ _)) $$ [R2] with R2
  · isplitr; · iexact HI
    iexact R2
  imod (close_s X Y c (φ := φ) (s := lim φ) (le_refl _)) $$ [S0] with S0
  · isplitr; · iexact HI
    iexact S0
  imod (close_s X Y c (φ := φ) (s := lim φ + 1) (Nat.le_add_right _ _)) $$ [S1] with S1
  · isplitr; · iexact HI
    iexact S1
  imod (close_s X Y c (φ := φ) (s := lim φ + 2) (Nat.le_add_right _ _)) $$ [S2] with S2
  · isplitr; · iexact HI
    iexact S2
  imodintro
  isplitl [S0 S1 S2]
  · iapply (turn c φ (sS φ) fun _ _ => sS_mod)
    isplitl [S0]; · iexact S0
    isplitl [S1] <;> iassumption
  iapply (turn c φ (rS φ) fun _ _ => rS_mod)
  isplitl [R0]; · iexact R0
  isplitl [R1] <;> iassumption

theorem close_all (c : Dev nD) :
    iprop(Recs X Y ∗ atPos ER (barC c) 1 ∅ 0 ∗ bigSep Finset.univ (fun φ : Fin 8 => Pos c φ))
      ⊢ (|={Set.univ}=> iprop(Pipeline.ownSems0 (Ix := ℕ) (Name := ℕ) (U := UU) (Lvl := ℕ) (Val := Elt F) (τ := τ) osem c ∗ unscopedSems0 c) : sProp 𝕄) := by
  have e := by_flow (fun sm => (semVal ((c : Thread nD τ), sm) 0 : sProp 𝕄))
  have h : iprop(Recs X Y ∗ bigSep Finset.univ (fun φ : Fin 8 => Pos c φ)) ⊢ (|={Set.univ}=> bigSep Finset.univ (fun φ : Fin 8 => Zero c φ) : sProp 𝕄) :=
    (with_known (R := Recs X Y) fun φ _ => close_flow X Y c φ).trans (bigSep_fupd _ _)
  rw [unscopedSems0_eq]
  unfold Pipeline.ownSems0
  iintro ⟨#HI, Hb, Hp⟩
  imod h $$ [Hp] with Hz
  · isplitr; · iexact HI
    iexact Hp
  ihave Hi := Recs_bar X Y c $$ HI
  imod (close_cell X Y (barC c) 1 (duties_bar_later X Y c)) $$ [Hi Hb] with Hb
  · isplitl [Hi] <;> iassumption
  imodintro
  isplitl [Hz]
  · iapply (Entails.of_eq e.symm); iexact Hz
  iexact Hb

end Close

/-! ## The pipeline's data -/

section Launch
variable (m : (ℓ : Loc nD τ sig) → Buf (Elt F) ℓ) (ρ : Dev nD → PrngReg)

def s₀ : MemSt nD τ sig (Elt F) := ⟨m, fun _ => 0, ρ⟩

/-- The operands of the devices, and a device's two scales. -/
def XM (c : Dev nD) : S4096x256.Idx → Elt F .fp8e4m3 := m ((c : Thread nD τ).loc main_arg0)
def YM (c : Dev nD) : S256x2048.Idx → Elt F .fp8e5m2 := m ((c : Thread nD τ).loc main_arg1)
def sxM (c : Dev nD) : S1.Idx → Elt F .f32 := m ((c : Thread nD τ).loc main_arg2)
def swM (c : Dev nD) : S1.Idx → Elt F .f32 := m ((c : Thread nD τ).loc main_arg3)
/-- The result. -/
def outM (c : Dev nD) : S4096x2048.Idx → Elt F .f32 := outV (XM m) (YM m) c (sxM m c) (swM m c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's body starts from besides the scratch buffers. -/
def start (c : Dev nD) : sProp 𝕄 :=
  iprop(Rec (XM m) (YM m) ∗ Bar0 c ∗ bigSep Finset.univ fun φ : Fin 8 => St c φ)
def Φ₀ (c : Dev nD) : sProp 𝕄 := iprop(start m c ∗ Scr c)
def Φ₁ (c : Dev nD) : sProp 𝕄 :=
  iprop(Scr c ∗ Pipeline.ownSems0 (Ix := ℕ) (Name := ℕ) (U := UU) (Lvl := ℕ) (Val := Elt F) (τ := τ) osem c ∗ unscopedSems0 c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => XM m c
    | ⟨1, _⟩ => YM m c
    | ⟨2, _⟩ => sxM m c
    | ⟨3, _⟩ => swM m c
    | ⟨4, _⟩ => outM m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

theorem fetch_in (t : Fin cfg0.N) : (cfg0.win (0 : Fin 5)).fetch t = true ∧ (cfg0.win (1 : Fin 5)).fetch t = true
    ∧ (cfg0.win (2 : Fin 5)).fetch t = true ∧ (cfg0.win (3 : Fin 5)).fetch t = true := by rw [fin_N t]; exact ⟨rfl, rfl, rfl, rfl⟩

/-- A window's one block is the whole array: read back it is the array's contents. -/
theorem read_0 (f : (main_arg0 : Ref sig .tc).ty.Contents (Elt F)) : (win0_0.blk (0 : Fin 1)).view.read (Elt F) f = f := by
  funext j
  show f ((win0_0.rect (0 : Fin 1)).emb j) = f j
  refine congrArg f (funext fun a => Fin.ext ?_)
  rw [Rect.emb_apply]
  show 0 * _ + 1 * (j a).val = (j a).val
  omega
theorem read_1 (f : (main_arg1 : Ref sig .tc).ty.Contents (Elt F)) : (win0_1.blk (0 : Fin 1)).view.read (Elt F) f = f := by
  funext j
  show f ((win0_1.rect (0 : Fin 1)).emb j) = f j
  refine congrArg f (funext fun a => Fin.ext ?_)
  rw [Rect.emb_apply]
  show 0 * _ + 1 * (j a).val = (j a).val
  omega
theorem read_2 (f : (main_arg2 : Ref sig .tc).ty.Contents (Elt F)) : (win0_2.blk (0 : Fin 1)).view.read (Elt F) f = f := by
  funext j
  show f ((win0_2.rect (0 : Fin 1)).emb j) = f j
  refine congrArg f (funext fun a => Fin.ext ?_)
  rw [Rect.emb_apply]
  show 0 * _ + 1 * (j a).val = (j a).val
  omega
theorem read_3 (f : (main_arg3 : Ref sig .tc).ty.Contents (Elt F)) : (win0_3.blk (0 : Fin 1)).view.read (Elt F) f = f := by
  funext j
  show f ((win0_3.rect (0 : Fin 1)).emb j) = f j
  refine congrArg f (funext fun a => Fin.ext ?_)
  rw [Rect.emb_apply]
  show 0 * _ + 1 * (j a).val = (j a).val
  omega
theorem read_4 (f : (main_v1 : Ref sig .tc).ty.Contents (Elt F)) : (win0_4.blk (0 : Fin 1)).view.read (Elt F) f = f := by
  funext j
  show f ((win0_4.rect (0 : Fin 1)).emb j) = f j
  refine congrArg f (funext fun a => Fin.ext ?_)
  rw [Rect.emb_apply]
  show 0 * _ + 1 * (j a).val = (j a).val
  omega

theorem before_0 (c : Dev nD) (d) : (dats m ρ 0 c).before (0 : Fin 5) t₀ d = XM m c := by
  unfold Dat.before; rw [if_pos (fetch_in t₀).1]
  exact read_0 (XM m c)
theorem before_1 (c : Dev nD) (d) : (dats m ρ 0 c).before (1 : Fin 5) t₀ d = YM m c := by
  unfold Dat.before; rw [if_pos (fetch_in t₀).2.1]
  exact read_1 (YM m c)
theorem before_2 (c : Dev nD) (d) : (dats m ρ 0 c).before (2 : Fin 5) t₀ d = sxM m c := by
  unfold Dat.before; rw [if_pos (fetch_in t₀).2.2.1]
  exact read_2 (sxM m c)
theorem before_3 (c : Dev nD) (d) : (dats m ρ 0 c).before (3 : Fin 5) t₀ d = swM m c := by
  unfold Dat.before; rw [if_pos (fetch_in t₀).2.2.2]
  exact read_3 (swM m c)

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt (0 : ℕ) t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(Φ₁ c ∗ (dats m ρ 0 c).owesAt (0 : ℕ) t₀.succ ∗ stg c cc0_stg0_0 (XM m c) ∗ stg c cc0_stg1_0 (YM m c)
    ∗ stg c cc0_stg2_0 (sxM m c) ∗ stg c cc0_stg3_0 (swM m c) ∗ stg c cc0_stg4_0 (outM m c))

theorem pre_start (c : Dev nD) : bodyPre m ρ c ⊢ Start (XM m) (YM m) c (sxM m c) (swM m c) := by
  unfold bodyPre Φ₀ start Start Dat.owesAt Pipeline.owesWithin
  rw [bigSep_fin8]
  iintro ⟨⟨⟨HR, HB, T0, T1, T2, T3, T4, T5, T6, T7⟩, Hscr⟩, ⟨%W, %hW, HO⟩, ⟨%d0, %g0, %h0, Hx⟩, ⟨%d1, %g1, %h1, Hw⟩, ⟨%d2, %g2, %h2, Hsx⟩, ⟨%d3, %g3, %h3, Hsw⟩, ⟨%d4, %g4, %h4, Hout⟩⟩
  rw [before_0] at h0; rw [before_1] at h1; rw [before_2] at h2; rw [before_3] at h3
  subst h0 h1 h2 h3
  isplitl [HR]; · iexact HR
  isplitl [HO]; · iexists W; iexact HO
  isplitl [HB]; · iexact HB
  isplitl [T0 T1 T2 T3]
  · isplitl [T0]; · iexact T0
    isplitl [T1]; · iexact T1
    isplitl [T2] <;> iassumption
  isplitl [T4 T5 T6 T7]
  · isplitl [T4]; · iexact T4
    isplitl [T5]; · iexact T5
    isplitl [T6] <;> iassumption
  isplitl [Hscr]; · iexact Hscr
  isplitl [Hx]; · iexact Hx
  isplitl [Hw]; · iexact Hw
  isplitl [Hsx]; · iexact Hsx
  isplitl [Hsw]; · iexact Hsw
  iexists g4; iexact Hout

theorem end_post (c : Dev nD) : iprop(Rec (XM m) (YM m) ∗ End (XM m) (YM m) c (sxM m c) (swM m c)) ⊢ (|={Set.univ}=> bodyPost m ρ c : sProp 𝕄) := by
  unfold bodyPost Φ₁ End Rec Ow Dat.owesAt Pipeline.owesWithin
  iintro ⟨⟨#HI, -⟩, ⟨%W, HO⟩, Hb, ⟨P0, P1, P2, P3⟩, ⟨P4, P5, P6, P7⟩, Hscr, Hx, Hw, Hsx, Hsw, Hout⟩
  imod (close_all (XM m) (YM m) c) $$ [Hb P0 P1 P2 P3 P4 P5 P6 P7] with Hz
  · rw [bigSep_fin8]
    isplitr; · iexact HI
    isplitl [Hb]; · iexact Hb
    isplitl [P0]; · iexact P0
    isplitl [P1]; · iexact P1
    isplitl [P2]; · iexact P2
    isplitl [P3]; · iexact P3
    isplitl [P4]; · iexact P4
    isplitl [P5]; · iexact P5
    isplitl [P6] <;> iassumption
  imodintro
  isplitl [Hscr Hz]
  · isplitl [Hscr]; · iexact Hscr
    iexact Hz
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

theorem sound_body (c : Dev nD) : bodyPre m ρ c ⊢ Wp c (cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9) (fun _ => bodyPost m ρ c) := by
  have h : Start (XM m) (YM m) c (sxM m c) (swM m c) ⊢ iprop(Rec (XM m) (YM m) ∗ Start (XM m) (YM m) c (sxM m c) (swM m c)) := by
    unfold Start
    iintro ⟨#HR, H⟩
    isplitr; · iexact HR
    isplitr; · iexact HR
    iexact H
  refine (pre_start m ρ c).trans (h.trans ?_)
  refine (sep_mono_right (run_body (XM m) (YM m) c (sxM m c) (swM m c))).trans ?_
  unfold Wp
  refine (wp_frame_l frame (wpE (defs₀ (F := F)) 𝒱₀ (c : Thread nD τ) none) Set.univ).trans ?_
  refine (wp_mono frame (wpE (defs₀ (F := F)) 𝒱₀ (c : Thread nD τ) none) Set.univ (fun _ => end_post m ρ c)).trans ?_
  exact wp_fupd frame (wpE (defs₀ (F := F)) 𝒱₀ (c : Thread nD τ) none) Set.univ _ _

set_option maxRecDepth 4000 in
/-- The library's obligation on a device's body. -/
theorem body_obligation (c : Dev nD) : BodyObligation (dats (F := F) m ρ 0 c) (defs₀ (F := F)) 𝒱₀ (0 : ℕ) Set.univ := fun t => by
  rw [fin_N t]
  rw [bigSep_W, bigSep_W]
  simp only [owns_whole_eq]
  exact sound_body m ρ c

end Launch
end Cert.KernelIdeal.Ring
-- ==== Proof.KernelIdealLaunch.lean ====
/-
# The kernel's run

The launch: every execution ends with the operands unchanged, the result computed and the counters at zero.
-/
module

public import proofs.«01_k».proof.Proof.KernelIdealPoint
public import Idealize.ShloMosaic.Lib.Pipeline.Kit
public import Idealize.ShloMosaic.Lib.Tactic
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)
variable {F : FTy → Type} [FloatOps F]

local notation "𝕄" => MT nD τ sig ℕ (Elt F) ℕ UU ℕ

section Launch
variable (m : (ℓ : Loc nD τ sig) → Buf (Elt F) ℓ) (ρ : Dev nD → PrngReg)

/-! ## The launch's side conditions -/

theorem ownSemFacts : Pipeline.OwnSemFacts cfg0.spec osem := by decide
theorem share_eq (c : Dev nD) (w : Fin cfg0.W) : (dats m ρ 0 c).share w = fullShare := by unfold Dat.share; split <;> rfl

/-- A staging cell lies below everything a device owes at the start. -/
theorem mayWait_stage (c : Dev nD) (q : DmaSem sig) (hq : q.val < 5) (O : CellTallies nD τ sig ℕ) (hO : O = O₀ c ∨ O = 0) :
    (levAts L lv : sProp 𝕄) ⊢ MayWait (c : Thread nD τ) (.dma q) 0 O := by
  rcases hO with rfl | rfl
  · have key : ∀ g u, 0 < O₀ c g u → u ∈ L g ∧ 0 < lv g u := fun g u hg => by
      have hg' : 0 < oweL c sendsAll g u + tallyAt (barC (nxt c)) 0 1 g u + tallyAt (barC (prv c)) 0 1 g u := hg
      have hc : 0 < oweL c sendsAll g u ∨ 0 < tallyAt (barC (nxt c)) 0 1 g u ∨ 0 < tallyAt (barC (prv c)) 0 1 g u := by omega
      rcases hc with h | h | h
      · obtain ⟨μ, hμ, rfl, rfl⟩ := oweL_pos h
        rw [L_tc, lv_r]
        exact ⟨Finset.mem_range.mpr (by have := (sendsAll_from μ hμ).2; omega), by omega⟩
      · obtain ⟨rfl, rfl⟩ := Pipeline.tallyAt_pos h
        rw [L_tc]; exact ⟨Finset.mem_range.mpr (by omega), Nat.one_pos⟩
      · obtain ⟨rfl, rfl⟩ := Pipeline.tallyAt_pos h
        rw [L_tc]; exact ⟨Finset.mem_range.mpr (by omega), Nat.one_pos⟩
    exact MayOwe.of_cut (L := L) (lev := lv) 0
      (fun p hp => by rw [Finset.mem_singleton.mp hp, L_tc]; exact Finset.mem_range.mpr (by omega))
      (fun g u hg => (key g u hg).1)
      (fun p hp => by
        rw [Finset.mem_singleton.mp hp]
        show (if 5 ≤ q.val ∧ roleOf q.val = 1 then 0 + 2 else 0) ≤ 0
        rw [if_neg fun h => by omega])
      (fun g u hg => (key g u hg).2)
  · rw [MayWait_zero]; iintro -; iempintro

theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    mayWait_stage c _ (by fin_cases w <;> fin_cases s <;> decide) _ (by
      rcases t with ⟨_ | _, ht⟩
      · exact Or.inl rfl
      · exact Or.inr rfl)

theorem St_intro (c : Dev nD) (φ : Fin 8) : iprop(St1 c φ ∗ Rk c φ 0) ⊢ (St c φ : sProp 𝕄) := by
  unfold St1 St
  iintro ⟨⟨⟨⟨S0, S1, S2⟩, R0, R1, R2⟩, T⟩, R⟩
  isplitl [R0]; · iexact R0
  isplitl [R1]; · iexact R1
  isplitl [R2]; · iexact R2
  isplitl [S0]; · iexact S0
  isplitl [S1]; · iexact S1
  isplitl [S2]; · iexact S2
  isplitl [T] <;> iassumption

theorem Bar_intro (c : Dev nD) : iprop(Bar1 c ∗ cred (tallyAt (barC c) 0 2)) ⊢ (Bar0 c : sProp 𝕄) := by
  unfold Bar1 Bar0
  iintro ⟨⟨A, B, C, D, E⟩, H⟩
  isplitl [A]; · iexact A
  isplitl [B]; · iexact B
  isplitl [C]; · iexact C
  isplitl [D]; · iexact D
  isplitl [E] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (XM m) (YM m) c)
      ⊢ (|={Set.univ}=> iprop(start m c ∗ emp) : sProp 𝕄) := by
  have e := BI.bigSep_sep' Finset.univ (fun φ : Fin 8 => (St1 c φ : sProp 𝕄)) (fun φ => Rk c φ 0)
  have h : iprop((bigSep Finset.univ fun φ : Fin 8 => (St1 c φ : sProp 𝕄)) ∗ bigSep Finset.univ fun φ : Fin 8 => Rk c φ 0)
      ⊢ (bigSep Finset.univ fun φ : Fin 8 => St c φ : sProp 𝕄) :=
    (Entails.of_eq e.symm).trans (BI.bigSep_mono fun φ _ => St_intro c φ)
  unfold start G' Rec
  iintro ⟨-, Hlev, Hcr, -, ⟨HI, HB, HS⟩⟩
  ihave Hc := (creds (F := F) c) $$ Hcr
  icases Hc with ⟨Hb, HR⟩
  imodintro
  isplitl
  · isplitl [HI Hlev]
    · isplitl [HI] <;> iassumption
    isplitl [HB Hb]
    · iapply (Bar_intro c)
      isplitl [HB] <;> iassumption
    iapply h
    isplitl [HS] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ Scr
  iintro ⟨Hr, Hz, Hb⟩
  isplitl [Hb]; · iexact Hb
  isplitl [Hz] <;> iassumption

/-! ## The run -/

/-- An array's contents after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters: every weakly fair execution of @main on the sixteen devices ends, each device's
    arrays hold what the library computes, and every counter is zero. -/
theorem run_lib : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (XM m) (YM m)) (G' := G' (XM m) (YM m)) (u₀ := u₀)
    (hu₀ := by
      unfold u₀
      iintro Hu
      ihave H := (ownU_pair _ _) $$ Hu
      icases H with ⟨HP, HX⟩
      imod (fund_ring (XM m) (YM m)) $$ HX with HG
      imodintro
      isplitl [HP] <;> iassumption)
    (hglob := glob (XM m) (YM m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays in closed form: the operands are unchanged, -/
theorem final_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

/-- and the result is what the body left. -/
theorem final_out (c : Dev nD) : finalA m ρ c (4 : Fin 5) = outM m c := by
  rw [← read_4 (finalA m ρ c (4 : Fin 5))]
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

/-- Every execution ends, with the operands unchanged, each device's result in place and the counters at zero. -/
theorem run_main : θ_run defs (onTc (τ := τ) (main (F := F))) ⟨m, fun _ => 0, ρ⟩ (fun r => (∀ c : Dev nD,
      r.2.mem ((c : Thread nD τ).loc main_v1) = outM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨(h.1 c (4 : Fin 5)).trans (final_out m ρ c),
    (h.1 c (0 : Fin 5)).trans (final_in m ρ c (0 : Fin 5) rfl), (h.1 c (1 : Fin 5)).trans (final_in m ρ c (1 : Fin 5) rfl),
    (h.1 c (2 : Fin 5)).trans (final_in m ρ c (2 : Fin 5) rfl), (h.1 c (3 : Fin 5)).trans (final_in m ρ c (3 : Fin 5) rfl)⟩, h.2⟩) (run_lib m ρ)

end Launch
end Cert.KernelIdeal.Ring
-- ==== Proof.KernelIdealSum.lean ====
/-
# What the kernel adds up

At the ideal instance every device adds each device's product once, so that all of them hold the whole contraction.
-/
module

public import proofs.«01_k».proof.Proof.KernelIdealFinish
public import Idealize.ShloMosaic.Lib.MatmulPlain
public import Idealize.ShloMosaic.Lib.Layout
public import Idealize.ShloMosaic.Lib.ValueLayout
public import Idealize.ShloMosaic.Lib.Pipeline.Value
public import Idealize.ShloMosaic.PureOps.Ideal.Laws

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open scoped BigOperators
open Idealize.ShloMosaic.ValueIdx
variable {F : FTy → Type} [FloatOps F]

local notation "𝕄" => MT nD τ sig ℕ (Elt F) ℕ UU ℕ

section Value
variable (X : Dev nD → S4096x256.Idx → EReal) (Y : Dev nD → S256x2048.Idx → EReal)

/-- The product of the two blocks of device `d`, at one position. -/
def blockAt (a : Fin 4096) (b : Fin 2048) (d : Dev nD) : EReal := ∑ k : Fin 256, X d (ix2 a k) * Y d (ix2 k b)

theorem zero_at {s : Shape} (i : s.Idx) : (constant (F := Ideal) s .f32 0x00000000#32 : FVec Ideal s .f32) i = (0 : EReal) := Ideal.ofBits_zero_f32

theorem dot256_at (x : FVec Ideal S4096x256 .fp8e4m3) (w : FVec Ideal S256x2048 .fp8e5m2) (a : Fin 4096) (b : Fin 2048) :
    matmul dot_S4096x256_S256x2048_S4096x2048_1_0_0_1_n_n none x w (constant S4096x2048 .f32 0x00000000#32) (ix2 a b)
      = ∑ k : Fin 256, x (ix2 a k) * w (ix2 k b) := by
  refine (Ideal.matmul_plain_apply (M := 4096) (K := 256) (N := 2048) none x w (constant S4096x2048 .f32 0x00000000#32) a b).trans ?_
  rw [zero_at, zero_add]
theorem dot512_at (x : FVec Ideal S4096x512 .fp8e4m3) (w : FVec Ideal S512x2048 .fp8e5m2) (a : Fin 4096) (b : Fin 2048) :
    matmul dot_S4096x512_S512x2048_S4096x2048_1_0_0_1_n_n none x w (constant S4096x2048 .f32 0x00000000#32) (ix2 a b)
      = ∑ k : Fin 512, x (ix2 a k) * w (ix2 k b) := by
  refine (Ideal.matmul_plain_apply (M := 4096) (K := 512) (N := 2048) none x w (constant S4096x2048 .f32 0x00000000#32) a b).trans ?_
  rw [zero_at, zero_add]

/-- The first product, a slot's and the last one. -/
theorem own_at (c : Dev nD) (n : ℕ) (a : Fin 4096) (b : Fin 2048) :
    (∑ k : Fin 256, (shapeCast S4096x256 (VXr (F := Ideal) X c n) shapeCasts_S1x4096x256_S4096x256 (ix2 a k) : EReal)
      * shapeCast S256x2048 (VWr (F := Ideal) Y c n) shapeCasts_S1x256x2048_S256x2048 (ix2 k b)) = blockAt X Y a b (prv^[n] c) := by
  refine Finset.sum_congr rfl fun k _ => ?_
  rw [shapeCast_1ab_ab_apply, shapeCast_1ab_ab_apply]
  rfl

theorem slot_at (c : Dev nD) (n : ℕ) (a : Fin 4096) (b : Fin 2048) :
    (∑ k : Fin 512, (shapeCast S4096x512 (VX (F := Ideal) X c n) shapeCasts_S1x4096x512_S4096x512 (ix2 a k) : EReal)
      * shapeCast S512x2048 (VW (F := Ideal) Y c n) shapeCasts_S1x512x2048_S512x2048 (ix2 k b))
      = blockAt X Y a b (prv^[n] c) + blockAt X Y a b (nxt^[n] c) := by
  rw [show (∑ k : Fin 512, (shapeCast S4096x512 (VX (F := Ideal) X c n) shapeCasts_S1x4096x512_S4096x512 (ix2 a k) : EReal)
      * shapeCast S512x2048 (VW (F := Ideal) Y c n) shapeCasts_S1x512x2048_S512x2048 (ix2 k b))
      = ∑ k : Fin (256 + 256), (bx (F := Ideal) X c n a k : EReal) * bw (F := Ideal) Y c n k b from Finset.sum_congr rfl fun k _ => by
        rw [shapeCast_1ab_ab_apply, shapeCast_1ab_ab_apply]; rfl]
  rw [Fin.sum_univ_add]
  refine congrArg₂ (fun p q : EReal => p + q) ?_ ?_
  · refine Finset.sum_congr rfl fun k _ => ?_
    have h : (Fin.castAdd 256 k).val < 256 := k.isLt
    unfold bx bw
    rw [dif_pos h, dif_pos h]
    rfl
  · refine Finset.sum_congr rfl fun k _ => ?_
    have h : ¬ (Fin.natAdd 256 k).val < 256 := by rw [Fin.val_natAdd]; omega
    have e : (⟨(Fin.natAdd 256 k).val - 256, by rw [Fin.val_natAdd]; omega⟩ : Fin 256) = k := Fin.ext (by show 256 + k.val - 256 = k.val; omega)
    unfold bx bw
    rw [dif_neg h, dif_neg h]
    show (X (nxt^[n] c) (ix2 a (⟨(Fin.natAdd 256 k).val - 256, _⟩ : Fin 256)) : EReal) * Y (nxt^[n] c) (ix2 (⟨(Fin.natAdd 256 k).val - 256, _⟩ : Fin 256) b) = _
    rw [e]

theorem acc_zero (c : Dev nD) (a : Fin 4096) (b : Fin 2048) : (acc (F := Ideal) X Y c 0 (ix2 a b) : EReal) = blockAt X Y a b c := by
  refine Eq.trans ?_ (own_at X Y c 0 a b)
  exact dot256_at _ _ a b

theorem acc_succ (c : Dev nD) (t : ℕ) (a : Fin 4096) (b : Fin 2048) : (acc (F := Ideal) X Y c (t + 1) (ix2 a b) : EReal)
    = (acc (F := Ideal) X Y c t (ix2 a b) : EReal) + (blockAt X Y a b (prv^[t + 1] c) + blockAt X Y a b (nxt^[t + 1] c)) := by
  rw [← slot_at X Y c (t + 1) a b, ← dot512_at]
  show (shapeCast S4096x2048 (acc (F := Ideal) X Y c t) shapeCasts_S4096x2048_S4096x2048 (ix2 a b) : EReal) + _ = _
  rw [shapeCast_self]

/-- What a device has added when it scales: every device's product once. -/
def total (c : Dev nD) (a : Fin 4096) (b : Fin 2048) : EReal :=
  (acc (F := Ideal) X Y c 6 (ix2 a b) : EReal) + (blockAt X Y a b (prv^[7] c) + blockAt X Y a b (nxt^[7] c)) + blockAt X Y a b (prv^[8] c)

theorem out_at (c : Dev nD) (sx sw : S1.Idx → EReal) (a : Fin 4096) (b : Fin 2048) :
    (outV (F := Ideal) X Y c sx sw (ix2 a b) : EReal) = max (total X Y c a b * (sx s0 * sw s0)) 0 := by
  unfold total
  rw [← slot_at X Y c 7 a b, ← own_at X Y c 8 a b, ← dot512_at, ← dot256_at, ← Ideal.ofBits_zero_f32]
  show max (((shapeCast S4096x2048 (k0_pay9 (k0_pay8 (acc (F := Ideal) X Y c 6)) (VX (F := Ideal) X c 7) (VW (F := Ideal) Y c 7)) shapeCasts_S4096x2048_S4096x2048 (ix2 a b) : EReal) + _) * _) _ = _
  rw [shapeCast_self]
  show max ((((shapeCast S4096x2048 (acc (F := Ideal) X Y c 6) shapeCasts_S4096x2048_S4096x2048 (ix2 a b) : EReal) + _) + _) * _) _ = _
  rw [shapeCast_self]
  rfl

/-- The devices a device hears from, itself first: all of them. -/
def heard (c : Dev nD) : List (Fin 16) :=
  [c, prv^[1] c, nxt^[1] c, prv^[2] c, nxt^[2] c, prv^[3] c, nxt^[3] c, prv^[4] c, nxt^[4] c, prv^[5] c, nxt^[5] c,
    prv^[6] c, nxt^[6] c, prv^[7] c, nxt^[7] c, prv^[8] c]
theorem heard_all (c : Dev nD) : (heard c).Perm (List.finRange 16) := by revert c; decide

theorem total_eq (c : Dev nD) (a : Fin 4096) (b : Fin 2048) : total X Y c a b = ∑ d : Fin 16, blockAt X Y a b d := by
  rw [Fin.sum_univ_def, ← ((heard_all c).map (blockAt X Y a b)).sum_eq]
  unfold total
  rw [acc_succ, acc_succ, acc_succ, acc_succ, acc_succ, acc_succ, acc_zero]
  show _ = List.sum [_, _, _, _, _, _, _, _, _, _, _, _, _, _, _, _]
  simp only [List.sum_cons, List.sum_nil, add_zero, add_assoc]

/-- With the operands cut from whole arrays: the whole contraction. -/
theorem total_whole (x : (⟨2, ![4096, 4096]⟩ : Shape).Idx → EReal) (w : (⟨2, ![4096, 2048]⟩ : Shape).Idx → EReal)
    (hX : ∀ c : Fin 16, X c = Layout.block ⟨2, ![4096, 256]⟩ ⟨2, ![4096, 4096]⟩ 1 16 c x)
    (hY : ∀ c : Fin 16, Y c = Layout.block ⟨2, ![256, 2048]⟩ ⟨2, ![4096, 2048]⟩ 0 16 c w) (c : Dev nD) (a : Fin 4096) (b : Fin 2048) :
    total X Y c a b = ∑ k : Fin 4096, x (ix2 a k) * w (ix2 k b) := by
  rw [total_eq, ← Equiv.sum_comp (finProdFinEquiv (m := 16) (n := 256)) (fun k : Fin 4096 => x (ix2 a k) * w (ix2 k b)), Fintype.sum_prod_type]
  refine Finset.sum_congr rfl fun d _ => Finset.sum_congr rfl fun k _ => ?_
  rw [hX d, hY d, Layout.block_apply, Layout.block_apply]
  congr 2
  · funext i; apply Fin.ext
    match i with
    | ⟨0, _⟩ => rfl
    | ⟨1, _⟩ => show d.val * 256 + k.val = k.val + 256 * d.val; omega
  · funext i; apply Fin.ext
    match i with
    | ⟨0, _⟩ => show d.val * 256 + k.val = k.val + 256 * d.val; omega
    | ⟨1, _⟩ => rfl

end Value
end Cert.KernelIdeal.Ring
-- ==== Proof.ReferenceSum.lean ====
/-
# What the reference computes

The reference's run with its result in closed form: the contraction, scaled, not below zero.
-/
module

public import proofs.«01_k».proof.Proof.Gen.ReferenceIdeal.Value
public import Idealize.ShloMosaic.Lib.MatmulPlain
public import Idealize.ShloMosaic.Lib.Pipeline.Value
public import Idealize.ShloMosaic.PureOps.Ideal.Laws
public import Idealize.ShloMosaic.Lib.Tactic

@[expose] public section

noncomputable section

namespace Cert.ReferenceIdeal.Sum

open Cert.ReferenceIdeal Cert.ReferenceIdeal.Gen Cert.ReferenceIdeal.Value Idealize.ShloMosaic Idealize.ShloMosaic.TcCoe Idealize.SL.Sem
open Idealize.ShloMosaic.Pipeline (Dat)
open Idealize.ShloMosaic.ValueIdx
open scoped BigOperators

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-- The only position of a scale. -/
def s0 : S1.Idx := ix1 (0 : Fin 1)

theorem ld_one (x : Vec F S1 .f32) (i) : View.ld x (Rect.unit ![0] ![1] inb_S1_S1_0) i = x s0 :=
  congrArg x (funext fun a => Fin.ext (by
    match a with
    | ⟨0, _⟩ => exact Nat.lt_one_iff.mp (Fin.isLt _)))

/-- The body leaves the stored value. -/
theorem out_A (c : Dev nD) (a0 : Memref sig .tc .vmem S4096x4096 .fp8e4m3) (h0 : a0.IsWhole) (a1 : Memref sig .tc .vmem S4096x2048 .fp8e5m2) (h1 : a1.IsWhole)
    (a2 : Memref sig .tc .smem S1 .f32) (h2 : a2.IsWhole) (a3 : Memref sig .tc .smem S1 .f32) (h3 : a3.IsWhole) (a4 : Memref sig .tc .vmem S4096x2048 .f32) (h4 : a4.IsWhole)
    (x0 : Vec F S4096x4096 .fp8e4m3) (x1 : Vec F S4096x2048 .fp8e5m2) (x2 : Vec F S1 .f32) (x3 : Vec F S1 .f32) :
    out0_A_4 c a0 h0 a1 h1 a2 h2 a3 h3 a4 h4 x0 x1 x2 x3 = k0_pay1 x0 x1 (x2 s0) (x3 s0) := by
  unfold out0_A_4
  rw [View.read_writes_eq_canon _ _ _ (cover0_A_4 c a0 h0 a1 h1 a2 h2 a3 h3 a4 h4 x0 x1 x2 x3)]
  unfold kernelRun0_A
  dsimp only
  sl_unfold_words
  rw [View.canon_unit_zero hz]
  simp only [View.readAt_eq_ld, h0.read_unread, h1.read_unread, h2.read_unread, h3.read_unread, View.ld_unit_zero (S := S4096x4096) hz, View.ld_unit_zero (S := S4096x2048) hz]
  rw [ld_one, ld_one]

/-- What the array holds in the end. -/
def result (c : Dev nD) : S4096x2048.Idx → Elt F .f32 :=
  k0_pay1 (m ((c : Thread nD τ).loc main_arg0)) (m ((c : Thread nD τ).loc main_arg1)) (m ((c : Thread nD τ).loc main_arg2) s0) (m ((c : Thread nD τ).loc main_arg3) s0)

/-- A window's one block is the whole array. -/
theorem read_0 (f : (main_arg0 : Ref sig .tc).ty.Contents (Elt F)) : (win0_0.blk (0 : Fin 1)).view.read (Elt F) f = f := by
  funext j
  show f ((win0_0.rect (0 : Fin 1)).emb j) = f j
  refine congrArg f (funext fun a => Fin.ext ?_)
  rw [Rect.emb_apply]
  show 0 * _ + 1 * (j a).val = (j a).val
  omega
theorem read_1 (f : (main_arg1 : Ref sig .tc).ty.Contents (Elt F)) : (win0_1.blk (0 : Fin 1)).view.read (Elt F) f = f := by
  funext j
  show f ((win0_1.rect (0 : Fin 1)).emb j) = f j
  refine congrArg f (funext fun a => Fin.ext ?_)
  rw [Rect.emb_apply]
  show 0 * _ + 1 * (j a).val = (j a).val
  omega
theorem read_2 (f : (main_arg2 : Ref sig .tc).ty.Contents (Elt F)) : (win0_2.blk (0 : Fin 1)).view.read (Elt F) f = f := by
  funext j
  show f ((win0_2.rect (0 : Fin 1)).emb j) = f j
  refine congrArg f (funext fun a => Fin.ext ?_)
  rw [Rect.emb_apply]
  show 0 * _ + 1 * (j a).val = (j a).val
  omega
theorem read_3 (f : (main_arg3 : Ref sig .tc).ty.Contents (Elt F)) : (win0_3.blk (0 : Fin 1)).view.read (Elt F) f = f := by
  funext j
  show f ((win0_3.rect (0 : Fin 1)).emb j) = f j
  refine congrArg f (funext fun a => Fin.ext ?_)
  rw [Rect.emb_apply]
  show 0 * _ + 1 * (j a).val = (j a).val
  omega
theorem read_4 (f : (main_v0 : Ref sig .tc).ty.Contents (Elt F)) : (win0_4.blk (0 : Fin 1)).view.read (Elt F) f = f := by
  funext j
  show f ((win0_4.rect (0 : Fin 1)).emb j) = f j
  refine congrArg f (funext fun a => Fin.ext ?_)
  rw [Rect.emb_apply]
  show 0 * _ + 1 * (j a).val = (j a).val
  omega

theorem flushed_eq (c : Dev nD) : (dats m 0 c).flushed 4 t0_0 = result m c := by
  rw [flushed4_A, out_A]
  show k0_pay1 (iblk m c 0 t0_0) (iblk m c 1 t0_0) (iblk m c 2 t0_0 s0) (iblk m c 3 t0_0 s0) = _
  rw [show iblk m c 0 t0_0 = _ from read_0 (V m c main_arg0), show iblk m c 1 t0_0 = _ from read_1 (V m c main_arg1),
    show iblk m c 2 t0_0 = _ from read_2 (V m c main_arg2), show iblk m c 3 t0_0 = _ from read_3 (V m c main_arg3)]
  rw [V_main_arg0, V_main_arg1, V_main_arg2, V_main_arg3]
  rfl

theorem final (c : Dev nD) : (dats m 0 c).arrAt 4 cfg0.N = result m c := by
  rw [← read_4 ((dats m 0 c).arrAt 4 cfg0.N), ← flushed_eq]
  exact blocks4 m c t0_0 (by decide)

/-- The reference's run with its result named. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

/-- The stored value at the ideal instance. -/
theorem value_at (x : S4096x4096.Idx → EReal) (w : S4096x2048.Idx → EReal) (sx sw : EReal) (a : Fin 4096) (b : Fin 2048) :
    (k0_pay1 (F := Ideal) x w sx sw (ix2 a b) : EReal) = max ((∑ k : Fin 4096, x (ix2 a k) * w (ix2 k b)) * (sx * sw)) 0 := by
  have h : (matmul (F := Ideal) (φ₁ := .fp8e4m3) (φ₂ := .fp8e5m2) dot_S4096x4096_S4096x2048_S4096x2048_1_0_0_1_n_n none x w (constant S4096x2048 .f32 0x00000000#32) (ix2 a b) : EReal)
      = ∑ k : Fin 4096, x (ix2 a k) * w (ix2 k b) := by
    refine (Ideal.matmul_plain_apply (M := 4096) (K := 4096) (N := 2048) (φ₁ := .fp8e4m3) (φ₂ := .fp8e5m2) none x w (constant S4096x2048 .f32 0x00000000#32) a b).trans ?_
    rw [show (constant (F := Ideal) S4096x2048 .f32 0x00000000#32 : FVec Ideal S4096x2048 .f32) (ix2 a b) = (0 : EReal) from Ideal.ofBits_zero_f32, zero_add]
  rw [← h, ← Ideal.ofBits_zero_f32]
  rfl

end Cert.ReferenceIdeal.Sum
-- ==== Proof.Value.lean ====
/-
# The value claim

On every device the kernel leaves what the reference leaves.
-/
module

public import proofs.«01_k».proof.Defs
public import proofs.«01_k».proof.Proof.Gen.KernelIdeal
public import proofs.«01_k».proof.Proof.Gen.ReferenceIdeal
public import proofs.«01_k».proof.Proof.KernelIdealLaunch
public import proofs.«01_k».proof.Proof.KernelIdealSum
public import proofs.«01_k».proof.Proof.ReferenceSum

@[expose] public section

noncomputable section

namespace Cert.Proof

open Idealize.ShloMosaic Idealize.SL.Sem
open Idealize.ShloMosaic.ValueIdx

/-- From operands that are the blocks of the reference's, every device's result is the reference's whole result. -/
theorem algebraic : Cert.algebraic_KernelIdeal_ReferenceIdeal := by
  intro m g m' g' _ h
  refine ⟨Cert.ReferenceIdeal.Sum.result m' 0, (θ_run Cert.KernelIdeal.defs _ _).mono (fun r hr c => ?_) (Cert.KernelIdeal.Ring.run_main m g),
    (θ_run Cert.ReferenceIdeal.defs _ _).mono (fun r hr => hr 0) (Cert.ReferenceIdeal.Sum.run m' g')⟩
  obtain ⟨hv, ha⟩ := hr.1 c
  refine ⟨hv.trans ?_, ha⟩
  funext i
  obtain ⟨a, b, rfl⟩ : ∃ (a : Fin 4096) (b : Fin 2048), i = ix2 a b := ⟨i 0, i 1, eq_ix2 i⟩
  have e2 := (h c).2.2.1
  have e3 := (h c).2.2.2
  refine (Cert.KernelIdeal.Ring.out_at (Cert.KernelIdeal.Ring.XM m) (Cert.KernelIdeal.Ring.YM m) c (Cert.KernelIdeal.Ring.sxM m c) (Cert.KernelIdeal.Ring.swM m c) a b).trans ?_
  rw [Cert.KernelIdeal.Ring.total_whole (Cert.KernelIdeal.Ring.XM m) (Cert.KernelIdeal.Ring.YM m) _ _ (fun c => (h c).1) (fun c => (h c).2.1) c a b]
  refine Eq.trans ?_ (Cert.ReferenceIdeal.Sum.value_at _ _ _ _ a b).symm
  unfold Cert.KernelIdeal.Ring.sxM Cert.KernelIdeal.Ring.swM
  rw [e2, e3]
  rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.KernelLaunch
public import proofs.«01_k».proof.Proof.KernelIdealLaunch
public import proofs.«01_k».proof.Proof.Value

@[expose] public section

noncomputable section

namespace Cert.Proof

open Idealize.ShloMosaic Idealize.SL.Sem

/-- The kernel ends without fault at the machine's floats, its arguments unchanged and every counter at zero. -/
theorem frame_kernel : Cert.quiescent_Kernel := fun m ρ _ =>
  (θ_run Cert.Kernel.defs _ _).mono (fun _ h => ⟨fun c => (h.1 c).2, h.2⟩) (Cert.Kernel.Ring.run_main (F := Bits) m ρ)

/-- The same over the extended reals. -/
theorem frame_ideal : Cert.quiescent_KernelIdeal := fun m ρ _ =>
  (θ_run Cert.KernelIdeal.defs _ _).mono (fun _ h => ⟨fun c => (h.1 c).2, h.2⟩) (Cert.KernelIdeal.Ring.run_main (F := Ideal) m ρ)

/-- The reference ends without fault, its arguments unchanged and every counter at zero. -/
theorem frame_reference : Cert.quiescent_ReferenceIdeal := fun m ρ _ => Cert.ReferenceIdeal.Gen.frame m ρ

/-- All the claims together. -/
theorem claim : Cert.Claim := ⟨Cert.Kernel.Gen.facts, Cert.KernelIdeal.Gen.facts, Cert.ReferenceIdeal.Gen.facts,
  frame_kernel, frame_ideal, frame_reference, trivial, algebraic⟩

end Cert.Proof

end
